-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_negatable [hPre_lens_negatable : Cert.Pre_lens_negatable.Facts] (m : (ℓ : Loc Cert.KernelIdeal.nD Cert.KernelIdeal.τ Cert.KernelIdeal.sig) → Buf (Elt Ideal) ℓ) : Prop :=
  ∀ c : Dev Cert.KernelIdeal.nD,
    (Cert.Pre_lens_negatable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_negatable [hPre_lens_negatable : Cert.Pre_lens_negatable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_negatable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_lens_negatable [hKernelIdeal : Cert.KernelIdeal.Facts] [hPre_lens_negatable : Cert.Pre_lens_negatable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_negatable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_lens_negatable [hReferenceIdeal : Cert.ReferenceIdeal.Facts] [hPre_lens_negatable : Cert.Pre_lens_negatable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_negatable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_lens_negatable [hKernelIdeal : Cert.KernelIdeal.Facts] [hReferenceIdeal : Cert.ReferenceIdeal.Facts] [hPre_lens_negatable : Cert.Pre_lens_negatable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_negatable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_lens_negatable : Cert.Pre_lens_negatable.Facts),
    quiescent_Kernel (hKernel := hKernel)
    ∧ quiescent_KernelIdeal (hKernelIdeal := hKernelIdeal)
    ∧ quiescent_KernelIdeal_pre_lens_negatable (hKernelIdeal := hKernelIdeal) (hPre_lens_negatable := hPre_lens_negatable)
    ∧ quiescent_ReferenceIdeal (hReferenceIdeal := hReferenceIdeal)
    ∧ quiescent_ReferenceIdeal_pre_lens_negatable (hReferenceIdeal := hReferenceIdeal) (hPre_lens_negatable := hPre_lens_negatable)
    ∧ preserves_Kernel_KernelIdeal
    ∧ algebraic_KernelIdeal_ReferenceIdeal_pre_lens_negatable (hKernelIdeal := hKernelIdeal) (hReferenceIdeal := hReferenceIdeal) (hPre_lens_negatable := hPre_lens_negatable)
-- ==== Pre_lens_negatable.lean ====
abbrev S16x2048x64 : Shape := ⟨3, ![16, 2048, 64]⟩
abbrev S16 : Shape := ⟨1, ![16]⟩
abbrev S64x64 : Shape := ⟨2, ![64, 64]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x2048x64 .f32) (main_arg1 : IVec S16 32) (main_arg2 : FVec F S64x64 .f32) : IVec S16 1 :=
  let main_c : IVec S_ 32 := constantI S_ 32 2147483648#32
  let main_v0 : IVec S16 32 := broadcastInDim S16 ![] bcast_S_S16 main_c
  let main_v1 : IVec S16 1 := cmpi .sgt main_arg1 main_v0
  main_v1
-- ==== Kernel.lean ====
abbrev S16x2048x64 : Shape := ⟨3, ![16, 2048, 64]⟩
abbrev S16 : Shape := ⟨1, ![16]⟩
abbrev S64x64 : Shape := ⟨2, ![64, 64]⟩
abbrev S_ : Shape := ⟨0, ![]⟩
abbrev S16x1 : Shape := ⟨2, ![16, 1]⟩
abbrev S2048x16x64 : Shape := ⟨3, ![2048, 16, 64]⟩
abbrev S2048x16x1 : Shape := ⟨3, ![2048, 16, 1]⟩
abbrev S2048x16 : Shape := ⟨2, ![2048, 16]⟩
abbrev S16x2048 : Shape := ⟨2, ![16, 2048]⟩
abbrev S8x16x64 : Shape := ⟨3, ![8, 16, 64]⟩
abbrev S8x64 : Shape := ⟨2, ![8, 64]⟩
abbrev S1 : Shape := ⟨1, ![1]⟩
abbrev S8x1 : Shape := ⟨2, ![8, 1]⟩
abbrev S1x8x64 : Shape := ⟨3, ![1, 8, 64]⟩
abbrev S8x1x64 : Shape := ⟨3, ![8, 1, 64]⟩
abbrev S1x64x64 : Shape := ⟨3, ![1, 64, 64]⟩
abbrev S8x64x64 : Shape := ⟨3, ![8, 64, 64]⟩
abbrev S16x64 : Shape := ⟨2, ![16, 64]⟩
abbrev S1x64 : Shape := ⟨2, ![1, 64]⟩
abbrev S64 : Shape := ⟨1, ![64]⟩
abbrev S1x16x1 : Shape := ⟨3, ![1, 16, 1]⟩
abbrev S1x16x64 : Shape := ⟨3, ![1, 16, 64]⟩

abbrev nBuf : Space → Nat
  | .hbm => 55
  | .vmem => 15
  | .smem => 1
  | _ => 0

abbrev bufTy : (tb : Table) → Fin (tcTables nBuf tb) → BufTy
  | .hbm, ⟨0, _⟩ => ⟨S16x2048x64, .f32⟩
  | .hbm, ⟨1, _⟩ => ⟨S16, .i32⟩
  | .hbm, ⟨2, _⟩ => ⟨S64x64, .f32⟩
  | .hbm, ⟨3, _⟩ => ⟨S16, .i32⟩
  | .hbm, ⟨4, _⟩ => ⟨S16, .i32⟩
  | .hbm, ⟨5, _⟩ => ⟨S16, .i32⟩
  | .hbm, ⟨6, _⟩ => ⟨S16, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S16x1, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S16x2048x64, .f32⟩
  | .hbm, ⟨28, _⟩ => ⟨S2048x16x64, .f32⟩
  | .hbm, ⟨29, _⟩ => ⟨S16x1, .i32⟩
  | .hbm, ⟨30, _⟩ => ⟨S2048x16x64, .f32⟩
  | .hbm, ⟨31, _⟩ => ⟨S16x1, .f32⟩
  | .hbm, ⟨32, _⟩ => ⟨S16x1, .i32⟩
  | .hbm, ⟨33, _⟩ => ⟨S2048x16x1, .i32⟩
  | .hbm, ⟨34, _⟩ => ⟨S16, .f32⟩
  | .hbm, ⟨35, _⟩ => ⟨S_, .i32⟩
  | .hbm, ⟨36, _⟩ => ⟨S16, .i32⟩
  | .hbm, ⟨37, _⟩ => ⟨S16, .i1⟩
  | .hbm, ⟨38, _⟩ => ⟨S_, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S16x1, .i32⟩
  | .hbm, ⟨43, _⟩ => ⟨S16, .f32⟩
  | .hbm, ⟨44, _⟩ => ⟨S2048x16, .i32⟩
  | .hbm, ⟨45, _⟩ => ⟨S16x2048, .i32⟩
  | .hbm, ⟨46, _⟩ => ⟨S_, .i32⟩
  | .hbm, ⟨47, _⟩ => ⟨S16, .i32⟩
  | .hbm, ⟨48, _⟩ => ⟨S16, .i1⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S16, .i32⟩
  | .hbm, ⟨53, _⟩ => ⟨S16x1, .i32⟩
  | .hbm, ⟨54, _⟩ => ⟨S16x2048, .i32⟩
  | .local _ .vmem, ⟨0, _⟩ => ⟨S16x1, .i32⟩
  | .local _ .vmem, ⟨1, _⟩ => ⟨S8x16x64, .f32⟩
  | .local _ .vmem, ⟨2, _⟩ => ⟨S8x16x64, .f32⟩
  | .local _ .vmem, ⟨3, _⟩ => ⟨S64x64, .f32⟩
  | .local _ .vmem, ⟨4, _⟩ => ⟨S8x16x64, .f32⟩
  | .local _ .vmem, ⟨5, _⟩ => ⟨S8x16x64, .f32⟩
  | .local _ .vmem, ⟨6, _⟩ => ⟨S16x1, .f32⟩
  | .local _ .vmem, ⟨7, _⟩ => ⟨S16x1, .i32⟩
  | .local _ .vmem, ⟨8, _⟩ => ⟨S8x64, .f32⟩
  | .local _ .vmem, ⟨9, _⟩ => ⟨S8x64, .f32⟩
  | .local _ .vmem, ⟨10, _⟩ => ⟨S2048x16x64, .f32⟩
  | .local _ .vmem, ⟨11, _⟩ => ⟨S64x64, .f32⟩
  | .local _ .vmem, ⟨12, _⟩ => ⟨S16x1, .i32⟩
  | .local _ .vmem, ⟨13, _⟩ => ⟨S16x1, .i32⟩
  | .local _ .vmem, ⟨14, _⟩ => ⟨S2048x16x1, .i32⟩
  | .local _ .smem, ⟨0, _⟩ => ⟨S16, .i32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_call0_v0 : Ref sig .tc := ⟨.hbm, 4, rfl⟩
abbrev main_call0_call0_v1_0 : Ref sig .tc := ⟨.hbm, 5, rfl⟩
abbrev main_call0_v1 : Ref sig .tc := ⟨.hbm, 6, rfl⟩
abbrev main_call0_call1_v0 : Ref sig .tc := ⟨.hbm, 7, rfl⟩
abbrev main_call0_call1_v1_0 : Ref sig .tc := ⟨.hbm, 8, rfl⟩
abbrev main_call0_v2 : Ref sig .tc := ⟨.hbm, 9, rfl⟩
abbrev main_call0_c : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_c_1 : Ref sig .tc := ⟨.hbm, 19, rfl⟩
abbrev main_call0_v10 : Ref sig .tc := ⟨.hbm, 20, rfl⟩
abbrev main_call0_v11 : Ref sig .tc := ⟨.hbm, 21, rfl⟩
abbrev main_call0_c_2 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19_0 : Ref sig .tc := ⟨.hbm, 30, rfl⟩
abbrev main_call0_v19_1 : Ref sig .tc := ⟨.hbm, 31, rfl⟩
abbrev main_call0_v19_2 : Ref sig .tc := ⟨.hbm, 32, rfl⟩
abbrev main_call0_v20 : Ref sig .tc := ⟨.hbm, 33, rfl⟩
abbrev main_call0_v21 : Ref sig .tc := ⟨.hbm, 34, rfl⟩
abbrev main_call0_c_3 : Ref sig .tc := ⟨.hbm, 35, rfl⟩
abbrev main_call0_v22 : Ref sig .tc := ⟨.hbm, 36, rfl⟩
abbrev main_call0_v23 : Ref sig .tc := ⟨.hbm, 37, rfl⟩
abbrev main_call0_c_4 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_v0_0 : Ref sig .tc := ⟨.hbm, 43, rfl⟩
abbrev main_call0_v29 : Ref sig .tc := ⟨.hbm, 44, rfl⟩
abbrev main_call0_v30 : Ref sig .tc := ⟨.hbm, 45, rfl⟩
abbrev main_call0_c_5 : Ref sig .tc := ⟨.hbm, 46, rfl⟩
abbrev main_call0_v31 : Ref sig .tc := ⟨.hbm, 47, rfl⟩
abbrev main_call0_v32 : Ref sig .tc := ⟨.hbm, 48, rfl⟩
abbrev main_call0_c_6 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_v0_1 : Ref sig .tc := ⟨.hbm, 54, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13

abbrev nD : Nat := 1
abbrev τ : Topo := Topo.v7x

variable {F : FTy → Type} [FloatOps F]

abbrev grid0 : Pipeline.Grid := ⟨1, ![256], ![false]⟩

def k0_cond4 (i : grid0.Coords) : BitVec 1 :=
  let arg0 : BitVec 32 := BitVec.ofNat 32 (i 0).val
  let c255_i32 : BitVec 32 := 255#32
  let v15 : BitVec 1 := Scalar.cmpi .eq arg0 c255_i32
  let v16 : BitVec 32 := Scalar.extui v15
  let c0_i32_7 : BitVec 32 := 0#32
  let v17 : BitVec 1 := Scalar.cmpi .ne v16 c0_i32_7
  v17

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := .none

@[reducible] def k1_t1_loop : Scf.Loop 32 :=
  let c0_i32 : BitVec 32 := 0#32
  let c128_i32 : BitVec 32 := 128#32
  let v203 : BitVec 32 := Scalar.addi c0_i32 c128_i32
  let c1_i32 : BitVec 32 := 1#32
  ⟨c0_i32, v203, c1_i32⟩
def k1_off1 (k1_t1 : Fin k1_t1_loop.trips) (c0_i32_6 : BitVec 32) : Fin 3 → Nat :=
  let c2047_i32 : BitVec 32 := 2047#32
  let c0_i32 : BitVec 32 := 0#32
  let c1_i32 : BitVec 32 := 1#32
  let arg5 : BitVec 32 := Scf.iv c0_i32 c1_i32 k1_t1
  let c16_i32 : BitVec 32 := 16#32
  let v205 : BitVec 32 := Scalar.muli arg5 c16_i32
  let v206 : BitVec 32 := Scalar.subi c2047_i32 v205
  let v207 : BitVec 32 := Scalar.subi v206 c0_i32_6
  let v215 : Index := Scalar.indexCast v207
  let c0_7 : Index := 0#32
  let c0_8 : Index := 0#32
  ![v215.toNat, 0, 0]
def k1_off2 (k1_t1 : Fin k1_t1_loop.trips) (c0_i32_6 : BitVec 32) : Fin 3 → Nat :=
  let c2047_i32 : BitVec 32 := 2047#32
  let c0_i32 : BitVec 32 := 0#32
  let c1_i32 : BitVec 32 := 1#32
  let arg5 : BitVec 32 := Scf.iv c0_i32 c1_i32 k1_t1
  let c16_i32 : BitVec 32 := 16#32
  let v205 : BitVec 32 := Scalar.muli arg5 c16_i32
  let v206 : BitVec 32 := Scalar.subi c2047_i32 v205
  let v207 : BitVec 32 := Scalar.subi v206 c0_i32_6
  let v304 : Index := Scalar.indexCast v207
  let c0_17 : Index := 0#32
  let c0_18 : Index := 0#32
  ![v304.toNat, 0, 0]
abbrev stage1_0 : Fin 1 → Memref sig .tc .vmem S2048x16x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x16x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S16x2048x64 : Shape := ⟨3, ![16, 2048, 64]⟩
abbrev S16 : Shape := ⟨1, ![16]⟩
abbrev S64x64 : Shape := ⟨2, ![64, 64]⟩
abbrev S64 : Shape := ⟨1, ![64]⟩
abbrev S_ : Shape := ⟨0, ![]⟩
abbrev S1x64 : Shape := ⟨2, ![1, 64]⟩
abbrev S16x64 : Shape := ⟨2, ![16, 64]⟩
abbrev S2048x16x64 : Shape := ⟨3, ![2048, 16, 64]⟩
abbrev S2048 : Shape := ⟨1, ![2048]⟩
abbrev S1x16x64 : Shape := ⟨3, ![1, 16, 64]⟩
abbrev S1 : Shape := ⟨1, ![1]⟩
abbrev S16x1x64 : Shape := ⟨3, ![16, 1, 64]⟩
abbrev S1x64x64 : Shape := ⟨3, ![1, 64, 64]⟩
abbrev S16x64x64 : Shape := ⟨3, ![16, 64, 64]⟩
abbrev S16x1 : Shape := ⟨2, ![16, 1]⟩
abbrev S2048x16 : Shape := ⟨2, ![2048, 16]⟩
abbrev S16x1x1 : Shape := ⟨3, ![16, 1, 1]⟩
abbrev S1x16 : Shape := ⟨2, ![1, 16]⟩
abbrev S16x2048 : Shape := ⟨2, ![16, 2048]⟩

abbrev nBuf : Space → Nat
  | .hbm => 120
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16, .i32⟩
  | .hbm, ⟨2, _⟩ => ⟨S64x64, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S16x64, .f32⟩
  | .hbm, ⟨14, _⟩ => ⟨S2048x16x64, .f32⟩
  | .hbm, ⟨15, _⟩ => ⟨S2048, .i32⟩
  | .hbm, ⟨16, _⟩ => ⟨S_, .i32⟩
  | .hbm, ⟨17, _⟩ => ⟨S2048x16x64, .i32⟩
  | .hbm, ⟨18, _⟩ => ⟨S_, .i32⟩
  | .hbm, ⟨19, _⟩ => ⟨S2048x16x64, .f32⟩
  | .hbm, ⟨20, _⟩ => ⟨S2048, .i32⟩
  | .hbm, ⟨21, _⟩ => ⟨S64x64, .f32⟩
  | .hbm, ⟨22, _⟩ => ⟨S16, .i32⟩
  | .hbm, ⟨23, _⟩ => ⟨S_, .i32⟩
  | .hbm, ⟨24, _⟩ => ⟨S16x64, .f32⟩
  | .hbm, ⟨25, _⟩ => ⟨S2048x16x64, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x16x64, .f32⟩
  | .hbm, ⟨31, _⟩ => ⟨S16x64, .f32⟩
  | .hbm, ⟨32, _⟩ => ⟨S1, .i32⟩
  | .hbm, ⟨33, _⟩ => ⟨S_, .i32⟩
  | .hbm, ⟨34, _⟩ => ⟨S16x1x64, .f32⟩
  | .hbm, ⟨35, _⟩ => ⟨S1x64x64, .f32⟩
  | .hbm, ⟨36, _⟩ => ⟨S16x1x64, .f32⟩
  | .hbm, ⟨37, _⟩ => ⟨S16x64x64, .f32⟩
  | .hbm, ⟨38, _⟩ => ⟨S16x64x64, .f32⟩
  | .hbm, ⟨39, _⟩ => ⟨S16x64x64, .f32⟩
  | .hbm, ⟨40, _⟩ => ⟨S16x64x64, .i32⟩
  | .hbm, ⟨41, _⟩ => ⟨S_, .f32⟩
  | .hbm, ⟨42, _⟩ => ⟨S_, .i32⟩
  | .hbm, ⟨43, _⟩ => ⟨S16x64, .f32⟩
  | .hbm, ⟨44, _⟩ => ⟨S16x64, .i32⟩
  | .hbm, ⟨45, _⟩ => ⟨S_, .f32⟩
  | .hbm, ⟨46, _⟩ => ⟨S16x64, .f32⟩
  | .hbm, ⟨47, _⟩ => ⟨S16x64, .f32⟩
  | .hbm, ⟨48, _⟩ => ⟨S16, .i32⟩
  | .hbm, ⟨49, _⟩ => ⟨S16, .i1⟩
  | .hbm, ⟨50, _⟩ => ⟨S16x1, .i1⟩
  | .hbm, ⟨51, _⟩ => ⟨S16x64, .f32⟩
  | .hbm, ⟨52, _⟩ => ⟨S16x64, .i1⟩
  | .hbm, ⟨53, _⟩ => ⟨S16x64, .f32⟩
  | .hbm, ⟨54, _⟩ => ⟨S1x16x64, .i32⟩
  | .hbm, ⟨55, _⟩ => ⟨S_, .i32⟩
  | .hbm, ⟨56, _⟩ => ⟨S_, .i32⟩
  | .hbm, ⟨57, _⟩ => ⟨S2048x16x64, .i32⟩
  | .hbm, ⟨58, _⟩ => ⟨S_, .i32⟩
  | .hbm, ⟨59, _⟩ => ⟨S_, .i32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S16x64, .f32⟩
  | .hbm, ⟨64, _⟩ => ⟨S16x64, .f32⟩
  | .hbm, ⟨65, _⟩ => ⟨S16x64, .i32⟩
  | .hbm, ⟨66, _⟩ => ⟨S_, .f32⟩
  | .hbm, ⟨67, _⟩ => ⟨S_, .i32⟩
  | .hbm, ⟨68, _⟩ => ⟨S16, .f32⟩
  | .hbm, ⟨69, _⟩ => ⟨S16, .i32⟩
  | .hbm, ⟨70, _⟩ => ⟨S_, .f32⟩
  | .hbm, ⟨71, _⟩ => ⟨S16, .f32⟩
  | .hbm, ⟨72, _⟩ => ⟨S2048, .i32⟩
  | .hbm, ⟨73, _⟩ => ⟨S_, .i32⟩
  | .hbm, ⟨74, _⟩ => ⟨S2048x16, .i32⟩
  | .hbm, ⟨75, _⟩ => ⟨S_, .i32⟩
  | .hbm, ⟨76, _⟩ => ⟨S2048x16x64, .i32⟩
  | .hbm, ⟨77, _⟩ => ⟨S2048, .i32⟩
  | .hbm, ⟨78, _⟩ => ⟨S16, .i32⟩
  | .hbm, ⟨79, _⟩ => ⟨S_, .i32⟩
  | .hbm, ⟨80, _⟩ => ⟨S16, .i32⟩
  | .hbm, ⟨81, _⟩ => ⟨S2048x16, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1x16x64, .i32⟩
  | .hbm, ⟨91, _⟩ => ⟨S16x64, .i32⟩
  | .hbm, ⟨92, _⟩ => ⟨S1, .i32⟩
  | .hbm, ⟨93, _⟩ => ⟨S_, .i32⟩
  | .hbm, ⟨94, _⟩ => ⟨S16, .i32⟩
  | .hbm, ⟨95, _⟩ => ⟨S16, .i1⟩
  | .hbm, ⟨96, _⟩ => ⟨S_, .i32⟩
  | .hbm, ⟨97, _⟩ => ⟨S_, .i32⟩
  | .hbm, ⟨98, _⟩ => ⟨S16, .i32⟩
  | .hbm, ⟨99, _⟩ => ⟨S16, .i32⟩
  | .hbm, ⟨100, _⟩ => ⟨S16x1, .i32⟩
  | .hbm, ⟨101, _⟩ => ⟨S_, .i32⟩
  | .hbm, ⟨102, _⟩ => ⟨S16x1, .i32⟩
  | .hbm, ⟨103, _⟩ => ⟨S16x1, .i1⟩
  | .hbm, ⟨104, _⟩ => ⟨S_, .i32⟩
  | .hbm, ⟨105, _⟩ => ⟨S16x1, .i32⟩
  | .hbm, ⟨106, _⟩ => ⟨S16x1, .i32⟩
  | .hbm, ⟨107, _⟩ => ⟨S16x1, .i32⟩
  | .hbm, ⟨108, _⟩ => ⟨S16x1x1, .i32⟩
  | .hbm, ⟨109, _⟩ => ⟨S16x1, .i32⟩
  | .hbm, ⟨110, _⟩ => ⟨S16, .i32⟩
  | .hbm, ⟨111, _⟩ => ⟨S16, .i32⟩
  | .hbm, ⟨112, _⟩ => ⟨S16, .i1⟩
  | .hbm, ⟨113, _⟩ => ⟨S16, .i32⟩
  | .hbm, ⟨114, _⟩ => ⟨S1x16, .i32⟩
  | .hbm, ⟨115, _⟩ => ⟨S_, .i32⟩
  | .hbm, ⟨116, _⟩ => ⟨S2048x16, .i32⟩
  | .hbm, ⟨117, _⟩ => ⟨S_, .i32⟩
  | .hbm, ⟨118, _⟩ => ⟨S_, .i32⟩
  | .hbm, ⟨119, _⟩ => ⟨S16x2048, .i32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_while0c_c_12 : Ref sig .tc := ⟨.hbm, 26, rfl⟩
abbrev main_while0c_v21 : Ref sig .tc := ⟨.hbm, 27, rfl⟩
abbrev main_while0b_call1_c : Ref sig .tc := ⟨.hbm, 28, rfl⟩
abbrev main_while0b_call1_c_0 : Ref sig .tc := ⟨.hbm, 29, rfl⟩
abbrev main_while0b_call1_v0 : Ref sig .tc := ⟨.hbm, 30, rfl⟩
abbrev main_while0b_v21 : Ref sig .tc := ⟨.hbm, 31, rfl⟩
abbrev main_while0b_call2_v0 : Ref sig .tc := ⟨.hbm, 32, rfl⟩
abbrev main_while0b_v22 : Ref sig .tc := ⟨.hbm, 33, rfl⟩
abbrev main_while0b_v23 : Ref sig .tc := ⟨.hbm, 34, rfl⟩
abbrev main_while0b_v24 : Ref sig .tc := ⟨.hbm, 35, rfl⟩
abbrev main_while0b_v25 : Ref sig .tc := ⟨.hbm, 36, rfl⟩
abbrev main_while0b_v26 : Ref sig .tc := ⟨.hbm, 37, rfl⟩
abbrev main_while0b_v27 : Ref sig .tc := ⟨.hbm, 38, rfl⟩
abbrev main_while0b_v28 : Ref sig .tc := ⟨.hbm, 39, rfl⟩
abbrev main_while0b_call3_v0 : Ref sig .tc := ⟨.hbm, 40, rfl⟩
abbrev main_while0b_call3_cst : Ref sig .tc := ⟨.hbm, 41, rfl⟩
abbrev main_while0b_call3_c : Ref sig .tc := ⟨.hbm, 42, rfl⟩
abbrev main_while0b_call3_v1_0 : Ref sig .tc := ⟨.hbm, 43, rfl⟩
abbrev main_while0b_v29 : Ref sig .tc := ⟨.hbm, 44, rfl⟩
abbrev main_while0b_cst_12 : Ref sig .tc := ⟨.hbm, 45, rfl⟩
abbrev main_while0b_v30 : Ref sig .tc := ⟨.hbm, 46, rfl⟩
abbrev main_while0b_v31 : Ref sig .tc := ⟨.hbm, 47, rfl⟩
abbrev main_while0b_v32 : Ref sig .tc := ⟨.hbm, 48, rfl⟩
abbrev main_while0b_v33 : Ref sig .tc := ⟨.hbm, 49, rfl⟩
abbrev main_while0b_v34 : Ref sig .tc := ⟨.hbm, 50, rfl⟩
abbrev main_while0b_call4_v0 : Ref sig .tc := ⟨.hbm, 51, rfl⟩
abbrev main_while0b_call4_v1 : Ref sig .tc := ⟨.hbm, 52, rfl⟩
abbrev main_while0b_v35 : Ref sig .tc := ⟨.hbm, 53, rfl⟩
abbrev main_while0b_call5_v0 : Ref sig .tc := ⟨.hbm, 54, rfl⟩
abbrev main_while0b_call5_c : Ref sig .tc := ⟨.hbm, 55, rfl⟩
abbrev main_while0b_call5_c_0 : Ref sig .tc := ⟨.hbm, 56, rfl⟩
abbrev main_while0b_v36 : Ref sig .tc := ⟨.hbm, 57, rfl⟩
abbrev main_while0b_c_13 : Ref sig .tc := ⟨.hbm, 58, rfl⟩
abbrev main_while0b_v37 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_call6_v0 : Ref sig .tc := ⟨.hbm, 65, rfl⟩
abbrev main_call6_cst : Ref sig .tc := ⟨.hbm, 66, rfl⟩
abbrev main_call6_c : Ref sig .tc := ⟨.hbm, 67, rfl⟩
abbrev main_call6_v1_0 : Ref sig .tc := ⟨.hbm, 68, rfl⟩
abbrev main_v15 : Ref sig .tc := ⟨.hbm, 69, rfl⟩
abbrev main_cst_3 : Ref sig .tc := ⟨.hbm, 70, rfl⟩
abbrev main_v16 : Ref sig .tc := ⟨.hbm, 71, rfl⟩
abbrev main_v17 : Ref sig .tc := ⟨.hbm, 72, rfl⟩
abbrev main_c_4 : Ref sig .tc := ⟨.hbm, 73, rfl⟩
abbrev main_v18 : Ref sig .tc := ⟨.hbm, 74, rfl⟩
abbrev main_c_5 : Ref sig .tc := ⟨.hbm, 75, rfl⟩
abbrev main_v19_0 : Ref sig .tc := ⟨.hbm, 76, rfl⟩
abbrev main_v19_1 : Ref sig .tc := ⟨.hbm, 77, rfl⟩
abbrev main_v19_2 : Ref sig .tc := ⟨.hbm, 78, rfl⟩
abbrev main_v19_3 : Ref sig .tc := ⟨.hbm, 79, rfl⟩
abbrev main_v19_4 : Ref sig .tc := ⟨.hbm, 80, rfl⟩
abbrev main_v19_5 : Ref sig .tc := ⟨.hbm, 81, rfl⟩
abbrev main_while1c_c_11 : Ref sig .tc := ⟨.hbm, 82, rfl⟩
abbrev main_while1c_v21 : Ref sig .tc := ⟨.hbm, 83, rfl⟩
abbrev main_while1b_c_11 : Ref sig .tc := ⟨.hbm, 84, rfl⟩
abbrev main_while1b_v21 : Ref sig .tc := ⟨.hbm, 85, rfl⟩
abbrev main_while1b_c_12 : Ref sig .tc := ⟨.hbm, 86, rfl⟩
abbrev main_while1b_v22 : Ref sig .tc := ⟨.hbm, 87, rfl⟩
abbrev main_while1b_call7_c : Ref sig .tc := ⟨.hbm, 88, rfl⟩
abbrev main_while1b_call7_c_0 : Ref sig .tc := ⟨.hbm, 89, rfl⟩
abbrev main_while1b_call7_v0 : Ref sig .tc := ⟨.hbm, 90, rfl⟩
abbrev main_while1b_v23 : Ref sig .tc := ⟨.hbm, 91, rfl⟩
abbrev main_while1b_call8_v0 : Ref sig .tc := ⟨.hbm, 92, rfl⟩
abbrev main_while1b_v24 : Ref sig .tc := ⟨.hbm, 93, rfl⟩
abbrev main_while1b_v25 : Ref sig .tc := ⟨.hbm, 94, rfl⟩
abbrev main_while1b_v26 : Ref sig .tc := ⟨.hbm, 95, rfl⟩
abbrev main_while1b_c_13 : Ref sig .tc := ⟨.hbm, 96, rfl⟩
abbrev main_while1b_call9_v0 : Ref sig .tc := ⟨.hbm, 97, rfl⟩
abbrev main_while1b_call9_v1 : Ref sig .tc := ⟨.hbm, 98, rfl⟩
abbrev main_while1b_v27 : Ref sig .tc := ⟨.hbm, 99, rfl⟩
abbrev main_while1b_v28 : Ref sig .tc := ⟨.hbm, 100, rfl⟩
abbrev main_while1b_call10_c : Ref sig .tc := ⟨.hbm, 101, rfl⟩
abbrev main_while1b_call10_v0 : Ref sig .tc := ⟨.hbm, 102, rfl⟩
abbrev main_while1b_call10_v1 : Ref sig .tc := ⟨.hbm, 103, rfl⟩
abbrev main_while1b_call10_c_0 : Ref sig .tc := ⟨.hbm, 104, rfl⟩
abbrev main_while1b_call10_v2 : Ref sig .tc := ⟨.hbm, 105, rfl⟩
abbrev main_while1b_call10_v3 : Ref sig .tc := ⟨.hbm, 106, rfl⟩
abbrev main_while1b_call10_v4 : Ref sig .tc := ⟨.hbm, 107, rfl⟩
abbrev main_while1b_call10_v5 : Ref sig .tc := ⟨.hbm, 108, rfl⟩
abbrev main_while1b_v29 : Ref sig .tc := ⟨.hbm, 109, rfl⟩
abbrev main_while1b_v30 : Ref sig .tc := ⟨.hbm, 110, rfl⟩
abbrev main_while1b_v31 : Ref sig .tc := ⟨.hbm, 111, rfl⟩
abbrev main_while1b_v32 : Ref sig .tc := ⟨.hbm, 112, rfl⟩
abbrev main_while1b_v33 : Ref sig .tc := ⟨.hbm, 113, rfl⟩
abbrev main_while1b_call12_v0 : Ref sig .tc := ⟨.hbm, 114, rfl⟩
abbrev main_while1b_call12_c : Ref sig .tc := ⟨.hbm, 115, rfl⟩
abbrev main_while1b_v34 : Ref sig .tc := ⟨.hbm, 116, rfl⟩
abbrev main_while1b_c_14 : Ref sig .tc := ⟨.hbm, 117, rfl⟩
abbrev main_while1b_v35 : Ref sig .tc := ⟨.hbm, 118, rfl⟩
abbrev main_v20 : Ref sig .tc := ⟨.hbm, 119, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Proof.Flt.KCommon.lean ====
/-
  What the kernel's proof files share: the resource algebra (two copies of the pipeline library's) and short names. For the program as written.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.KitQuiescent
public import Idealize.ShloMosaic.Lib.Pipeline.DatRel
public import Idealize.ShloMosaic.Lib.Tactic
public import Idealize.ShloMosaic.Lib.WholeRead

@[expose] public section

noncomputable section

namespace Cert.Kernel.Run

open Cert.Kernel Cert.Kernel.Gen
open Idealize.ShloMosaic Idealize.ShloMosaic.TcCoe
open Idealize.SL Idealize.SL.RA Idealize.SL.BI Idealize.SL.Sem
open Idealize.ShloMosaic.Pipeline (Dat Cfg Window)

/-- The user algebra: one copy of the pipeline library's for each of the two kernel calls. -/
abbrev UU (nD : Nat) (τ : Topo) : Type := UR sig nD τ × UR sig nD τ

/-- No variants. -/
abbrev 𝒱₀ : Variants := Variants.none

end Cert.Kernel.Run
-- ==== Proof.FwdStep.lean ====
/-
  One time step of the forward kernel on a block of eight rows, as a function of the values it reads, and the values the
  kernel body computes (its named payloads) in terms of it.
-/
module

public import proofs.«01_k».proof.Proof.Gen.KernelIdeal.Skeleton

@[expose] public section

set_option maxRecDepth 65536

noncomputable section

namespace Cert.KernelIdeal.Fwd

open Cert.KernelIdeal Cert.KernelIdeal.Gen
open Idealize.ShloMosaic Idealize.SL.Sem

variable {F : FTy → Type} [FloatOps F]

/-- The best score over the previous tags, per row and next tag: the row's scores plus the weights, maximised. -/
def vmaxG (w : Vec F S64x64 .f32) (fv : FVec F S8x64 .f32) : FVec F S8x64 .f32 :=
  multiReduction .maximumf [2] S8x64
    (addf (broadcastTo S8x64x64 (shapeCast S8x1x64 fv shapeCasts_S8x64_S8x1x64) broadcasts_S8x1x64_S8x64x64)
      (broadcastTo S8x64x64 (shapeCast S1x64x64 w shapeCasts_S64x64_S1x64x64) broadcasts_S1x64x64_S8x64x64))
    0xFF800000#32 reduces_S8x64x64_S8x64 (.inl rfl) rfl

/-- One step: the rows still running at time `t` take the best score plus the step's features, the others stay. -/
def stepG (w : Vec F S64x64 .f32) (lg : IVec S8x1 32) (t : BitVec 32) (f : Vec F S1x8x64 .f32) (fv : FVec F S8x64 .f32) : FVec F S8x64 .f32 :=
  select (broadcastTo S8x64 (shapeCast S8x1 (cmpi .slt (broadcast S8x1 t) lg) shapeCasts_S8x1_S8x1) broadcasts_S8x1_S8x64)
    (addf (vmaxG w fv) (shapeCast S8x64 (shapeCast S1x8x64 f shapeCasts_S1x8x64_S1x8x64) shapeCasts_S1x8x64_S8x64)) fv

/-- The scores after `n` steps from `fv`, the first at time `t0`. -/
def fvS (w : Vec F S64x64 .f32) (lg : IVec S8x1 32) (t0 : BitVec 32) (f : ℕ → Vec F S1x8x64 .f32) (fv : FVec F S8x64 .f32) : ℕ → FVec F S8x64 .f32
  | 0 => fv
  | n + 1 => stepG w lg (Scalar.addi t0 (BitVec.ofNat 32 n)) (f n) (fvS w lg t0 f fv n)

/-- The scores as a slab of the history. -/
def slab (fv : FVec F S8x64 .f32) : FVec F S1x8x64 .f32 := shapeCast S1x8x64 fv shapeCasts_S8x64_S1x8x64

/-- The lengths of the two blocks of rows. -/
def lensG0 (v4 : Vec F S16x1 .i32) : IVec S8x1 32 := extractStridedSlice S8x1 ![0, 0] (shapeCast S16x1 v4 shapeCasts_S16x1_S16x1) slices_S16x1_o0_0_S8x1
def lensG1 (v4 : Vec F S16x1 .i32) : IVec S8x1 32 := extractStridedSlice S8x1 ![8, 0] (shapeCast S16x1 v4 shapeCasts_S16x1_S16x1) slices_S16x1_o8_0_S8x1

section
variable (i : grid0.Coords) (w : Vec F S64x64 .f32) (v4 : Vec F S16x1 .i32) (t0 : BitVec 32) (f : ℕ → Vec F S1x8x64 .f32) (fv : FVec F S8x64 .f32)

theorem p15 : k0_pay15 fv = slab fv := rfl
theorem p17 : k0_pay17 w (k0_pay4 v4) t0 fv (f 0) = slab (fvS w (lensG0 v4) t0 f fv 1) := rfl
theorem p18 : k0_pay18 w (k0_pay4 v4) t0 fv (f 0) (f 1) = fvS w (lensG0 v4) t0 f fv 2 := rfl
theorem p19 : k0_pay19 w (k0_pay4 v4) t0 fv (f 0) (f 1) = slab (fvS w (lensG0 v4) t0 f fv 2) := rfl
theorem p14 : k0_pay14 (k0_pay4 v4) = lensG0 v4 := rfl
theorem p21 : k0_pay21 w t0 (lensG0 v4) (fvS w (lensG0 v4) t0 f fv 2) (f 2) = slab (fvS w (lensG0 v4) t0 f fv 3) := rfl
theorem p22 : k0_pay22 w t0 (lensG0 v4) (fvS w (lensG0 v4) t0 f fv 2) (f 2) (f 3) = fvS w (lensG0 v4) t0 f fv 4 := rfl
theorem p23 : k0_pay23 w t0 (lensG0 v4) (fvS w (lensG0 v4) t0 f fv 2) (f 2) (f 3) = slab (fvS w (lensG0 v4) t0 f fv 4) := rfl
end

end Cert.KernelIdeal.Fwd
-- ==== Proof.KCommon.lean ====
/-
  What the kernel's proof files share: the resource algebra (two copies of the pipeline library's) and short names.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Pipeline.DatRel
public import Idealize.ShloMosaic.Lib.Tactic
public import Idealize.ShloMosaic.Lib.WholeRead

@[expose] public section

noncomputable section

namespace Cert.KernelIdeal.Run

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window)

/-- The user algebra: one copy of the pipeline library's for each of the two kernel calls. -/
abbrev UU (nD : Nat) (τ : Topo) : Type := UR sig nD τ × UR sig nD τ

/-- No variants. -/
abbrev 𝒱₀ : Variants := Variants.none

end Cert.KernelIdeal.Run
-- ==== Proof.FwdGroup.lean ====
/-
  The forward kernel's guarded region of one block of rows, run once.
-/
module

public import proofs.«01_k».proof.Proof.FwdStep
public import proofs.«01_k».proof.Proof.KCommon

@[expose] public section

set_option maxRecDepth 65536

noncomputable section

namespace Cert.KernelIdeal.Fwd

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The first block's region of the body: its eight steps. -/
def grp0 (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole)
    (v3 : Vec F S64x64 .f32) (v4 : Vec F S16x1 .i32) (v6 : BitVec 32) : Prog (TpuEff nD τ sig (Elt F) Λ₀ .tc) PUnit := do
  let ⟨v18, v55, v56⟩ : Σ' (v18 : IVec S8x1 32) (v55 : FVec F S8x64 .f32), FVec F S1x8x64 .f32 ← k0_part1 i arg1 harg1 arg2 harg2 arg3 harg3 arg4 harg4 arg5 harg5 arg6 harg6 arg7 harg7 arg8 harg8 arg9 harg9 v3 (k0_pay4 v4) v6
  let ⟨v91, v94, v95⟩ : Σ' (v91 : FVec F S8x64 .f32) (v94 : FVec F S8x1x64 .f32), FVec F S1x64x64 .f32 ← k0_part2 i arg1 harg1 arg2 harg2 arg3 harg3 arg4 harg4 arg5 harg5 arg6 harg6 arg7 harg7 arg8 harg8 arg9 harg9 v3 v6 v18 v55 v56
  let ⟨v127, v135, c6_i32⟩ : Σ' (v127 : FVec F S8x64 .f32) (v135 : FVec F S8x64 .f32), BitVec 32 ← k0_part3 i arg1 harg1 arg2 harg2 arg3 harg3 arg4 harg4 arg5 harg5 arg6 harg6 arg7 harg7 arg8 harg8 arg9 harg9 v3 v6 v18 v91 v94 v95
  let v139 : Vec F S1x8x64 .f32 ← Prog.lift (.load arg3 (Rect.unit (s := S8x16x64) ![6, 0, 0] S1x8x64.size inb_S8x16x64_S1x8x64_6_0_0).toLoadRect (View.loadsAt_vmem h_S1x8x64))
  let v147 : Vec F S1x8x64 .f32 ← Prog.lift (.load arg5 (Rect.unit (s := S8x16x64) ![7, 0, 0] S1x8x64.size inb_S8x16x64_S1x8x64_7_0_0).toLoadRect (View.loadsAt_vmem h_S1x8x64))
  Prog.lift (.store arg5 (Rect.unit (s := S8x16x64) ![7, 0, 0] S1x8x64.size inb_S8x16x64_S1x8x64_7_0_0) (k0_pay6 i v18 v127 v135 c6_i32 v139) Finset.univ (View.stores_vmem_bits_univ h_S1x8x64 rfl) (.inl rfl))
  let v157 : Vec F S1x8x64 .f32 ← Prog.lift (.load arg3 (Rect.unit (s := S8x16x64) ![7, 0, 0] S1x8x64.size inb_S8x16x64_S1x8x64_7_0_0).toLoadRect (View.loadsAt_vmem h_S1x8x64))
  let v164 : Vec F S8x64 .f32 ← Prog.lift (.load arg8 (Rect.unit (s := S8x64) ![0, 0] S8x64.size inb_S8x64_S8x64_0_0).toLoadRect (View.loadsAt_vmem h_S8x64))
  Prog.lift (.store arg8 (Rect.unit (s := S8x64) ![0, 0] S8x64.size inb_S8x64_S8x64_0_0) (k0_pay7 i v3 v18 v127 v135 c6_i32 v139 v157) Finset.univ (View.stores_vmem_bits_univ h_S8x64 rfl) (.inl rfl))
  pure ⟨⟩

/-- The second block's. -/
def grp1 (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole)
    (v3 : Vec F S64x64 .f32) (v4 : Vec F S16x1 .i32) (v6 : BitVec 32) : Prog (TpuEff nD τ sig (Elt F) Λ₀ .tc) PUnit := do
  let ⟨v18, v55, v56⟩ : Σ' (v18 : IVec S8x1 32) (v55 : FVec F S8x64 .f32), FVec F S1x8x64 .f32 ← k0_part4 i arg1 harg1 arg2 harg2 arg3 harg3 arg4 harg4 arg5 harg5 arg6 harg6 arg7 harg7 arg8 harg8 arg9 harg9 v3 (k0_pay4 v4) v6
  let ⟨v91, v94, v95⟩ : Σ' (v91 : FVec F S8x64 .f32) (v94 : FVec F S8x1x64 .f32), FVec F S1x64x64 .f32 ← k0_part5 i arg1 harg1 arg2 harg2 arg3 harg3 arg4 harg4 arg5 harg5 arg6 harg6 arg7 harg7 arg8 harg8 arg9 harg9 v3 v6 v18 v55 v56
  let ⟨v127, v135, c6_i32⟩ : Σ' (v127 : FVec F S8x64 .f32) (v135 : FVec F S8x64 .f32), BitVec 32 ← k0_part6 i arg1 harg1 arg2 harg2 arg3 harg3 arg4 harg4 arg5 harg5 arg6 harg6 arg7 harg7 arg8 harg8 arg9 harg9 v3 v6 v18 v91 v94 v95
  let v139 : Vec F S1x8x64 .f32 ← Prog.lift (.load arg3 (Rect.unit (s := S8x16x64) ![6, 8, 0] S1x8x64.size inb_S8x16x64_S1x8x64_6_8_0).toLoadRect (View.loadsAt_vmem h_S1x8x64))
  let v147 : Vec F S1x8x64 .f32 ← Prog.lift (.load arg5 (Rect.unit (s := S8x16x64) ![7, 8, 0] S1x8x64.size inb_S8x16x64_S1x8x64_7_8_0).toLoadRect (View.loadsAt_vmem h_S1x8x64))
  Prog.lift (.store arg5 (Rect.unit (s := S8x16x64) ![7, 8, 0] S1x8x64.size inb_S8x16x64_S1x8x64_7_8_0) (k0_pay9 i v18 v127 v135 c6_i32 v139) Finset.univ (View.stores_vmem_bits_univ h_S1x8x64 rfl) (.inl rfl))
  let v157 : Vec F S1x8x64 .f32 ← Prog.lift (.load arg3 (Rect.unit (s := S8x16x64) ![7, 8, 0] S1x8x64.size inb_S8x16x64_S1x8x64_7_8_0).toLoadRect (View.loadsAt_vmem h_S1x8x64))
  let v164 : Vec F S8x64 .f32 ← Prog.lift (.load arg9 (Rect.unit (s := S8x64) ![0, 0] S8x64.size inb_S8x64_S8x64_0_0).toLoadRect (View.loadsAt_vmem h_S8x64))
  Prog.lift (.store arg9 (Rect.unit (s := S8x64) ![0, 0] S8x64.size inb_S8x64_S8x64_0_0) (k0_pay10 i v3 v18 v127 v135 c6_i32 v139 v157) Finset.univ (View.stores_vmem_bits_univ h_S8x64 rfl) (.inl rfl))
  pure ⟨⟩

section
variable (c : Dev nD) (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole) (v6 : BitVec 32)
set_option backward.proofsInPublic true

/-- What the block's eight steps do, run: the history block at the slabs, the score scratch after the steps. -/
def grp0Run (v3 : Vec F S64x64 .f32) (v4 : Vec F S16x1 .i32)
    (f3 : Buf (Elt F) (arg3.view.loc (c : Thread nD τ))) (f5 : Buf (Elt F) (arg5.view.loc (c : Thread nD τ))) (fs : Buf (Elt F) (arg8.view.loc (c : Thread nD τ))) :
    { L : List (View.Piece (Elt F) S8x16x64 .f32) × List (View.Piece (Elt F) S8x64 .f32) //
      (iprop((arg3.view.loc (c : Thread nD τ) ↦{fullShare} f3) ∗ (arg5.view.loc (c : Thread nD τ) ↦{fullShare} f5) ∗ (arg8.view.loc (c : Thread nD τ) ↦{fullShare} fs)) : sProp 𝕄)
      ⊢ wp frame (wpE (defs₀ (F := F)) 𝒱₀ (c : Thread nD τ) none) Set.univ (grp0 (F := F) i arg1 harg1 arg2 harg2 arg3 harg3 arg4 harg4 arg5 harg5 arg6 harg6 arg7 harg7 arg8 harg8 arg9 harg9 v3 v4 v6)
          fun _ => iprop((arg3.view.loc (c : Thread nD τ) ↦{fullShare} f3) ∗ (arg5.view.loc (c : Thread nD τ) ↦{fullShare} arg5.view.writes (Elt F) f5 L.1) ∗ (arg8.view.loc (c : Thread nD τ) ↦{fullShare} arg8.view.writes (Elt F) fs L.2)) } := by
  refine ⟨⟨?_, ?_⟩, ?run⟩
  case run =>
    iintro ⟨H3, H5, Hs⟩
    unfold grp0
    sl_exec
    sl_step
    isplitl [H3]; · iexact H3
    isplitl [H5]; · iexact H5
    iexact Hs

/-- What the block's eight steps do, run: the history block at the slabs, the score scratch after the steps. -/
def grp1Run (v3 : Vec F S64x64 .f32) (v4 : Vec F S16x1 .i32)
    (f3 : Buf (Elt F) (arg3.view.loc (c : Thread nD τ))) (f5 : Buf (Elt F) (arg5.view.loc (c : Thread nD τ))) (fs : Buf (Elt F) (arg9.view.loc (c : Thread nD τ))) :
    { L : List (View.Piece (Elt F) S8x16x64 .f32) × List (View.Piece (Elt F) S8x64 .f32) //
      (iprop((arg3.view.loc (c : Thread nD τ) ↦{fullShare} f3) ∗ (arg5.view.loc (c : Thread nD τ) ↦{fullShare} f5) ∗ (arg9.view.loc (c : Thread nD τ) ↦{fullShare} fs)) : sProp 𝕄)
      ⊢ wp frame (wpE (defs₀ (F := F)) 𝒱₀ (c : Thread nD τ) none) Set.univ (grp1 (F := F) i arg1 harg1 arg2 harg2 arg3 harg3 arg4 harg4 arg5 harg5 arg6 harg6 arg7 harg7 arg8 harg8 arg9 harg9 v3 v4 v6)
          fun _ => iprop((arg3.view.loc (c : Thread nD τ) ↦{fullShare} f3) ∗ (arg5.view.loc (c : Thread nD τ) ↦{fullShare} arg5.view.writes (Elt F) f5 L.1) ∗ (arg9.view.loc (c : Thread nD τ) ↦{fullShare} arg9.view.writes (Elt F) fs L.2)) } := by
  refine ⟨⟨?_, ?_⟩, ?run⟩
  case run =>
    iintro ⟨H3, H5, Hs⟩
    unfold grp1
    sl_exec
    sl_step
    isplitl [H3]; · iexact H3
    isplitl [H5]; · iexact H5
    iexact Hs

end

end Cert.KernelIdeal.Fwd
-- ==== Proof.FwdSpec.lean ====
/-
  What the forward kernel's guarded region leaves: the history block at the block's slabs, the scores after eight steps.
-/
module

public import proofs.«01_k».proof.Proof.FwdGroup
public import Idealize.ShloMosaic.Lib.Pipeline.Value
public import Idealize.ShloMosaic.Lib.ValueIdx

@[expose] public section

set_option maxRecDepth 65536

noncomputable section

namespace Cert.KernelIdeal.Fwd

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

theorem hz : (![0, 0] : Fin 2 → Nat) = fun _ => 0 := funext fun a => by fin_cases a <;> rfl

/-- The first time of grid point `i`. -/
abbrev tt (i : grid0.Coords) : BitVec 32 := Scalar.muli (BitVec.ofNat 32 (i 0).val) 8#32

/-- Rows `o ..< o + 8` of slab `n` of a block of eight steps. -/
def rowF {e : EltTy} (X : S8x16x64.Idx → Elt F e) (o n : ℕ) : S1x8x64.Idx → Elt F e := fun j =>
  X (ValueIdx.ix3 (n0 := 8) (n1 := 16) (n2 := 64) (Fin.ofNat 8 n) (Fin.ofNat 16 (o + (j 1).val)) (j 2))

theorem fvS_congr (w : Vec F S64x64 .f32) (lg : IVec S8x1 32) (t0 : BitVec 32) {f f' : ℕ → Vec F S1x8x64 .f32} (fv : FVec F S8x64 .f32) :
    ∀ n, (∀ k, k < n → f k = f' k) → fvS w lg t0 f fv n = fvS w lg t0 f' fv n
  | 0, _ => rfl
  | n + 1, h => by rw [fvS, fvS, fvS_congr w lg t0 fv n fun k hk => h k (by omega), h n (by omega)]

/-- The history block `X` with slab `n` of rows `o ..< o + 8` at `P n`. -/
def hist (o : ℕ) (P : ℕ → FVec F S1x8x64 .f32) (X : S8x16x64.Idx → Elt F .f32) : S8x16x64.Idx → Elt F .f32 := fun y =>
  if h : o ≤ (y 1).val ∧ (y 1).val < o + 8 then P (y 0).val (ValueIdx.ix3 (n0 := 1) (n1 := 8) (n2 := 64) 0 ⟨(y 1).val - o, by omega⟩ (y 2)) else X y

theorem hist_congr (o : ℕ) (P P' : ℕ → FVec F S1x8x64 .f32) (X : S8x16x64.Idx → Elt F .f32) (h : ∀ n, n < 8 → P n = P' n) : hist o P X = hist o P' X := by
  funext y
  have hy : (y 0).val < 8 := (y 0).isLt
  unfold hist
  rw [h _ hy]

/-- A load of rows `o ..< o + 8` of slab `n` reads them. -/
theorem readAt_rowF {κ : Kind} {sp : Space} (m : Memref sig κ sp S8x16x64 .f32) (n o : ℕ) (hn : n < 8) (ho : o + 8 ≤ 16)
    (inb : ∀ a, (![n, o, 0] : Fin 3 → ℕ) a + S1x8x64.size a ≤ S8x16x64.size a) (f3 : m.view.ty.Contents (Elt F)) :
    m.view.readAt (Elt F) (Rect.unit (s := S8x16x64) ![n, o, 0] S1x8x64.size inb).toLoadRect f3 = rowF (m.view.read (Elt F) f3) o n := by
  rw [View.readAt_eq_ld]
  funext j
  have h0 : (j 0).val < 1 := (j 0).isLt
  have h1 : (j 1).val < 8 := (j 1).isLt
  have h2 : (j 2).val < 64 := (j 2).isLt
  show m.view.read (Elt F) f3 _ = m.view.read (Elt F) f3 _
  congr 1
  funext a
  apply Fin.ext
  match a with
  | ⟨0, _⟩ => show n + 1 * (j 0).val = n % 8; omega
  | ⟨1, _⟩ => show o + 1 * (j 1).val = (o + (j 1).val) % 16; omega
  | ⟨2, _⟩ => show 0 + 1 * (j 2).val = (j 2).val; omega

theorem piece_hist (o : ℕ) (P : ℕ → FVec F S1x8x64 .f32) (X : S8x16x64.Idx → Elt F .f32) (n : ℕ)
    (inb : ∀ a, (![n, o, 0] : Fin 3 → ℕ) a + S1x8x64.size a ≤ S8x16x64.size a) (x : S1x8x64.Idx) :
    P n x = hist o P X ((Rect.unit (s := S8x16x64) ![n, o, 0] S1x8x64.size inb).emb x) := by
  have h0 : (x 0).val < 1 := (x 0).isLt
  have h1 : (x 1).val < 8 := (x 1).isLt
  have e0 : (((Rect.unit (s := S8x16x64) ![n, o, 0] S1x8x64.size inb).emb x) 0).val = n := by show n + 1 * (x 0).val = n; omega
  have e1 : (((Rect.unit (s := S8x16x64) ![n, o, 0] S1x8x64.size inb).emb x) 1).val = o + (x 1).val := by show o + 1 * (x 1).val = _; omega
  have e2 : (((Rect.unit (s := S8x16x64) ![n, o, 0] S1x8x64.size inb).emb x) 2).val = (x 2).val := by show 0 + 1 * (x 2).val = _; omega
  unfold hist
  rw [dif_pos ⟨by omega, by omega⟩, e0]
  congr 1
  funext a
  apply Fin.ext
  match a with
  | ⟨0, _⟩ => show (x 0).val = 0; omega
  | ⟨1, _⟩ => show (x 1).val = _ - o; omega
  | ⟨2, _⟩ => exact e2.symm

/-- The eight slabs written into the history block. -/
theorem read_hist {κ : Kind} {sp : Space} (m : Memref sig κ sp S8x16x64 .f32) (f : m.view.ty.Contents (Elt F)) (o : ℕ)
    (P : ℕ → FVec F S1x8x64 .f32) (ho : o + 8 ≤ 16)
    (i7 : ∀ a, (![7, o, 0] : Fin 3 → ℕ) a + S1x8x64.size a ≤ S8x16x64.size a) (i6 : ∀ a, (![6, o, 0] : Fin 3 → ℕ) a + S1x8x64.size a ≤ S8x16x64.size a)
    (i5 : ∀ a, (![5, o, 0] : Fin 3 → ℕ) a + S1x8x64.size a ≤ S8x16x64.size a) (i4 : ∀ a, (![4, o, 0] : Fin 3 → ℕ) a + S1x8x64.size a ≤ S8x16x64.size a)
    (i3 : ∀ a, (![3, o, 0] : Fin 3 → ℕ) a + S1x8x64.size a ≤ S8x16x64.size a) (i2 : ∀ a, (![2, o, 0] : Fin 3 → ℕ) a + S1x8x64.size a ≤ S8x16x64.size a)
    (i1 : ∀ a, (![1, o, 0] : Fin 3 → ℕ) a + S1x8x64.size a ≤ S8x16x64.size a) (i0 : ∀ a, (![0, o, 0] : Fin 3 → ℕ) a + S1x8x64.size a ≤ S8x16x64.size a) :
    m.view.read (Elt F) (m.view.writes (Elt F) f
      [⟨Rect.unit (s := S8x16x64) ![7, o, 0] S1x8x64.size i7, P 7⟩, ⟨Rect.unit (s := S8x16x64) ![6, o, 0] S1x8x64.size i6, P 6⟩,
       ⟨Rect.unit (s := S8x16x64) ![5, o, 0] S1x8x64.size i5, P 5⟩, ⟨Rect.unit (s := S8x16x64) ![4, o, 0] S1x8x64.size i4, P 4⟩,
       ⟨Rect.unit (s := S8x16x64) ![3, o, 0] S1x8x64.size i3, P 3⟩, ⟨Rect.unit (s := S8x16x64) ![2, o, 0] S1x8x64.size i2, P 2⟩,
       ⟨Rect.unit (s := S8x16x64) ![1, o, 0] S1x8x64.size i1, P 1⟩, ⟨Rect.unit (s := S8x16x64) ![0, o, 0] S1x8x64.size i0, P 0⟩])
      = hist o P (m.view.read (Elt F) f) := by
  funext y
  have hy0 : (y 0).val < 8 := (y 0).isLt
  have hy2 : (y 2).val < 64 := (y 2).isLt
  by_cases hy : o ≤ (y 1).val ∧ (y 1).val < o + 8
  · refine View.read_writes_apply_of_pieces _ _ _ _ ?_ y ?_
    · intro p hp x
      simp only [List.mem_cons, List.not_mem_nil, or_false] at hp
      rcases hp with rfl | rfl | rfl | rfl | rfl | rfl | rfl | rfl
      · exact piece_hist o P _ 7 i7 x
      · exact piece_hist o P _ 6 i6 x
      · exact piece_hist o P _ 5 i5 x
      · exact piece_hist o P _ 4 i4 x
      · exact piece_hist o P _ 3 i3 x
      · exact piece_hist o P _ 2 i2 x
      · exact piece_hist o P _ 1 i1 x
      · exact piece_hist o P _ 0 i0 x
    · have hm : ∀ (n : ℕ) (hn : (y 0).val = n) (inb : ∀ a, (![n, o, 0] : Fin 3 → ℕ) a + S1x8x64.size a ≤ S8x16x64.size a),
          y ∈ (Rect.unit (s := S8x16x64) ![n, o, 0] S1x8x64.size inb).set := by
        intro n hn inb
        rw [Rect.mem_set_unit]
        intro a
        match a with
        | ⟨0, _⟩ => show n ≤ (y 0).val ∧ (y 0).val < n + 1; omega
        | ⟨1, _⟩ => show o ≤ (y 1).val ∧ (y 1).val < o + 8; omega
        | ⟨2, _⟩ => show 0 ≤ (y 2).val ∧ (y 2).val < 0 + 64; omega
      have h8 : (y 0).val = 0 ∨ (y 0).val = 1 ∨ (y 0).val = 2 ∨ (y 0).val = 3 ∨ (y 0).val = 4 ∨ (y 0).val = 5 ∨ (y 0).val = 6 ∨ (y 0).val = 7 := by omega
      rcases h8 with h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hm 0 h i0⟩
      · exact ⟨_, List.mem_cons_of_mem _ (List.mem_cons_of_mem _ (List.mem_cons_of_mem _ (List.mem_cons_of_mem _ (List.mem_cons_of_mem _ (List.mem_cons_of_mem _ (List.mem_cons_self)))))), hm 1 h i1⟩
      · exact ⟨_, List.mem_cons_of_mem _ (List.mem_cons_of_mem _ (List.mem_cons_of_mem _ (List.mem_cons_of_mem _ (List.mem_cons_of_mem _ (List.mem_cons_self))))), hm 2 h i2⟩
      · exact ⟨_, List.mem_cons_of_mem _ (List.mem_cons_of_mem _ (List.mem_cons_of_mem _ (List.mem_cons_of_mem _ (List.mem_cons_self)))), hm 3 h i3⟩
      · exact ⟨_, List.mem_cons_of_mem _ (List.mem_cons_of_mem _ (List.mem_cons_of_mem _ (List.mem_cons_self))), hm 4 h i4⟩
      · exact ⟨_, List.mem_cons_of_mem _ (List.mem_cons_of_mem _ (List.mem_cons_self)), hm 5 h i5⟩
      · exact ⟨_, List.mem_cons_of_mem _ (List.mem_cons_self), hm 6 h i6⟩
      · exact ⟨_, List.mem_cons_self, hm 7 h i7⟩
  · rw [View.read_writes_apply_of_forall_not_mem]
    · unfold hist; rw [dif_neg hy]
    · have hm : ∀ (n : ℕ) (inb : ∀ a, (![n, o, 0] : Fin 3 → ℕ) a + S1x8x64.size a ≤ S8x16x64.size a),
          y ∉ (Rect.unit (s := S8x16x64) ![n, o, 0] S1x8x64.size inb).set := by
        intro n inb h
        rw [Rect.mem_set_unit] at h
        exact hy (h 1)
      intro p hp
      simp only [List.mem_cons, List.not_mem_nil, or_false] at hp
      rcases hp with rfl | rfl | rfl | rfl | rfl | rfl | rfl | rfl
      · exact hm 7 i7
      · exact hm 6 i6
      · exact hm 5 i5
      · exact hm 4 i4
      · exact hm 3 i3
      · exact hm 2 i2
      · exact hm 1 i1
      · exact hm 0 i0

/-- A store of the whole buffer leaves what it stores. -/
theorem read_store_whole {κ : Kind} {sp : Space} {e : EltTy} {s : Shape} (m : Memref sig κ sp s e) (f : m.view.ty.Contents (Elt F)) {off : Fin s.rank → ℕ}
    (ho : off = fun _ => 0) (inb : ∀ a, off a + s.size a ≤ s.size a) (w : s.Idx → Elt F e) :
    m.view.read (Elt F) (m.view.writes (Elt F) f [⟨Rect.unit off s.size inb, w⟩]) = w := by
  subst ho
  funext y
  refine View.read_writes_cons_hit_of_coords m.view f (Rect.unit (fun _ => 0) s.size inb) w [] y y fun a => ?_
  show (y a).val = 0 + 1 * (y a).val
  omega

section
variable (c : Dev nD) (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole)

/-- The rows of features the steps read. -/
def fRows0 (f3 : Buf (Elt F) (arg3.view.loc (c : Thread nD τ))) : ℕ → Vec F S1x8x64 .f32
  | 0 => arg3.view.readAt (Elt F) (Rect.unit (s := S8x16x64) ![0, 0, 0] S1x8x64.size inb_S8x16x64_S1x8x64_0_0_0).toLoadRect f3
  | 1 => arg3.view.readAt (Elt F) (Rect.unit (s := S8x16x64) ![1, 0, 0] S1x8x64.size inb_S8x16x64_S1x8x64_1_0_0).toLoadRect f3
  | 2 => arg3.view.readAt (Elt F) (Rect.unit (s := S8x16x64) ![2, 0, 0] S1x8x64.size inb_S8x16x64_S1x8x64_2_0_0).toLoadRect f3
  | 3 => arg3.view.readAt (Elt F) (Rect.unit (s := S8x16x64) ![3, 0, 0] S1x8x64.size inb_S8x16x64_S1x8x64_3_0_0).toLoadRect f3
  | 4 => arg3.view.readAt (Elt F) (Rect.unit (s := S8x16x64) ![4, 0, 0] S1x8x64.size inb_S8x16x64_S1x8x64_4_0_0).toLoadRect f3
  | 5 => arg3.view.readAt (Elt F) (Rect.unit (s := S8x16x64) ![5, 0, 0] S1x8x64.size inb_S8x16x64_S1x8x64_5_0_0).toLoadRect f3
  | 6 => arg3.view.readAt (Elt F) (Rect.unit (s := S8x16x64) ![6, 0, 0] S1x8x64.size inb_S8x16x64_S1x8x64_6_0_0).toLoadRect f3
  | _ => arg3.view.readAt (Elt F) (Rect.unit (s := S8x16x64) ![7, 0, 0] S1x8x64.size inb_S8x16x64_S1x8x64_7_0_0).toLoadRect f3

/-- The pieces the run found are the slabs of the history and the scores after eight steps. -/
theorem grp0_found (v3 : Vec F S64x64 .f32) (v4 : Vec F S16x1 .i32)
    (f3 : Buf (Elt F) (arg3.view.loc (c : Thread nD τ))) (f5 : Buf (Elt F) (arg5.view.loc (c : Thread nD τ))) (fs : Buf (Elt F) (arg8.view.loc (c : Thread nD τ))) :
    (grp0Run c i arg1 harg1 arg2 harg2 arg3 harg3 arg4 harg4 arg5 harg5 arg6 harg6 arg7 harg7 arg8 harg8 arg9 harg9 (tt i) v3 v4 f3 f5 fs).val =
      ([⟨Rect.unit (s := S8x16x64) ![7, 0, 0] S1x8x64.size inb_S8x16x64_S1x8x64_7_0_0, slab (fvS v3 (lensG0 v4) (tt i) (fRows0 c arg3 f3) (arg8.view.readAt (Elt F) (Rect.unit (s := S8x64) ![0, 0] S8x64.size inb_S8x64_S8x64_0_0).toLoadRect fs) 7)⟩, ⟨Rect.unit (s := S8x16x64) ![6, 0, 0] S1x8x64.size inb_S8x16x64_S1x8x64_6_0_0, slab (fvS v3 (lensG0 v4) (tt i) (fRows0 c arg3 f3) (arg8.view.readAt (Elt F) (Rect.unit (s := S8x64) ![0, 0] S8x64.size inb_S8x64_S8x64_0_0).toLoadRect fs) 6)⟩, ⟨Rect.unit (s := S8x16x64) ![5, 0, 0] S1x8x64.size inb_S8x16x64_S1x8x64_5_0_0, slab (fvS v3 (lensG0 v4) (tt i) (fRows0 c arg3 f3) (arg8.view.readAt (Elt F) (Rect.unit (s := S8x64) ![0, 0] S8x64.size inb_S8x64_S8x64_0_0).toLoadRect fs) 5)⟩, ⟨Rect.unit (s := S8x16x64) ![4, 0, 0] S1x8x64.size inb_S8x16x64_S1x8x64_4_0_0, slab (fvS v3 (lensG0 v4) (tt i) (fRows0 c arg3 f3) (arg8.view.readAt (Elt F) (Rect.unit (s := S8x64) ![0, 0] S8x64.size inb_S8x64_S8x64_0_0).toLoadRect fs) 4)⟩, ⟨Rect.unit (s := S8x16x64) ![3, 0, 0] S1x8x64.size inb_S8x16x64_S1x8x64_3_0_0, slab (fvS v3 (lensG0 v4) (tt i) (fRows0 c arg3 f3) (arg8.view.readAt (Elt F) (Rect.unit (s := S8x64) ![0, 0] S8x64.size inb_S8x64_S8x64_0_0).toLoadRect fs) 3)⟩, ⟨Rect.unit (s := S8x16x64) ![2, 0, 0] S1x8x64.size inb_S8x16x64_S1x8x64_2_0_0, slab (fvS v3 (lensG0 v4) (tt i) (fRows0 c arg3 f3) (arg8.view.readAt (Elt F) (Rect.unit (s := S8x64) ![0, 0] S8x64.size inb_S8x64_S8x64_0_0).toLoadRect fs) 2)⟩, ⟨Rect.unit (s := S8x16x64) ![1, 0, 0] S1x8x64.size inb_S8x16x64_S1x8x64_1_0_0, slab (fvS v3 (lensG0 v4) (tt i) (fRows0 c arg3 f3) (arg8.view.readAt (Elt F) (Rect.unit (s := S8x64) ![0, 0] S8x64.size inb_S8x64_S8x64_0_0).toLoadRect fs) 1)⟩, ⟨Rect.unit (s := S8x16x64) ![0, 0, 0] S1x8x64.size inb_S8x16x64_S1x8x64_0_0_0, slab (fvS v3 (lensG0 v4) (tt i) (fRows0 c arg3 f3) (arg8.view.readAt (Elt F) (Rect.unit (s := S8x64) ![0, 0] S8x64.size inb_S8x64_S8x64_0_0).toLoadRect fs) 0)⟩],
       [⟨Rect.unit (s := S8x64) ![0, 0] S8x64.size inb_S8x64_S8x64_0_0, shapeCast S8x64 (fvS v3 (lensG0 v4) (tt i) (fRows0 c arg3 f3) (arg8.view.readAt (Elt F) (Rect.unit (s := S8x64) ![0, 0] S8x64.size inb_S8x64_S8x64_0_0).toLoadRect fs) 8) shapeCasts_S8x64_S8x64⟩]) := rfl

theorem fRows0_eq (f3 : Buf (Elt F) (arg3.view.loc (c : Thread nD τ))) (n : ℕ) (hn : n < 8) :
    fRows0 c arg3 f3 n = rowF (arg3.view.read (Elt F) f3) 0 n := by
  rcases n with _ | _ | _ | _ | _ | _ | _ | _ | n
  all_goals first | exact readAt_rowF arg3 _ _ (by omega) (by decide) _ f3 | omega

/-- The block's region: from the features, the history block and the scores to the history with the block's slabs and the
    scores after the eight steps. -/
theorem grp0_spec (v3 : Vec F S64x64 .f32) (v4 : Vec F S16x1 .i32) (X3 X5 : S8x16x64.Idx → Elt F .f32) (fv : S8x64.Idx → Elt F .f32) :
    (iprop(owns (c : Thread nD τ) arg3 fullShare X3 ∗ owns (c : Thread nD τ) arg5 fullShare X5 ∗ owns (c : Thread nD τ) arg8 fullShare fv) : sProp 𝕄)
      ⊢ wp frame (wpE (defs₀ (F := F)) 𝒱₀ (c : Thread nD τ) none) Set.univ (grp0 (F := F) i arg1 harg1 arg2 harg2 arg3 harg3 arg4 harg4 arg5 harg5 arg6 harg6 arg7 harg7 arg8 harg8 arg9 harg9 v3 v4 (tt i))
          fun _ => iprop(owns (c : Thread nD τ) arg3 fullShare X3
            ∗ owns (c : Thread nD τ) arg5 fullShare (hist 0 (fun n => slab (fvS v3 (lensG0 v4) (tt i) (rowF X3 0) fv n)) X5)
            ∗ owns (c : Thread nD τ) arg8 fullShare (fvS v3 (lensG0 v4) (tt i) (rowF X3 0) fv 8)) := by
  unfold owns
  rw [harg3.set_eq_univ, harg5.set_eq_univ, harg8.set_eq_univ]
  iintro ⟨⟨%f3, %h3, H3⟩, ⟨%f5, %h5, H5⟩, ⟨%fs, %hs, Hs⟩⟩
  ihave Hw := (grp0Run c i arg1 harg1 arg2 harg2 arg3 harg3 arg4 harg4 arg5 harg5 arg6 harg6 arg7 harg7 arg8 harg8 arg9 harg9 (tt i) v3 v4 f3 f5 fs).property $$ [H3 H5 Hs]
  · isplitl [H3]; · iexact H3
    isplitl [H5]; · iexact H5
    iexact Hs
  have hfv : arg8.view.readAt (Elt F) (Rect.unit (s := S8x64) ![0, 0] S8x64.size inb_S8x64_S8x64_0_0).toLoadRect fs = fv := by
    rw [← hs, View.readAt_eq_ld]
    exact View.ld_unit_zero (S := S8x64) hz _ _
  have hrow : ∀ n, n ≤ 8 → fvS v3 (lensG0 v4) (tt i) (fRows0 c arg3 f3) fv n = fvS v3 (lensG0 v4) (tt i) (rowF X3 0) fv n := fun n hn =>
    fvS_congr _ _ _ _ n fun k hk => by rw [fRows0_eq c arg3 f3 k (by omega), h3]
  iapply (wp_mono _ _ _ (Q := _) ?_) $$ Hw
  intro _
  iintro ⟨H3, H5, Hs⟩
  isplitl [H3]
  · iexists f3; isplitr; · ipureintro; exact h3
    iexact H3
  isplitl [H5]
  · iexists _; isplitr
    rotate_left
    · iexact H5
    · ipureintro
      rw [grp0_found, hfv]
      refine (read_hist arg5 f5 0 (fun n => slab (fvS v3 (lensG0 v4) (tt i) (fRows0 c arg3 f3) fv n)) (by decide) _ _ _ _ _ _ _ _).trans ?_
      rw [h5]
      exact hist_congr _ _ _ _ fun n hn => by rw [hrow n (by omega)]
  · iexists _; isplitr
    rotate_left
    · iexact Hs
    · ipureintro
      rw [grp0_found, hfv, hrow 8 (le_refl _), shapeCast_self]
      exact read_store_whole _ _ hz _ _

/-- The rows of features the steps read. -/
def fRows1 (f3 : Buf (Elt F) (arg3.view.loc (c : Thread nD τ))) : ℕ → Vec F S1x8x64 .f32
  | 0 => arg3.view.readAt (Elt F) (Rect.unit (s := S8x16x64) ![0, 8, 0] S1x8x64.size inb_S8x16x64_S1x8x64_0_8_0).toLoadRect f3
  | 1 => arg3.view.readAt (Elt F) (Rect.unit (s := S8x16x64) ![1, 8, 0] S1x8x64.size inb_S8x16x64_S1x8x64_1_8_0).toLoadRect f3
  | 2 => arg3.view.readAt (Elt F) (Rect.unit (s := S8x16x64) ![2, 8, 0] S1x8x64.size inb_S8x16x64_S1x8x64_2_8_0).toLoadRect f3
  | 3 => arg3.view.readAt (Elt F) (Rect.unit (s := S8x16x64) ![3, 8, 0] S1x8x64.size inb_S8x16x64_S1x8x64_3_8_0).toLoadRect f3
  | 4 => arg3.view.readAt (Elt F) (Rect.unit (s := S8x16x64) ![4, 8, 0] S1x8x64.size inb_S8x16x64_S1x8x64_4_8_0).toLoadRect f3
  | 5 => arg3.view.readAt (Elt F) (Rect.unit (s := S8x16x64) ![5, 8, 0] S1x8x64.size inb_S8x16x64_S1x8x64_5_8_0).toLoadRect f3
  | 6 => arg3.view.readAt (Elt F) (Rect.unit (s := S8x16x64) ![6, 8, 0] S1x8x64.size inb_S8x16x64_S1x8x64_6_8_0).toLoadRect f3
  | _ => arg3.view.readAt (Elt F) (Rect.unit (s := S8x16x64) ![7, 8, 0] S1x8x64.size inb_S8x16x64_S1x8x64_7_8_0).toLoadRect f3

/-- The pieces the run found are the slabs of the history and the scores after eight steps. -/
theorem grp1_found (v3 : Vec F S64x64 .f32) (v4 : Vec F S16x1 .i32)
    (f3 : Buf (Elt F) (arg3.view.loc (c : Thread nD τ))) (f5 : Buf (Elt F) (arg5.view.loc (c : Thread nD τ))) (fs : Buf (Elt F) (arg9.view.loc (c : Thread nD τ))) :
    (grp1Run c i arg1 harg1 arg2 harg2 arg3 harg3 arg4 harg4 arg5 harg5 arg6 harg6 arg7 harg7 arg8 harg8 arg9 harg9 (tt i) v3 v4 f3 f5 fs).val =
      ([⟨Rect.unit (s := S8x16x64) ![7, 8, 0] S1x8x64.size inb_S8x16x64_S1x8x64_7_8_0, slab (fvS v3 (lensG1 v4) (tt i) (fRows1 c arg3 f3) (arg9.view.readAt (Elt F) (Rect.unit (s := S8x64) ![0, 0] S8x64.size inb_S8x64_S8x64_0_0).toLoadRect fs) 7)⟩, ⟨Rect.unit (s := S8x16x64) ![6, 8, 0] S1x8x64.size inb_S8x16x64_S1x8x64_6_8_0, slab (fvS v3 (lensG1 v4) (tt i) (fRows1 c arg3 f3) (arg9.view.readAt (Elt F) (Rect.unit (s := S8x64) ![0, 0] S8x64.size inb_S8x64_S8x64_0_0).toLoadRect fs) 6)⟩, ⟨Rect.unit (s := S8x16x64) ![5, 8, 0] S1x8x64.size inb_S8x16x64_S1x8x64_5_8_0, slab (fvS v3 (lensG1 v4) (tt i) (fRows1 c arg3 f3) (arg9.view.readAt (Elt F) (Rect.unit (s := S8x64) ![0, 0] S8x64.size inb_S8x64_S8x64_0_0).toLoadRect fs) 5)⟩, ⟨Rect.unit (s := S8x16x64) ![4, 8, 0] S1x8x64.size inb_S8x16x64_S1x8x64_4_8_0, slab (fvS v3 (lensG1 v4) (tt i) (fRows1 c arg3 f3) (arg9.view.readAt (Elt F) (Rect.unit (s := S8x64) ![0, 0] S8x64.size inb_S8x64_S8x64_0_0).toLoadRect fs) 4)⟩, ⟨Rect.unit (s := S8x16x64) ![3, 8, 0] S1x8x64.size inb_S8x16x64_S1x8x64_3_8_0, slab (fvS v3 (lensG1 v4) (tt i) (fRows1 c arg3 f3) (arg9.view.readAt (Elt F) (Rect.unit (s := S8x64) ![0, 0] S8x64.size inb_S8x64_S8x64_0_0).toLoadRect fs) 3)⟩, ⟨Rect.unit (s := S8x16x64) ![2, 8, 0] S1x8x64.size inb_S8x16x64_S1x8x64_2_8_0, slab (fvS v3 (lensG1 v4) (tt i) (fRows1 c arg3 f3) (arg9.view.readAt (Elt F) (Rect.unit (s := S8x64) ![0, 0] S8x64.size inb_S8x64_S8x64_0_0).toLoadRect fs) 2)⟩, ⟨Rect.unit (s := S8x16x64) ![1, 8, 0] S1x8x64.size inb_S8x16x64_S1x8x64_1_8_0, slab (fvS v3 (lensG1 v4) (tt i) (fRows1 c arg3 f3) (arg9.view.readAt (Elt F) (Rect.unit (s := S8x64) ![0, 0] S8x64.size inb_S8x64_S8x64_0_0).toLoadRect fs) 1)⟩, ⟨Rect.unit (s := S8x16x64) ![0, 8, 0] S1x8x64.size inb_S8x16x64_S1x8x64_0_8_0, slab (fvS v3 (lensG1 v4) (tt i) (fRows1 c arg3 f3) (arg9.view.readAt (Elt F) (Rect.unit (s := S8x64) ![0, 0] S8x64.size inb_S8x64_S8x64_0_0).toLoadRect fs) 0)⟩],
       [⟨Rect.unit (s := S8x64) ![0, 0] S8x64.size inb_S8x64_S8x64_0_0, shapeCast S8x64 (fvS v3 (lensG1 v4) (tt i) (fRows1 c arg3 f3) (arg9.view.readAt (Elt F) (Rect.unit (s := S8x64) ![0, 0] S8x64.size inb_S8x64_S8x64_0_0).toLoadRect fs) 8) shapeCasts_S8x64_S8x64⟩]) := rfl

theorem fRows1_eq (f3 : Buf (Elt F) (arg3.view.loc (c : Thread nD τ))) (n : ℕ) (hn : n < 8) :
    fRows1 c arg3 f3 n = rowF (arg3.view.read (Elt F) f3) 8 n := by
  rcases n with _ | _ | _ | _ | _ | _ | _ | _ | n
  all_goals first | exact readAt_rowF arg3 _ _ (by omega) (by decide) _ f3 | omega

/-- The block's region: from the features, the history block and the scores to the history with the block's slabs and the
    scores after the eight steps. -/
theorem grp1_spec (v3 : Vec F S64x64 .f32) (v4 : Vec F S16x1 .i32) (X3 X5 : S8x16x64.Idx → Elt F .f32) (fv : S8x64.Idx → Elt F .f32) :
    (iprop(owns (c : Thread nD τ) arg3 fullShare X3 ∗ owns (c : Thread nD τ) arg5 fullShare X5 ∗ owns (c : Thread nD τ) arg9 fullShare fv) : sProp 𝕄)
      ⊢ wp frame (wpE (defs₀ (F := F)) 𝒱₀ (c : Thread nD τ) none) Set.univ (grp1 (F := F) i arg1 harg1 arg2 harg2 arg3 harg3 arg4 harg4 arg5 harg5 arg6 harg6 arg7 harg7 arg8 harg8 arg9 harg9 v3 v4 (tt i))
          fun _ => iprop(owns (c : Thread nD τ) arg3 fullShare X3
            ∗ owns (c : Thread nD τ) arg5 fullShare (hist 8 (fun n => slab (fvS v3 (lensG1 v4) (tt i) (rowF X3 8) fv n)) X5)
            ∗ owns (c : Thread nD τ) arg9 fullShare (fvS v3 (lensG1 v4) (tt i) (rowF X3 8) fv 8)) := by
  unfold owns
  rw [harg3.set_eq_univ, harg5.set_eq_univ, harg9.set_eq_univ]
  iintro ⟨⟨%f3, %h3, H3⟩, ⟨%f5, %h5, H5⟩, ⟨%fs, %hs, Hs⟩⟩
  ihave Hw := (grp1Run c i arg1 harg1 arg2 harg2 arg3 harg3 arg4 harg4 arg5 harg5 arg6 harg6 arg7 harg7 arg8 harg8 arg9 harg9 (tt i) v3 v4 f3 f5 fs).property $$ [H3 H5 Hs]
  · isplitl [H3]; · iexact H3
    isplitl [H5]; · iexact H5
    iexact Hs
  have hfv : arg9.view.readAt (Elt F) (Rect.unit (s := S8x64) ![0, 0] S8x64.size inb_S8x64_S8x64_0_0).toLoadRect fs = fv := by
    rw [← hs, View.readAt_eq_ld]
    exact View.ld_unit_zero (S := S8x64) hz _ _
  have hrow : ∀ n, n ≤ 8 → fvS v3 (lensG1 v4) (tt i) (fRows1 c arg3 f3) fv n = fvS v3 (lensG1 v4) (tt i) (rowF X3 8) fv n := fun n hn =>
    fvS_congr _ _ _ _ n fun k hk => by rw [fRows1_eq c arg3 f3 k (by omega), h3]
  iapply (wp_mono _ _ _ (Q := _) ?_) $$ Hw
  intro _
  iintro ⟨H3, H5, Hs⟩
  isplitl [H3]
  · iexists f3; isplitr; · ipureintro; exact h3
    iexact H3
  isplitl [H5]
  · iexists _; isplitr
    rotate_left
    · iexact H5
    · ipureintro
      rw [grp1_found, hfv]
      refine (read_hist arg5 f5 8 (fun n => slab (fvS v3 (lensG1 v4) (tt i) (fRows1 c arg3 f3) fv n)) (by decide) _ _ _ _ _ _ _ _).trans ?_
      rw [h5]
      exact hist_congr _ _ _ _ fun n hn => by rw [hrow n (by omega)]
  · iexists _; isplitr
    rotate_left
    · iexact Hs
    · ipureintro
      rw [grp1_found, hfv, hrow 8 (le_refl _), shapeCast_self]
      exact read_store_whole _ _ hz _ _

end

end Cert.KernelIdeal.Fwd
-- ==== Proof.FwdBody.lean ====
/-
  The forward kernel's body at one grid point: its guarded regions in sequence, each by what it leaves.
-/
module

public import proofs.«01_k».proof.Proof.FwdSpec

@[expose] public section

set_option maxRecDepth 65536

noncomputable section

namespace Cert.KernelIdeal.Fwd

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Grid point `i` is the first: the scratch is set. -/
abbrev isFirst (i : grid0.Coords) : BitVec 1 := Scalar.cmpi .ne (Scalar.extui (Scalar.cmpi .eq (BitVec.ofNat 32 (i 0).val) 0#32) : BitVec 32) 0#32
/-- The block of rows whose longest row has length `l` still runs at grid point `i`. -/
abbrev onB (i : grid0.Coords) (l : BitVec 32) : BitVec 1 := Scalar.cmpi .ne (Scalar.extui (Scalar.cmpi .slt (tt i) l) : BitVec 32) 0#32

/-- The scratch set at the first point. -/
def initP (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole) : Prog (TpuEff nD τ sig (Elt F) Λ₀ .tc) PUnit :=
  if k0_h1 : isFirst i = 1#1 then do
      let v24 : Vec F S8x64 .f32 ← Prog.lift (.load arg8 (Rect.unit (s := S8x64) ![0, 0] S8x64.size inb_S8x64_S8x64_0_0).toLoadRect (View.loadsAt_vmem h_S8x64))
      Prog.lift (.store arg8 (Rect.unit (s := S8x64) ![0, 0] S8x64.size inb_S8x64_S8x64_0_0) (k0_pay2 (F := F)) Finset.univ (View.stores_vmem_bits_univ h_S8x64 rfl) (.inl rfl))
      let v27 : Vec F S8x64 .f32 ← Prog.lift (.load arg9 (Rect.unit (s := S8x64) ![0, 0] S8x64.size inb_S8x64_S8x64_0_0).toLoadRect (View.loadsAt_vmem h_S8x64))
      Prog.lift (.store arg9 (Rect.unit (s := S8x64) ![0, 0] S8x64.size inb_S8x64_S8x64_0_0) (k0_pay3 (F := F)) Finset.univ (View.stores_vmem_bits_univ h_S8x64 rfl) (.inl rfl))
      pure ⟨⟩
  else pure ⟨⟩

/-- The results stored at the last point. -/
def lastP (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole) (v3 : Vec F S64x64 .f32) : Prog (TpuEff nD τ sig (Elt F) Λ₀ .tc) PUnit :=
  if k0_h4 : k0_cond4 i = 1#1 then do
      let v18 : Vec F S8x64 .f32 ← Prog.lift (.load arg8 (Rect.unit (s := S8x64) ![0, 0] S8x64.size inb_S8x64_S8x64_0_0).toLoadRect (View.loadsAt_vmem h_S8x64))
      let v19 : Vec F S8x64 .f32 ← Prog.lift (.load arg9 (Rect.unit (s := S8x64) ![0, 0] S8x64.size inb_S8x64_S8x64_0_0).toLoadRect (View.loadsAt_vmem h_S8x64))
      let v28 : Vec F S16x1 .f32 ← Prog.lift (.load arg6 (Rect.unit (s := S16x1) ![0, 0] S16x1.size inb_S16x1_S16x1_0_0).toLoadRect (View.loadsAt_vmem h_S16x1))
      Prog.lift (.store arg6 (Rect.unit (s := S16x1) ![0, 0] S16x1.size inb_S16x1_S16x1_0_0) (k0_pay12 v3 v18 v19) Finset.univ (View.stores_vmem_bits_univ h_S16x1 rfl) (.inl rfl))
      let v36 : Vec F S16x1 .i32 ← Prog.lift (.load arg7 (Rect.unit (s := S16x1) ![0, 0] S16x1.size inb_S16x1_S16x1_0_0).toLoadRect (View.loadsAt_vmem h_S16x1))
      Prog.lift (.store arg7 (Rect.unit (s := S16x1) ![0, 0] S16x1.size inb_S16x1_S16x1_0_0) (k0_pay13 v3 v18 v19) Finset.univ (View.stores_vmem_bits_univ h_S16x1 rfl) (.inl rfl))
      pure ⟨⟩
  else pure ⟨⟩

/-- The two blocks' regions, guarded. -/
def blk0P (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole) (v3 : Vec F S64x64 .f32) (v4 : Vec F S16x1 .i32) (v7 : BitVec 32) : Prog (TpuEff nD τ sig (Elt F) Λ₀ .tc) PUnit :=
  if onB i v7 = 1#1 then grp0 i arg1 harg1 arg2 harg2 arg3 harg3 arg4 harg4 arg5 harg5 arg6 harg6 arg7 harg7 arg8 harg8 arg9 harg9 v3 v4 (tt i) else pure ⟨⟩
def blk1P (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole) (v3 : Vec F S64x64 .f32) (v4 : Vec F S16x1 .i32) (v7 : BitVec 32) : Prog (TpuEff nD τ sig (Elt F) Λ₀ .tc) PUnit :=
  if onB i v7 = 1#1 then grp1 i arg1 harg1 arg2 harg2 arg3 harg3 arg4 harg4 arg5 harg5 arg6 harg6 arg7 harg7 arg8 harg8 arg9 harg9 v3 v4 (tt i) else pure ⟨⟩

/-- The body as the sequence of its regions. -/
def fwdP (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole) : Prog (TpuEff nD τ sig (Elt F) Λ₀ .tc) PUnit := do
  initP i arg1 harg1 arg2 harg2 arg3 harg3 arg4 harg4 arg5 harg5 arg6 harg6 arg7 harg7 arg8 harg8 arg9 harg9
  let v3 : Vec F S64x64 .f32 ← Prog.lift (.load arg4 (Rect.unit (s := S64x64) ![0, 0] S64x64.size inb_S64x64_S64x64_0_0).toLoadRect (View.loadsAt_vmem h_S64x64))
  let v4 : Vec F S16x1 .i32 ← Prog.lift (.load arg2 (Rect.unit (s := S16x1) ![0, 0] S16x1.size inb_S16x1_S16x1_0_0).toLoadRect (View.loadsAt_vmem h_S16x1))
  let v7 : Elt F .i32 ← smemLoad arg1 (Rect.unit (s := S16) ![0] S1.size inb_S16_S1_0) numel1_S1 rfl
  blk0P i arg1 harg1 arg2 harg2 arg3 harg3 arg4 harg4 arg5 harg5 arg6 harg6 arg7 harg7 arg8 harg8 arg9 harg9 v3 v4 v7
  let v11 : Elt F .i32 ← smemLoad arg1 (Rect.unit (s := S16) ![8] S1.size inb_S16_S1_8) numel1_S1 rfl
  blk1P i arg1 harg1 arg2 harg2 arg3 harg3 arg4 harg4 arg5 harg5 arg6 harg6 arg7 harg7 arg8 harg8 arg9 harg9 v3 v4 v11
  lastP i arg1 harg1 arg2 harg2 arg3 harg3 arg4 harg4 arg5 harg5 arg6 harg6 arg7 harg7 arg8 harg8 arg9 harg9 v3
  pure ⟨⟩

universe uE
theorem ite_bind {α β : Type} {E : Type → Type uE} (p : Prop) [Decidable p] (a b : Prog E α) (k : α → Prog E β) :
    (if p then a else b) >>= k = if p then a >>= k else b >>= k := by split <;> rfl
theorem dite_bind {α β : Type} {E : Type → Type uE} (p : Prop) [Decidable p] (a : p → Prog E α) (b : ¬p → Prog E α) (k : α → Prog E β) :
    (if h : p then a h else b h) >>= k = if h : p then a h >>= k else b h >>= k := by split <;> rfl

theorem fwd_eq : cc0__fwd_body_skel (F := F) = fwdP (F := F) := by
  funext i arg1 harg1 arg2 harg2 arg3 harg3 arg4 harg4 arg5 harg5 arg6 harg6 arg7 harg7 arg8 harg8 arg9 harg9
  unfold cc0__fwd_body_skel fwdP initP blk0P blk1P lastP grp0 grp1
  simp only [Prog.lift, Prog.bind_op, Prog.bind_ret, Prog.pure_eq_ret, Prog.bind_assoc, ite_bind, dite_bind]

/-- A whole buffer at its contents, as its location's points-to, and back. -/
theorem owns_open (c : Dev nD) {sp : Space} {s : Shape} {e : EltTy} (m : Memref sig .tc sp s e) (h : m.IsWhole) (X : s.Idx → Elt F e) :
    (owns (c : Thread nD τ) m fullShare X : sProp 𝕄) ⊢ iprop(∃ f, ⌜m.view.read (Elt F) f = X⌝ ∗ (m.view.loc (c : Thread nD τ) ↦{fullShare} f)) := by
  unfold owns
  rw [h.set_eq_univ]
theorem owns_close (c : Dev nD) {sp : Space} {s : Shape} {e : EltTy} (m : Memref sig .tc sp s e) (h : m.IsWhole) (X : s.Idx → Elt F e)
    (f : Buf (Elt F) (m.view.loc (c : Thread nD τ))) (hf : m.view.read (Elt F) f = X) :
    (iprop(m.view.loc (c : Thread nD τ) ↦{fullShare} f) : sProp 𝕄) ⊢ owns (c : Thread nD τ) m fullShare X := by
  unfold owns
  rw [h.set_eq_univ]
  iintro H
  iexists f; isplitr
  · ipureintro; exact hf
  · iexact H

section
variable (c : Dev nD) (i : grid0.Coords) (arg1 : Memref sig .tc .smem S16 .i32) (harg1 : arg1.IsWhole) (arg2 : Memref sig .tc .vmem S16x1 .i32) (harg2 : arg2.IsWhole) (arg3 : Memref sig .tc .vmem S8x16x64 .f32) (harg3 : arg3.IsWhole) (arg4 : Memref sig .tc .vmem S64x64 .f32) (harg4 : arg4.IsWhole) (arg5 : Memref sig .tc .vmem S8x16x64 .f32) (harg5 : arg5.IsWhole) (arg6 : Memref sig .tc .vmem S16x1 .f32) (harg6 : arg6.IsWhole) (arg7 : Memref sig .tc .vmem S16x1 .i32) (harg7 : arg7.IsWhole) (arg8 : Memref sig .tc .vmem S8x64 .f32) (harg8 : arg8.IsWhole) (arg9 : Memref sig .tc .vmem S8x64 .f32) (harg9 : arg9.IsWhole)

/-- The scores a grid point starts from: the initial scores at the first point, else what the point before left. -/
def stS (i : grid0.Coords) (Y : FVec F S8x64 .f32) : FVec F S8x64 .f32 := if isFirst i = 1#1 then k0_pay1 else Y

theorem init_spec (Y8 Y9 : S8x64.Idx → Elt F .f32) :
    (iprop(owns (c : Thread nD τ) arg8 fullShare (Y8) ∗ owns (c : Thread nD τ) arg9 fullShare (Y9)) : sProp 𝕄)
      ⊢ wp frame (wpE (defs₀ (F := F)) 𝒱₀ (c : Thread nD τ) none) Set.univ (initP (F := F) i arg1 harg1 arg2 harg2 arg3 harg3 arg4 harg4 arg5 harg5 arg6 harg6 arg7 harg7 arg8 harg8 arg9 harg9) fun _ => iprop(owns (c : Thread nD τ) arg8 fullShare (stS i Y8) ∗ owns (c : Thread nD τ) arg9 fullShare (stS i Y9)) := by
  by_cases h : isFirst i = 1#1
  · simp only [initP, stS, dif_pos h, if_pos h]
    unfold owns
    rw [harg8.set_eq_univ, harg9.set_eq_univ]
    iintro ⟨⟨%f8, %h8, H8⟩, ⟨%f9, %h9, H9⟩⟩
    sl_exec
    sl_step
    isplitl [H8]
    · iexists _; isplitr
      rotate_left
      · iexact H8
      · ipureintro
        exact (read_store_whole _ _ hz _ _).trans (shapeCast_self _ _)
    · iexists _; isplitr
      rotate_left
      · iexact H9
      · ipureintro
        exact (read_store_whole _ _ hz _ _).trans (shapeCast_self _ _)
  · simp only [initP, stS, dif_neg h, if_neg h]
    iintro H
    sl_step
    iexact H

/-- What the last point leaves in the score and tag blocks. -/
def scS (i : grid0.Coords) (v3 : Vec F S64x64 .f32) (Y8 Y9 : FVec F S8x64 .f32) (X : S16x1.Idx → Elt F .f32) : S16x1.Idx → Elt F .f32 :=
  if k0_cond4 i = 1#1 then k0_pay12 v3 Y8 Y9 else X
def tgS (i : grid0.Coords) (v3 : Vec F S64x64 .f32) (Y8 Y9 : FVec F S8x64 .f32) (X : S16x1.Idx → Elt F .i32) : S16x1.Idx → Elt F .i32 :=
  if k0_cond4 i = 1#1 then k0_pay13 v3 Y8 Y9 else X

theorem last_spec (v3 : Vec F S64x64 .f32) (X6 : S16x1.Idx → Elt F .f32) (X7 : S16x1.Idx → Elt F .i32) (Y8 Y9 : S8x64.Idx → Elt F .f32) :
    (iprop(owns (c : Thread nD τ) arg6 fullShare (X6) ∗ owns (c : Thread nD τ) arg7 fullShare (X7) ∗ owns (c : Thread nD τ) arg8 fullShare (Y8) ∗ owns (c : Thread nD τ) arg9 fullShare (Y9)) : sProp 𝕄)
      ⊢ wp frame (wpE (defs₀ (F := F)) 𝒱₀ (c : Thread nD τ) none) Set.univ (lastP (F := F) i arg1 harg1 arg2 harg2 arg3 harg3 arg4 harg4 arg5 harg5 arg6 harg6 arg7 harg7 arg8 harg8 arg9 harg9 v3) fun _ => iprop(owns (c : Thread nD τ) arg6 fullShare (scS i v3 Y8 Y9 X6) ∗ owns (c : Thread nD τ) arg7 fullShare (tgS i v3 Y8 Y9 X7) ∗ owns (c : Thread nD τ) arg8 fullShare (Y8) ∗ owns (c : Thread nD τ) arg9 fullShare (Y9)) := by
  by_cases h : k0_cond4 i = 1#1
  · simp only [lastP, scS, tgS, dif_pos h, if_pos h]
    unfold owns
    rw [harg6.set_eq_univ, harg7.set_eq_univ, harg8.set_eq_univ, harg9.set_eq_univ]
    iintro ⟨⟨%f6, %h6, H6⟩, ⟨%f7, %h7, H7⟩, ⟨%f8, %h8, H8⟩, ⟨%f9, %h9, H9⟩⟩
    have e8 : arg8.view.readAt (Elt F) (Rect.unit (s := S8x64) ![0, 0] S8x64.size inb_S8x64_S8x64_0_0).toLoadRect f8 = Y8 := by
      rw [← h8, View.readAt_eq_ld]
      exact View.ld_unit_zero (S := S8x64) hz _ _
    have e9 : arg9.view.readAt (Elt F) (Rect.unit (s := S8x64) ![0, 0] S8x64.size inb_S8x64_S8x64_0_0).toLoadRect f9 = Y9 := by
      rw [← h9, View.readAt_eq_ld]
      exact View.ld_unit_zero (S := S8x64) hz _ _
    sl_exec
    sl_step
    isplitl [H6]
    · iexists _; isplitr
      rotate_left
      · iexact H6
      · ipureintro
        exact read_store_whole _ _ hz _ _
    isplitl [H7]
    · iexists _; isplitr
      rotate_left
      · iexact H7
      · ipureintro
        exact read_store_whole _ _ hz _ _
    isplitl [H8]
    · iexists f8; isplitr
      · ipureintro; exact h8
      · iexact H8
    · iexists f9; isplitr
      · ipureintro; exact h9
      · iexact H9
  · simp only [lastP, scS, tgS, dif_neg h, if_neg h]
    iintro H
    sl_step
    iexact H

/-- The history block and the scores after a block's guarded region. -/
def hisS (i : grid0.Coords) (o : ℕ) (l : BitVec 32) (v3 : Vec F S64x64 .f32) (lg : Vec F S8x1 .i32) (X3 : S8x16x64.Idx → Elt F .f32) (fv : FVec F S8x64 .f32)
    (X5 : S8x16x64.Idx → Elt F .f32) : S8x16x64.Idx → Elt F .f32 :=
  if onB i l = 1#1 then hist o (fun n => slab (fvS v3 lg (tt i) (rowF X3 o) fv n)) X5 else X5
def fvE (i : grid0.Coords) (o : ℕ) (l : BitVec 32) (v3 : Vec F S64x64 .f32) (lg : Vec F S8x1 .i32) (X3 : S8x16x64.Idx → Elt F .f32) (fv : FVec F S8x64 .f32) :
    FVec F S8x64 .f32 := if onB i l = 1#1 then fvS v3 lg (tt i) (rowF X3 o) fv 8 else fv

theorem blk0_spec (v3 : Vec F S64x64 .f32) (v4 : Vec F S16x1 .i32) (l : Elt F .i32) (X3 X5 : S8x16x64.Idx → Elt F .f32) (fv : S8x64.Idx → Elt F .f32) :
    (iprop(owns (c : Thread nD τ) arg3 fullShare (X3) ∗ owns (c : Thread nD τ) arg5 fullShare (X5) ∗ owns (c : Thread nD τ) arg8 fullShare (fv)) : sProp 𝕄)
      ⊢ wp frame (wpE (defs₀ (F := F)) 𝒱₀ (c : Thread nD τ) none) Set.univ (blk0P (F := F) i arg1 harg1 arg2 harg2 arg3 harg3 arg4 harg4 arg5 harg5 arg6 harg6 arg7 harg7 arg8 harg8 arg9 harg9 v3 v4 l) fun _ => iprop(owns (c : Thread nD τ) arg3 fullShare (X3) ∗ owns (c : Thread nD τ) arg5 fullShare (hisS i 0 l v3 (lensG0 v4) X3 fv X5) ∗ owns (c : Thread nD τ) arg8 fullShare (fvE i 0 l v3 (lensG0 v4) X3 fv)) := by
  by_cases h : onB i l = 1#1
  · simp only [blk0P, hisS, fvE, if_pos h]
    exact grp0_spec c i arg1 harg1 arg2 harg2 arg3 harg3 arg4 harg4 arg5 harg5 arg6 harg6 arg7 harg7 arg8 harg8 arg9 harg9 v3 v4 X3 X5 fv
  · simp only [blk0P, hisS, fvE, if_neg h]
    iintro H
    sl_step
    iexact H

theorem blk1_spec (v3 : Vec F S64x64 .f32) (v4 : Vec F S16x1 .i32) (l : Elt F .i32) (X3 X5 : S8x16x64.Idx → Elt F .f32) (fv : S8x64.Idx → Elt F .f32) :
    (iprop(owns (c : Thread nD τ) arg3 fullShare (X3) ∗ owns (c : Thread nD τ) arg5 fullShare (X5) ∗ owns (c : Thread nD τ) arg9 fullShare (fv)) : sProp 𝕄)
      ⊢ wp frame (wpE (defs₀ (F := F)) 𝒱₀ (c : Thread nD τ) none) Set.univ (blk1P (F := F) i arg1 harg1 arg2 harg2 arg3 harg3 arg4 harg4 arg5 harg5 arg6 harg6 arg7 harg7 arg8 harg8 arg9 harg9 v3 v4 l) fun _ => iprop(owns (c : Thread nD τ) arg3 fullShare (X3) ∗ owns (c : Thread nD τ) arg5 fullShare (hisS i 8 l v3 (lensG1 v4) X3 fv X5) ∗ owns (c : Thread nD τ) arg9 fullShare (fvE i 8 l v3 (lensG1 v4) X3 fv)) := by
  by_cases h : onB i l = 1#1
  · simp only [blk1P, hisS, fvE, if_pos h]
    exact grp1_spec c i arg1 harg1 arg2 harg2 arg3 harg3 arg4 harg4 arg5 harg5 arg6 harg6 arg7 harg7 arg8 harg8 arg9 harg9 v3 v4 X3 X5 fv
  · simp only [blk1P, hisS, fvE, if_neg h]
    iintro H
    sl_step
    iexact H

/-- The word of a row in the table of lengths. -/
abbrev ixL (n : ℕ) (h : n < 16) : S16.Idx := ValueIdx.ix1 (n := 16) ⟨n, h⟩

/-- The body at a grid point, from the blocks and the scores to what it leaves. -/
theorem fwd_spec (X1 : S16.Idx → Elt F .i32) (X2 : S16x1.Idx → Elt F .i32) (X3 : S8x16x64.Idx → Elt F .f32) (X4 : S64x64.Idx → Elt F .f32) (X5 : S8x16x64.Idx → Elt F .f32)
    (X6 : S16x1.Idx → Elt F .f32) (X7 : S16x1.Idx → Elt F .i32) (Y8 Y9 : S8x64.Idx → Elt F .f32) :
    (iprop(owns (c : Thread nD τ) arg1 fullShare (X1) ∗ owns (c : Thread nD τ) arg2 fullShare (X2) ∗ owns (c : Thread nD τ) arg3 fullShare (X3) ∗ owns (c : Thread nD τ) arg4 fullShare (X4) ∗ owns (c : Thread nD τ) arg5 fullShare (X5) ∗ owns (c : Thread nD τ) arg6 fullShare (X6) ∗ owns (c : Thread nD τ) arg7 fullShare (X7) ∗ owns (c : Thread nD τ) arg8 fullShare (Y8) ∗ owns (c : Thread nD τ) arg9 fullShare (Y9)) : sProp 𝕄)
      ⊢ wp frame (wpE (defs₀ (F := F)) 𝒱₀ (c : Thread nD τ) none) Set.univ (cc0__fwd_body (F := F) i arg1 harg1 arg2 harg2 arg3 harg3 arg4 harg4 arg5 harg5 arg6 harg6 arg7 harg7 arg8 harg8 arg9 harg9) fun _ =>
        iprop(owns (c : Thread nD τ) arg1 fullShare (X1) ∗ owns (c : Thread nD τ) arg2 fullShare (X2) ∗ owns (c : Thread nD τ) arg3 fullShare (X3) ∗ owns (c : Thread nD τ) arg4 fullShare (X4)
          ∗ owns (c : Thread nD τ) arg5 fullShare (hisS i 8 (X1 (ixL 8 (by decide))) X4 (lensG1 X2) X3 (stS i Y9) (hisS i 0 (X1 (ixL 0 (by decide))) X4 (lensG0 X2) X3 (stS i Y8) X5))
          ∗ owns (c : Thread nD τ) arg6 fullShare (scS i X4 (fvE i 0 (X1 (ixL 0 (by decide))) X4 (lensG0 X2) X3 (stS i Y8)) (fvE i 8 (X1 (ixL 8 (by decide))) X4 (lensG1 X2) X3 (stS i Y9)) X6)
          ∗ owns (c : Thread nD τ) arg7 fullShare (tgS i X4 (fvE i 0 (X1 (ixL 0 (by decide))) X4 (lensG0 X2) X3 (stS i Y8)) (fvE i 8 (X1 (ixL 8 (by decide))) X4 (lensG1 X2) X3 (stS i Y9)) X7)
          ∗ owns (c : Thread nD τ) arg8 fullShare (fvE i 0 (X1 (ixL 0 (by decide))) X4 (lensG0 X2) X3 (stS i Y8))
          ∗ owns (c : Thread nD τ) arg9 fullShare (fvE i 8 (X1 (ixL 8 (by decide))) X4 (lensG1 X2) X3 (stS i Y9))) := by
  rw [cc0__fwd_body_eq_skeleton, fwd_eq]
  unfold fwdP
  rw [wp_bind]
  iintro ⟨H1, H2, H3, H4, H5, H6, H7, H8, H9⟩
  ihave Hw := init_spec c i arg1 harg1 arg2 harg2 arg3 harg3 arg4 harg4 arg5 harg5 arg6 harg6 arg7 harg7 arg8 harg8 arg9 harg9 Y8 Y9 $$ [H8 H9]
  · isplitl [H8]; · iexact H8
    iexact H9
  iapply (wp_wand _ _ _) $$ Hw
  iintro %_ ⟨H8, H9⟩
  ihave H1 := owns_open c arg1 harg1 X1 $$ H1
  ihave H2 := owns_open c arg2 harg2 X2 $$ H2
  ihave H4 := owns_open c arg4 harg4 X4 $$ H4
  icases H1 with ⟨%f1, %h1, H1⟩
  icases H2 with ⟨%f2, %h2, H2⟩
  icases H4 with ⟨%f4, %h4, H4⟩
  have e2 : arg2.view.readAt (Elt F) (Rect.unit (s := S16x1) ![0, 0] S16x1.size inb_S16x1_S16x1_0_0).toLoadRect f2 = X2 := by
    rw [← h2, View.readAt_eq_ld]
    exact View.ld_unit_zero (S := S16x1) hz _ _
  have e4 : arg4.view.readAt (Elt F) (Rect.unit (s := S64x64) ![0, 0] S64x64.size inb_S64x64_S64x64_0_0).toLoadRect f4 = X4 := by
    rw [← h4, View.readAt_eq_ld]
    exact View.ld_unit_zero (S := S64x64) hz _ _
  sl_exec
  have e1 : fwd_spec.sl.r arg1 f1 = X1 (ixL 0 (by decide)) := by
    sl_unfold_words
    rw [View.readAt_eq_ld, h1]
    refine congrArg X1 (funext fun a => ?_)
    match a with | ⟨0, _⟩ => rfl
  rw [e1]
  ihave Hw := blk0_spec c i arg1 harg1 arg2 harg2 arg3 harg3 arg4 harg4 arg5 harg5 arg6 harg6 arg7 harg7 arg8 harg8 arg9 harg9 X4 X2 (X1 (ixL 0 (by decide))) X3 X5 (stS i Y8) $$ [H3 H5 H8]
  · isplitl [H3]; · iexact H3
    isplitl [H5]; · iexact H5
    iexact H8
  iapply (wp_wand _ _ _) $$ Hw
  iintro %_ ⟨H3, H5, H8⟩
  sl_exec
  have e1' : fwd_spec.sl.r_1 arg1 f1 = X1 (ixL 8 (by decide)) := by
    sl_unfold_words
    rw [View.readAt_eq_ld, h1]
    refine congrArg X1 (funext fun a => ?_)
    match a with | ⟨0, _⟩ => rfl
  rw [e1']
  ihave Hw := blk1_spec c i arg1 harg1 arg2 harg2 arg3 harg3 arg4 harg4 arg5 harg5 arg6 harg6 arg7 harg7 arg8 harg8 arg9 harg9 X4 X2 (X1 (ixL 8 (by decide))) X3 (hisS i 0 (X1 (ixL 0 (by decide))) X4 (lensG0 X2) X3 (stS i Y8) X5) (stS i Y9) $$ [H3 H5 H9]
  · isplitl [H3]; · iexact H3
    isplitl [H5]; · iexact H5
    iexact H9
  iapply (wp_wand _ _ _) $$ Hw
  iintro %_ ⟨H3, H5, H9⟩
  sl_exec
  ihave Hw := last_spec c i arg1 harg1 arg2 harg2 arg3 harg3 arg4 harg4 arg5 harg5 arg6 harg6 arg7 harg7 arg8 harg8 arg9 harg9 X4 X6 X7 (fvE i 0 (X1 (ixL 0 (by decide))) X4 (lensG0 X2) X3 (stS i Y8)) (fvE i 8 (X1 (ixL 8 (by decide))) X4 (lensG1 X2) X3 (stS i Y9)) $$ [H6 H7 H8 H9]
  · isplitl [H6]; · iexact H6
    isplitl [H7]; · iexact H7
    isplitl [H8]; · iexact H8
    iexact H9
  iapply (wp_wand _ _ _) $$ Hw
  iintro %_ ⟨H6, H7, H8, H9⟩
  sl_step
  isplitl [H1]
  · iapply (owns_close c arg1 harg1 X1 f1 h1); iexact H1
  isplitl [H2]
  · iapply (owns_close c arg2 harg2 X2 f2 h2); iexact H2
  isplitl [H3]; · iexact H3
  isplitl [H4]
  · iapply (owns_close c arg4 harg4 X4 f4 h4); iexact H4
  isplitl [H5]; · iexact H5
  isplitl [H6]; · iexact H6
  isplitl [H7]; · iexact H7
  isplitl [H8]; · iexact H8
  iexact H9
end

end Cert.KernelIdeal.Fwd

end
-- ==== Proof.BwdChase.lean ====
/-
  The backward kernel's trip as sixteen steps of one and the same chase.
-/
module

public import proofs.«01_k».proof.Proof.FwdBody

@[expose] public section

set_option maxRecDepth 65536

noncomputable section

namespace Cert.KernelIdeal.Bwd

open Cert.KernelIdeal Cert.KernelIdeal.Gen Cert.KernelIdeal.Run Cert.KernelIdeal.Fwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UU nD τ) ℕ

/-- The row index that trip `n` chases at its step `q`. -/
def tOf (n : Fin k1_t1_loop.trips) (q : Fin 16) : BitVec 32 := Scalar.subi (Scalar.subi 2047#32 (Scalar.muli (Scf.iv 0#32 1#32 n) 16#32)) (BitVec.ofNat 32 q.val)

/-- Whether bit `b` of the tag is set. -/
def bitM (b : BitVec 32) (tag : IVec S16x64 32) : IVec S16x64 1 := cmpi .ne (andi tag (broadcast S16x64 b)) (broadcast S16x64 0#32)

/-- One level of the choice: of each pair the one that the bit names. -/
def pick (m : IVec S16x64 1) (f : ℕ → FVec F S16x64 .f32) : ℕ → FVec F S16x64 .f32 := fun i => select m (f (2 * i + 1)) (f (2 * i))

/-- The row that the tag names. -/
def tree (rows : ℕ → FVec F S16x64 .f32) (tag : IVec S16x64 32) : FVec F S16x64 .f32 :=
  pick (bitM 32#32 tag) (pick (bitM 16#32 tag) (pick (bitM 8#32 tag) (pick (bitM 4#32 tag) (pick (bitM 2#32 tag) (pick (bitM 1#32 tag) rows))))) 0

/-- The rows that are still running at row index `t`. -/
def act (v3 : IVec S16x64 32) (t : BitVec 32) : IVec S16x64 1 := cmpi .slt (broadcast S16x64 t) v3

/-- The scores that the tag's row gives. -/
def scr (rows : ℕ → FVec F S16x64 .f32) (tag : IVec S16x64 32) (x : FVec F S1x16x64 .f32) : FVec F S16x64 .f32 :=
  addf (shapeCast S16x64 (shapeCast S1x16x64 x shapeCasts_S1x16x64_S1x16x64) shapeCasts_S1x16x64_S16x64) (tree rows tag)

/-- The first index that holds the greatest score. -/
def am (v6 : FVec F S16x64 .f32) (s : FVec F S16x64 .f32) : IVec S16x64 32 :=
  fptosi 32 (broadcastTo S16x64 (shapeCast S16x1 (shapeCast S16x1 (multiReduction .minimumf [1] S16
    (select (cmpf .oeq s (broadcastTo S16x64 (shapeCast S16x1 (shapeCast S16x1 (multiReduction .maximumf [1] S16 s 0xFF800000#32 reduces_S16x64_S16 (.inl rfl) rfl) shapeCasts_S16_S16x1) shapeCasts_S16x1_S16x1) broadcasts_S16x1_S16x64))
      v6 (broadcast S16x64 (Scalar.ofBits .f32 0x42800000#32))) 0x7F800000#32 reduces_S16x64_S16 (.inl rfl) rfl) shapeCasts_S16_S16x1) shapeCasts_S16x1_S16x1) broadcasts_S16x1_S16x64)

/-- The tag after a chase. -/
def nextTag (v3 : IVec S16x64 32) (v6 : FVec F S16x64 .f32) (rows : ℕ → FVec F S16x64 .f32) (t : BitVec 32) (tag : IVec S16x64 32) (x : FVec F S1x16x64 .f32) : IVec S16x64 32 :=
  select (act v3 t) (am v6 (scr rows tag x)) tag

/-- The row that a chase writes. -/
def outRow (v3 : IVec S16x64 32) (t : BitVec 32) (tag : IVec S16x64 32) : IVec S1x16x1 32 :=
  shapeCast S1x16x1 (select (extractStridedSlice S16x1 ![0, 0] (act v3 t) slices_S16x64_o0_0_S16x1) (extractStridedSlice S16x1 ![0, 0] tag slices_S16x64_o0_0_S16x1) (broadcast S16x1 4294967295#32)) shapeCasts_S16x1_S1x16x1

/-- One chase. -/
def chase (arg0 : Memref sig .tc .vmem S2048x16x64 .f32) (arg4 : Memref sig .tc .vmem S2048x16x1 .i32)
    (v3 : IVec S16x64 32) (v6 : FVec F S16x64 .f32) (rows : ℕ → FVec F S16x64 .f32) (n : Fin k1_t1_loop.trips) (q : Fin 16) (tag : IVec S16x64 32) : Prog (TpuEff nD τ sig (Elt F) Λ₀ .tc) (IVec S16x64 32) := do
  let _ : Vec F S1x16x1 .i32 ← Prog.lift (.load arg4 (Rect.unit (s := S2048x16x1) (k1_off1 n (BitVec.ofNat 32 q.val)) S1x16x1.size (k1_off1_inb n q)).toLoadRect (View.loadsAt_vmem h_S1x16x1))
  Prog.lift (.store arg4 (Rect.unit (s := S2048x16x1) (k1_off1 n (BitVec.ofNat 32 q.val)) S1x16x1.size (k1_off1_inb n q)) (outRow v3 (tOf n q) tag) Finset.univ (View.stores_vmem_bits_univ h_S1x16x1 rfl) (.inl rfl))
  let x : Vec F S1x16x64 .f32 ← Prog.lift (.load arg0 (Rect.unit (s := S2048x16x64) (k1_off2 n (BitVec.ofNat 32 q.val)) S1x16x64.size (k1_off2_inb n q)).toLoadRect (View.loadsAt_vmem h_S1x16x64))
  pure (nextTag v3 v6 rows (tOf n q) tag x)

/-- The trip over any sixty-four rows. -/
def bodyG (arg0 : Memref sig .tc .vmem S2048x16x64 .f32) (harg0 : arg0.IsWhole) (arg1 : Memref sig .tc .vmem S64x64 .f32) (harg1 : arg1.IsWhole) (arg2 : Memref sig .tc .vmem S16x1 .i32) (harg2 : arg2.IsWhole) (arg3 : Memref sig .tc .vmem S16x1 .i32) (harg3 : arg3.IsWhole) (arg4 : Memref sig .tc .vmem S2048x16x1 .i32) (harg4 : arg4.IsWhole)
    (v3 : IVec S16x64 32) (v6 : FVec F S16x64 .f32) (rows : ℕ → FVec F S16x64 .f32) (n : Fin k1_t1_loop.trips) (tag : IVec S16x64 32) : Prog (TpuEff nD τ sig (Elt F) Λ₀ .tc) (IVec S16x64 32) := do
  let ⟨v1931, v1934, v2033, v2035⟩ ← k1_part37 arg0 harg0 arg1 harg1 arg2 harg2 arg3 harg3 arg4 harg4 v3 v6 (rows 0) (rows 1) (rows 2) (rows 3) (rows 4) (rows 5) (rows 6) (rows 7) (rows 8) (rows 9) (rows 10) (rows 11) (rows 12) (rows 13) (rows 14) (rows 15) (rows 16) (rows 17) (rows 18) (rows 19) (rows 20) (rows 21) (rows 22) (rows 23) (rows 24) (rows 25) (rows 26) (rows 27) (rows 28) (rows 29) (rows 30) (rows 31) (rows 32) (rows 33) (rows 34) (rows 35) (rows 36) (rows 37) (rows 38) (rows 39) (rows 40) (rows 41) (rows 42) (rows 43) (rows 44) (rows 45) (rows 46) (rows 47) (rows 48) (rows 49) (rows 50) (rows 51) (rows 52) (rows 53) (rows 54) (rows 55) (rows 56) (rows 57) (rows 58) (rows 59) (rows 60) (rows 61) (rows 62) (rows 63) 0#32 1#32 n tag
  pure (k1_pay10 v6 v1931 v1934 v2033 v2035)

/-- Sixteen chases. -/
def chases (arg0 : Memref sig .tc .vmem S2048x16x64 .f32) (arg4 : Memref sig .tc .vmem S2048x16x1 .i32)
    (v3 : IVec S16x64 32) (v6 : FVec F S16x64 .f32) (rows : ℕ → FVec F S16x64 .f32) (n : Fin k1_t1_loop.trips) (tag : IVec S16x64 32) : Prog (TpuEff nD τ sig (Elt F) Λ₀ .tc) (IVec S16x64 32) := do
  let tag ← chase arg0 arg4 v3 v6 rows n 0 tag
  let tag ← chase arg0 arg4 v3 v6 rows n 1 tag
  let tag ← chase arg0 arg4 v3 v6 rows n 2 tag
  let tag ← chase arg0 arg4 v3 v6 rows n 3 tag
  let tag ← chase arg0 arg4 v3 v6 rows n 4 tag
  let tag ← chase arg0 arg4 v3 v6 rows n 5 tag
  let tag ← chase arg0 arg4 v3 v6 rows n 6 tag
  let tag ← chase arg0 arg4 v3 v6 rows n 7 tag
  let tag ← chase arg0 arg4 v3 v6 rows n 8 tag
  let tag ← chase arg0 arg4 v3 v6 rows n 9 tag
  let tag ← chase arg0 arg4 v3 v6 rows n 10 tag
  let tag ← chase arg0 arg4 v3 v6 rows n 11 tag
  let tag ← chase arg0 arg4 v3 v6 rows n 12 tag
  let tag ← chase arg0 arg4 v3 v6 rows n 13 tag
  let tag ← chase arg0 arg4 v3 v6 rows n 14 tag
  let tag ← chase arg0 arg4 v3 v6 rows n 15 tag
  pure tag

/-- Two requests agree when their effects and their continuations do. -/
theorem op_congr {E : Type → Type} {α β : Type} {e e' : E β} {k k' : β → Prog E α} (he : e = e') (hk : ∀ x, k x = k' x) : Prog.op e k = Prog.op e' k' := by
  subst he
  exact congrArg _ (funext hk)
/-- An equation between a chosen left side and right side. -/
theorem asEq {α : Type} (a b : α) (h : a = b) : a = b := h

/-- A chase and what follows it, as three requests. -/
theorem chase_bind {β : Type} (arg0 : Memref sig .tc .vmem S2048x16x64 .f32) (arg4 : Memref sig .tc .vmem S2048x16x1 .i32)
    (v3 : IVec S16x64 32) (v6 : FVec F S16x64 .f32) (rows : ℕ → FVec F S16x64 .f32) (n : Fin k1_t1_loop.trips) (q : Fin 16) (tag : IVec S16x64 32)
    (K : IVec S16x64 32 → Prog (TpuEff nD τ sig (Elt F) Λ₀ .tc) β) :
    (chase arg0 arg4 v3 v6 rows n q tag >>= K)
      = .op (.load arg4 (Rect.unit (s := S2048x16x1) (k1_off1 n (BitVec.ofNat 32 q.val)) S1x16x1.size (k1_off1_inb n q)).toLoadRect (View.loadsAt_vmem h_S1x16x1)) fun _ =>
        .op (.store arg4 (Rect.unit (s := S2048x16x1) (k1_off1 n (BitVec.ofNat 32 q.val)) S1x16x1.size (k1_off1_inb n q)) (outRow v3 (tOf n q) tag) Finset.univ (View.stores_vmem_bits_univ h_S1x16x1 rfl) (.inl rfl)) fun _ =>
        .op (.load arg0 (Rect.unit (s := S2048x16x64) (k1_off2 n (BitVec.ofNat 32 q.val)) S1x16x64.size (k1_off2_inb n q)).toLoadRect (View.loadsAt_vmem h_S1x16x64)) fun (x : Vec F S1x16x64 .f32) =>
        K (nextTag v3 v6 rows (tOf n q) tag x) := by
  rfl

set_option maxHeartbeats 4000000 in
/-- The trip is its sixteen chases. -/
theorem bodyG_eq (arg0 : Memref sig .tc .vmem S2048x16x64 .f32) (harg0 : arg0.IsWhole) (arg1 : Memref sig .tc .vmem S64x64 .f32) (harg1 : arg1.IsWhole) (arg2 : Memref sig .tc .vmem S16x1 .i32) (harg2 : arg2.IsWhole) (arg3 : Memref sig .tc .vmem S16x1 .i32) (harg3 : arg3.IsWhole) (arg4 : Memref sig .tc .vmem S2048x16x1 .i32) (harg4 : arg4.IsWhole)
    (v3 : IVec S16x64 32) (v6 : FVec F S16x64 .f32) (rows : ℕ → FVec F S16x64 .f32) (n : Fin k1_t1_loop.trips) (tag : IVec S16x64 32) :
    bodyG arg0 harg0 arg1 harg1 arg2 harg2 arg3 harg3 arg4 harg4 v3 v6 rows n tag = chases arg0 arg4 v3 v6 rows n tag := by
  unfold bodyG chases
  rw [k1_part37_eq_skeleton]
  unfold k1_part37_skel
  rw [chase_bind arg0 arg4 v3 v6 rows n 0 tag]
  simp only [k1_part1_eq_skeleton, k1_part1_skel, k1_part2_eq_skeleton, k1_part2_skel, k1_part3_eq_skeleton, k1_part3_skel, Prog.lift, Prog.bind_op, Prog.bind_ret, Prog.pure_eq_ret, Prog.bind_assoc, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68]
  refine op_congr rfl fun _ => op_congr rfl fun _ => op_congr rfl fun x0 => ?_
  rw [asEq (k1_pay48 _ _ _ _ _) (nextTag v3 v6 rows (tOf n 0) tag x0) ?h0]
  case h0 => rfl
  generalize nextTag v3 v6 rows (tOf n 0) tag x0 = tag1
  rw [chase_bind arg0 arg4 v3 v6 rows n 1 tag1]
  simp only [k1_part4_eq_skeleton, k1_part4_skel, k1_part5_eq_skeleton, k1_part5_skel, Prog.lift, Prog.bind_op, Prog.bind_ret, Prog.pure_eq_ret, Prog.bind_assoc, k1_pay79, k1_pay80]
  refine op_congr rfl fun _ => op_congr rfl fun _ => op_congr rfl fun x1 => ?_
  rw [asEq (k1_pay77 _ _ _ _ _ _ _ _ _ _) (nextTag v3 v6 rows (tOf n 1) tag1 x1) ?h1]
  case h1 => rfl
  generalize nextTag v3 v6 rows (tOf n 1) tag1 x1 = tag2
  rw [chase_bind arg0 arg4 v3 v6 rows n 2 tag2]
  simp only [k1_part6_eq_skeleton, k1_part6_skel, k1_part7_eq_skeleton, k1_part7_skel, Prog.lift, Prog.bind_op, Prog.bind_ret, Prog.pure_eq_ret, Prog.bind_assoc]
  refine op_congr rfl fun _ => op_congr rfl fun _ => op_congr rfl fun x2 => ?_
  rw [asEq (k1_pay99 _ _ _ _ _ _ _ _ _ _ _ _ _ _ _ _ _ _ _ _ _) (nextTag v3 v6 rows (tOf n 2) tag2 x2) ?h2]
  case h2 => rfl
  generalize nextTag v3 v6 rows (tOf n 2) tag2 x2 = tag3
  rw [chase_bind arg0 arg4 v3 v6 rows n 3 tag3]
  simp only [k1_part8_eq_skeleton, k1_part8_skel, k1_part9_eq_skeleton, k1_part9_skel, k1_part10_eq_skeleton, k1_part10_skel, Prog.lift, Prog.bind_op, Prog.bind_ret, Prog.pure_eq_ret, Prog.bind_assoc, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162]
  refine op_congr rfl fun _ => op_congr rfl fun _ => op_congr rfl fun x3 => ?_
  rw [asEq (k1_pay133 _ _ _ _ _) (nextTag v3 v6 rows (tOf n 3) tag3 x3) ?h3]
  case h3 => rfl
  generalize nextTag v3 v6 rows (tOf n 3) tag3 x3 = tag4
  rw [chase_bind arg0 arg4 v3 v6 rows n 4 tag4]
  simp only [k1_part11_eq_skeleton, k1_part11_skel, k1_part12_eq_skeleton, k1_part12_skel, Prog.lift, Prog.bind_op, Prog.bind_ret, Prog.pure_eq_ret, Prog.bind_assoc, k1_pay171, k1_pay172, k1_pay173, k1_pay174, k1_pay175, k1_pay176, k1_pay177, k1_pay178, k1_pay179, k1_pay180, k1_pay181]
  refine op_congr rfl fun _ => op_congr rfl fun _ => op_congr rfl fun x4 => ?_
  rw [asEq (k1_pay169 _ _ _ _ _ _) (nextTag v3 v6 rows (tOf n 4) tag4 x4) ?h4]
  case h4 => rfl
  generalize nextTag v3 v6 rows (tOf n 4) tag4 x4 = tag5
  rw [chase_bind arg0 arg4 v3 v6 rows n 5 tag5]
  simp only [k1_part13_eq_skeleton, k1_part13_skel, k1_part14_eq_skeleton, k1_part14_skel, Prog.lift, Prog.bind_op, Prog.bind_ret, Prog.pure_eq_ret, Prog.bind_assoc, k1_pay194]
  refine op_congr rfl fun _ => op_congr rfl fun _ => op_congr rfl fun x5 => ?_
  rw [asEq (k1_pay192 _ _ _ _ _ _ _ _ _ _ _ _ _) (nextTag v3 v6 rows (tOf n 5) tag5 x5) ?h5]
  case h5 => rfl
  generalize nextTag v3 v6 rows (tOf n 5) tag5 x5 = tag6
  rw [chase_bind arg0 arg4 v3 v6 rows n 6 tag6]
  simp only [k1_part15_eq_skeleton, k1_part15_skel, k1_part16_eq_skeleton, k1_part16_skel, k1_part17_eq_skeleton, k1_part17_skel, Prog.lift, Prog.bind_op, Prog.bind_ret, Prog.pure_eq_ret, Prog.bind_assoc, k1_pay218, k1_pay219, k1_pay220, k1_pay221, k1_pay222, k1_pay223, k1_pay224, k1_pay225, k1_pay226, k1_pay227, k1_pay228, k1_pay229, k1_pay230, k1_pay231, k1_pay232, k1_pay233, k1_pay234, k1_pay235, k1_pay236, k1_pay237, k1_pay238, k1_pay239, k1_pay240, k1_pay241, k1_pay242, k1_pay243, k1_pay244, k1_pay245, k1_pay246, k1_pay247, k1_pay248, k1_pay249, k1_pay250, k1_pay251, k1_pay252]
  refine op_congr rfl fun _ => op_congr rfl fun _ => op_congr rfl fun x6 => ?_
  rw [asEq (k1_pay216 _ _ _) (nextTag v3 v6 rows (tOf n 6) tag6 x6) ?h6]
  case h6 => rfl
  generalize nextTag v3 v6 rows (tOf n 6) tag6 x6 = tag7
  rw [chase_bind arg0 arg4 v3 v6 rows n 7 tag7]
  simp only [k1_part18_eq_skeleton, k1_part18_skel, k1_part19_eq_skeleton, k1_part19_skel, Prog.lift, Prog.bind_op, Prog.bind_ret, Prog.pure_eq_ret, Prog.bind_assoc, k1_pay256, k1_pay257, k1_pay258, k1_pay259, k1_pay260, k1_pay261, k1_pay262, k1_pay263, k1_pay264, k1_pay265, k1_pay266, k1_pay267, k1_pay268, k1_pay269, k1_pay270, k1_pay271, k1_pay272, k1_pay273, k1_pay274, k1_pay275]
  refine op_congr rfl fun _ => op_congr rfl fun _ => op_congr rfl fun x7 => ?_
  rw [asEq (k1_pay254 _ _ _ _ _) (nextTag v3 v6 rows (tOf n 7) tag7 x7) ?h7]
  case h7 => rfl
  generalize nextTag v3 v6 rows (tOf n 7) tag7 x7 = tag8
  rw [chase_bind arg0 arg4 v3 v6 rows n 8 tag8]
  simp only [k1_part20_eq_skeleton, k1_part20_skel, k1_part21_eq_skeleton, k1_part21_skel, Prog.lift, Prog.bind_op, Prog.bind_ret, Prog.pure_eq_ret, Prog.bind_assoc, k1_pay285, k1_pay286, k1_pay287]
  refine op_congr rfl fun _ => op_congr rfl fun _ => op_congr rfl fun x8 => ?_
  rw [asEq (k1_pay283 _ _ _ _ _ _ _ _) (nextTag v3 v6 rows (tOf n 8) tag8 x8) ?h8]
  case h8 => rfl
  generalize nextTag v3 v6 rows (tOf n 8) tag8 x8 = tag9
  rw [chase_bind arg0 arg4 v3 v6 rows n 9 tag9]
  simp only [k1_part22_eq_skeleton, k1_part22_skel, k1_part23_eq_skeleton, k1_part23_skel, Prog.lift, Prog.bind_op, Prog.bind_ret, Prog.pure_eq_ret, Prog.bind_assoc]
  refine op_congr rfl fun _ => op_congr rfl fun _ => op_congr rfl fun x9 => ?_
  rw [asEq (k1_pay305 _ _ _ _ _ _ _ _ _ _ _ _ _ _ _ _ _ _ _ _) (nextTag v3 v6 rows (tOf n 9) tag9 x9) ?h9]
  case h9 => rfl
  generalize nextTag v3 v6 rows (tOf n 9) tag9 x9 = tag10
  rw [chase_bind arg0 arg4 v3 v6 rows n 10 tag10]
  simp only [k1_part24_eq_skeleton, k1_part24_skel, k1_part25_eq_skeleton, k1_part25_skel, k1_part26_eq_skeleton, k1_part26_skel, Prog.lift, Prog.bind_op, Prog.bind_ret, Prog.pure_eq_ret, Prog.bind_assoc, k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay366, k1_pay367, k1_pay368, k1_pay369]
  refine op_congr rfl fun _ => op_congr rfl fun _ => op_congr rfl fun x10 => ?_
  rw [asEq (k1_pay339 _ _ _ _ _) (nextTag v3 v6 rows (tOf n 10) tag10 x10) ?h10]
  case h10 => rfl
  generalize nextTag v3 v6 rows (tOf n 10) tag10 x10 = tag11
  rw [chase_bind arg0 arg4 v3 v6 rows n 11 tag11]
  simp only [k1_part27_eq_skeleton, k1_part27_skel, k1_part28_eq_skeleton, k1_part28_skel, Prog.lift, Prog.bind_op, Prog.bind_ret, Prog.pure_eq_ret, Prog.bind_assoc, k1_pay378, k1_pay379, k1_pay380, k1_pay381, k1_pay382, k1_pay383, k1_pay384, k1_pay385, k1_pay386, k1_pay387, k1_pay388, k1_pay389]
  refine op_congr rfl fun _ => op_congr rfl fun _ => op_congr rfl fun x11 => ?_
  rw [asEq (k1_pay376 _ _ _ _ _ _ _) (nextTag v3 v6 rows (tOf n 11) tag11 x11) ?h11]
  case h11 => rfl
  generalize nextTag v3 v6 rows (tOf n 11) tag11 x11 = tag12
  rw [chase_bind arg0 arg4 v3 v6 rows n 12 tag12]
  simp only [k1_part29_eq_skeleton, k1_part29_skel, k1_part30_eq_skeleton, k1_part30_skel, Prog.lift, Prog.bind_op, Prog.bind_ret, Prog.pure_eq_ret, Prog.bind_assoc, k1_pay403]
  refine op_congr rfl fun _ => op_congr rfl fun _ => op_congr rfl fun x12 => ?_
  rw [asEq (k1_pay401 _ _ _ _ _ _ _ _ _ _ _ _ _) (nextTag v3 v6 rows (tOf n 12) tag12 x12) ?h12]
  case h12 => rfl
  generalize nextTag v3 v6 rows (tOf n 12) tag12 x12 = tag13
  rw [chase_bind arg0 arg4 v3 v6 rows n 13 tag13]
  simp only [k1_part31_eq_skeleton, k1_part31_skel, k1_part32_eq_skeleton, k1_part32_skel, k1_part33_eq_skeleton, k1_part33_skel, Prog.lift, Prog.bind_op, Prog.bind_ret, Prog.pure_eq_ret, Prog.bind_assoc, k1_pay426, k1_pay427, k1_pay428, k1_pay429, k1_pay430, k1_pay431, k1_pay432, k1_pay433, k1_pay434, k1_pay435, k1_pay436, k1_pay437, k1_pay438, k1_pay439, k1_pay440, k1_pay441, k1_pay442, k1_pay443, k1_pay444, k1_pay445, k1_pay446, k1_pay447, k1_pay448, k1_pay449, k1_pay450, k1_pay451, k1_pay452, k1_pay453, k1_pay454, k1_pay455, k1_pay456, k1_pay457, k1_pay458, k1_pay459, k1_pay460]
  refine op_congr rfl fun _ => op_congr rfl fun _ => op_congr rfl fun x13 => ?_
  rw [asEq (k1_pay424 _ _ _) (nextTag v3 v6 rows (tOf n 13) tag13 x13) ?h13]
  case h13 => rfl
  generalize nextTag v3 v6 rows (tOf n 13) tag13 x13 = tag14
  rw [chase_bind arg0 arg4 v3 v6 rows n 14 tag14]
  simp only [k1_part34_eq_skeleton, k1_part34_skel, k1_part35_eq_skeleton, k1_part35_skel, Prog.lift, Prog.bind_op, Prog.bind_ret, Prog.pure_eq_ret, Prog.bind_assoc, k1_pay464, k1_pay465, k1_pay466, k1_pay467, k1_pay468, k1_pay469, k1_pay470, k1_pay471, k1_pay472, k1_pay473, k1_pay474, k1_pay475, k1_pay476, k1_pay477, k1_pay478, k1_pay479, k1_pay480, k1_pay481, k1_pay482, k1_pay483, k1_pay484]
  refine op_congr rfl fun _ => op_congr rfl fun _ => op_congr rfl fun x14 => ?_
  rw [asEq (k1_pay462 _ _ _ _ _) (nextTag v3 v6 rows (tOf n 14) tag14 x14) ?h14]
  case h14 => rfl
  generalize nextTag v3 v6 rows (tOf n 14) tag14 x14 = tag15
  rw [show chase arg0 arg4 v3 v6 rows n 15 tag15 = (chase arg0 arg4 v3 v6 rows n 15 tag15 >>= fun t => pure t) from rfl]
  rw [chase_bind arg0 arg4 v3 v6 rows n 15 tag15]
  simp only [k1_part36_eq_skeleton, k1_part36_skel, Prog.lift, Prog.bind_op, Prog.bind_ret, Prog.pure_eq_ret, Prog.bind_assoc]
  refine op_congr rfl fun _ => op_congr rfl fun _ => op_congr rfl fun x15 => ?_
  rw [asEq (k1_pay10 _ _ _ _ _) (nextTag v3 v6 rows (tOf n 15) tag15 x15) ?h15]
  case h15 => rfl

end Cert.KernelIdeal.Bwd

end
-- ==== Proof.BwdSpec.lean ====
/-
  What the backward kernel leaves: the tags it chases and the rows it writes, step by step.
-/
module

public import proofs.«01_k».proof.Proof.BwdChase
public import Idealize.ShloMosaic.Lib.WritesUnit

@[expose] public section

set_option maxRecDepth 65536

noncomputable section

namespace Cert.KernelIdeal.Bwd

open Cert.KernelIdeal Cert.KernelIdeal.Gen Cert.KernelIdeal.Run Cert.KernelIdeal.Fwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UU nD τ) ℕ

/-- Row `t` of the stored scores. -/
def rowX {e : EltTy} (X : S2048x16x64.Idx → Elt F e) (t : ℕ) : S1x16x64.Idx → Elt F e := fun j =>
  X (ValueIdx.ix3 (n0 := 2048) (n1 := 16) (n2 := 64) (Fin.ofNat 2048 t) (j 1) (j 2))

/-- The path with row `t` replaced. -/
def wrP (t : ℕ) (r : S1x16x1.Idx → Elt F .i32) (X : S2048x16x1.Idx → Elt F .i32) : S2048x16x1.Idx → Elt F .i32 := fun y =>
  if (y 0).val = t then r (ValueIdx.ix3 (n0 := 1) (n1 := 16) (n2 := 1) 0 (y 1) (y 2)) else X y

/-- The row index of chase `s`. -/
def tB (s : ℕ) : BitVec 32 := BitVec.ofNat 32 (2047 - s)

/-- The tag before chase `s`. -/
def tgN (v3 : IVec S16x64 32) (v6 : FVec F S16x64 .f32) (rows : ℕ → FVec F S16x64 .f32) (X : S2048x16x64.Idx → Elt F .f32) (tag : IVec S16x64 32) : ℕ → IVec S16x64 32
  | 0 => tag
  | s + 1 => nextTag v3 v6 rows (tB s) (tgN v3 v6 rows X tag s) (rowX X (2047 - s))

/-- The path before chase `s`. -/
def ptN (v3 : IVec S16x64 32) (v6 : FVec F S16x64 .f32) (rows : ℕ → FVec F S16x64 .f32) (X : S2048x16x64.Idx → Elt F .f32) (tag : IVec S16x64 32) (P : S2048x16x1.Idx → Elt F .i32) : ℕ → S2048x16x1.Idx → Elt F .i32
  | 0 => P
  | s + 1 => wrP (F := F) (2047 - s) (outRow v3 (tB s) (tgN v3 v6 rows X tag s)) (ptN v3 v6 rows X tag P s)

/-- The transition row that tag `k` names. -/
def rowW (w : FVec F S64x64 .f32) (k : ℕ) : FVec F S16x64 .f32 :=
  broadcastTo S16x64 (shapeCast S1x64 (extractStridedSlice S1x64 ![k % 64, 0] w (by
    refine ⟨rfl, fun a => ?_⟩
    match a with
    | ⟨0, _⟩ => show k % 64 + 1 ≤ 64; omega
    | ⟨1, _⟩ => show 0 + 64 ≤ 64; omega)) shapeCasts_S1x64_S1x64) broadcasts_S1x64_S16x64

theorem tOf_eq (n : Fin k1_t1_loop.trips) (q : Fin 16) : tOf n q = tB (16 * n.val + q.val) := by
  have hn : n.val < 128 := Nat.lt_of_lt_of_le n.isLt k1_t1_abs.2.1
  have hq := q.isLt
  apply BitVec.eq_of_toNat_eq
  simp only [tOf, tB, Scalar.subi, Scalar.muli, Scf.iv, IntOp.subi, IntOp.muli, BitVec.toNat_sub, BitVec.toNat_mul, BitVec.toNat_add, BitVec.toNat_ofNat]
  omega

theorem trips_eq : k1_t1_loop.trips = 128 := by decide

/-- A load of one row of the scores reads it. -/
theorem readAt_rowX {κ : Kind} {sp : Space} (m : Memref sig κ sp S2048x16x64 .f32) (n : Fin k1_t1_loop.trips) (q : Fin 16)
    (f : m.view.ty.Contents (Elt F)) :
    m.view.readAt (Elt F) (Rect.unit (s := S2048x16x64) (k1_off2 n (BitVec.ofNat 32 q.val)) S1x16x64.size (k1_off2_inb n q)).toLoadRect f = rowX (m.view.read (Elt F) f) (2047 - (16 * n.val + q.val)) := by
  rw [View.readAt_eq_ld]
  funext j
  have h0 : (j 0).val < 1 := (j 0).isLt
  show m.view.read (Elt F) f _ = m.view.read (Elt F) f _
  congr 1
  funext a
  apply Fin.ext
  have e := congrFun (k1_off2_eq n q) a
  show k1_off2 n (BitVec.ofNat 32 q.val) a + 1 * (j a).val = _
  rw [e]
  match a with
  | ⟨0, _⟩ => show (2047 - (16 * n.val + q.val)) + 1 * (j 0).val = (2047 - (16 * n.val + q.val)) % 2048; omega
  | ⟨1, _⟩ => show 0 + 1 * (j 1).val = (j 1).val; omega
  | ⟨2, _⟩ => show 0 + 1 * (j 2).val = (j 2).val; omega

/-- A store of one row of the path. -/
theorem read_store_row {κ : Kind} {sp : Space} (m : Memref sig κ sp S2048x16x1 .i32) (n : Fin k1_t1_loop.trips) (q : Fin 16)
    (f : m.view.ty.Contents (Elt F)) (w : S1x16x1.Idx → Elt F .i32) :
    m.view.read (Elt F) (m.view.writes (Elt F) f [⟨Rect.unit (s := S2048x16x1) (k1_off1 n (BitVec.ofNat 32 q.val)) S1x16x1.size (k1_off1_inb n q), w⟩])
      = wrP (2047 - (16 * n.val + q.val)) w (m.view.read (Elt F) f) := by
  funext y
  unfold wrP
  split
  · next h =>
    refine View.read_writes_cons_unit_of_mem m.view f (k1_off1_inb n q) w [] y _ (k1_off1_eq n q) fun a => ?_
    match a with
    | ⟨0, _⟩ => show (y 0).val = 2047 - (16 * n.val + q.val) + 0; omega
    | ⟨1, _⟩ => show (y 1).val = 0 + (y 1).val; omega
    | ⟨2, _⟩ => show (y 2).val = 0 + (y 2).val; omega
  · next h =>
    rw [View.read_writes_cons_unit_of_not_mem m.view f (k1_off1_inb n q) w [] y (k1_off1_eq n q) 0 (by
      show (y 0).val < 2047 - (16 * n.val + q.val) ∨ 2047 - (16 * n.val + q.val) + 1 ≤ (y 0).val
      omega)]
    rfl

section
variable (c : Dev nD) (arg0 : Memref sig .tc .vmem S2048x16x64 .f32) (harg0 : arg0.IsWhole) (arg4 : Memref sig .tc .vmem S2048x16x1 .i32) (harg4 : arg4.IsWhole)
include harg0 harg4

/-- One chase over the two buffers. -/
theorem chase_spec (v3 : IVec S16x64 32) (v6 : FVec F S16x64 .f32) (rows : ℕ → FVec F S16x64 .f32) (X : S2048x16x64.Idx → Elt F .f32) (P : S2048x16x1.Idx → Elt F .i32)
    (n : Fin k1_t1_loop.trips) (q : Fin 16) (tag : IVec S16x64 32) :
    (iprop(owns (c : Thread nD τ) arg0 fullShare X ∗ owns (c : Thread nD τ) arg4 fullShare P) : sProp 𝕄)
      ⊢ wp frame (wpE (defs₀ (F := F)) 𝒱₀ (c : Thread nD τ) none) Set.univ (chase arg0 arg4 v3 v6 rows n q tag)
          fun r => iprop(⌜r = nextTag v3 v6 rows (tB (16 * n.val + q.val)) tag (rowX X (2047 - (16 * n.val + q.val)))⌝ ∗ owns (c : Thread nD τ) arg0 fullShare X
            ∗ owns (c : Thread nD τ) arg4 fullShare (wrP (F := F) (2047 - (16 * n.val + q.val)) (outRow v3 (tB (16 * n.val + q.val)) tag) P)) := by
  iintro ⟨H0, H4⟩
  ihave H0 := owns_open c arg0 harg0 X $$ H0
  ihave H4 := owns_open c arg4 harg4 P $$ H4
  icases H0 with ⟨%f0, %h0, H0⟩
  icases H4 with ⟨%f4, %h4, H4⟩
  have e0 := readAt_rowX arg0 n q f0
  rw [h0] at e0
  rw [← tOf_eq]
  unfold chase
  sl_exec
  sl_step
  isplitr
  · ipureintro
    sl_unfold_words
    rfl
  isplitl [H0]
  · iapply owns_close c arg0 harg0 X f0 h0; iexact H0
  iapply owns_close c arg4 harg4 _ _ ?_ $$ H4
  rw [read_store_row, h4]

/-- A chase from the state before it to the state after it, at the head of a program. -/
theorem chase_then (v3 : IVec S16x64 32) (v6 : FVec F S16x64 .f32) (rows : ℕ → FVec F S16x64 .f32) (X : S2048x16x64.Idx → Elt F .f32) (P : S2048x16x1.Idx → Elt F .i32)
    (tag : IVec S16x64 32) (n : Fin k1_t1_loop.trips) (q : Fin 16) (s : ℕ) (hs : s = 16 * n.val + q.val) {β : Type} (K : IVec S16x64 32 → Prog (TpuEff nD τ sig (Elt F) Λ₀ .tc) β) (Q : β → sProp 𝕄)
    (h : (iprop(owns (c : Thread nD τ) arg0 fullShare X ∗ owns (c : Thread nD τ) arg4 fullShare (ptN v3 v6 rows X tag P (s + 1))) : sProp 𝕄)
      ⊢ wp frame (wpE (defs₀ (F := F)) 𝒱₀ (c : Thread nD τ) none) Set.univ (K (tgN v3 v6 rows X tag (s + 1))) Q) :
    (iprop(owns (c : Thread nD τ) arg0 fullShare X ∗ owns (c : Thread nD τ) arg4 fullShare (ptN v3 v6 rows X tag P s)) : sProp 𝕄)
      ⊢ wp frame (wpE (defs₀ (F := F)) 𝒱₀ (c : Thread nD τ) none) Set.univ (chase arg0 arg4 v3 v6 rows n q (tgN v3 v6 rows X tag s) >>= K) Q := by
  rw [wp_bind]
  refine (chase_spec c arg0 harg0 arg4 harg4 v3 v6 rows X _ n q _).trans (wp_mono _ _ _ fun r => ?_)
  subst hs
  iintro ⟨%hr, H0, H4⟩
  subst hr
  iapply h
  isplitl [H0]; · iexact H0
  iexact H4

/-- One trip. -/
theorem chases_spec (v3 : IVec S16x64 32) (v6 : FVec F S16x64 .f32) (rows : ℕ → FVec F S16x64 .f32) (X : S2048x16x64.Idx → Elt F .f32) (P : S2048x16x1.Idx → Elt F .i32)
    (tag : IVec S16x64 32) (n : Fin k1_t1_loop.trips) :
    (iprop(owns (c : Thread nD τ) arg0 fullShare X ∗ owns (c : Thread nD τ) arg4 fullShare (ptN v3 v6 rows X tag P (16 * n.val))) : sProp 𝕄)
      ⊢ wp frame (wpE (defs₀ (F := F)) 𝒱₀ (c : Thread nD τ) none) Set.univ (chases arg0 arg4 v3 v6 rows n (tgN v3 v6 rows X tag (16 * n.val)))
          fun r => iprop(⌜r = tgN v3 v6 rows X tag (16 * (n.val + 1))⌝ ∗ owns (c : Thread nD τ) arg0 fullShare X ∗ owns (c : Thread nD τ) arg4 fullShare (ptN v3 v6 rows X tag P (16 * (n.val + 1)))) := by
  unfold chases
  refine chase_then c arg0 harg0 arg4 harg4 v3 v6 rows X P tag n 0 _ rfl _ _ ?_
  refine chase_then c arg0 harg0 arg4 harg4 v3 v6 rows X P tag n 1 _ rfl _ _ ?_
  refine chase_then c arg0 harg0 arg4 harg4 v3 v6 rows X P tag n 2 _ rfl _ _ ?_
  refine chase_then c arg0 harg0 arg4 harg4 v3 v6 rows X P tag n 3 _ rfl _ _ ?_
  refine chase_then c arg0 harg0 arg4 harg4 v3 v6 rows X P tag n 4 _ rfl _ _ ?_
  refine chase_then c arg0 harg0 arg4 harg4 v3 v6 rows X P tag n 5 _ rfl _ _ ?_
  refine chase_then c arg0 harg0 arg4 harg4 v3 v6 rows X P tag n 6 _ rfl _ _ ?_
  refine chase_then c arg0 harg0 arg4 harg4 v3 v6 rows X P tag n 7 _ rfl _ _ ?_
  refine chase_then c arg0 harg0 arg4 harg4 v3 v6 rows X P tag n 8 _ rfl _ _ ?_
  refine chase_then c arg0 harg0 arg4 harg4 v3 v6 rows X P tag n 9 _ rfl _ _ ?_
  refine chase_then c arg0 harg0 arg4 harg4 v3 v6 rows X P tag n 10 _ rfl _ _ ?_
  refine chase_then c arg0 harg0 arg4 harg4 v3 v6 rows X P tag n 11 _ rfl _ _ ?_
  refine chase_then c arg0 harg0 arg4 harg4 v3 v6 rows X P tag n 12 _ rfl _ _ ?_
  refine chase_then c arg0 harg0 arg4 harg4 v3 v6 rows X P tag n 13 _ rfl _ _ ?_
  refine chase_then c arg0 harg0 arg4 harg4 v3 v6 rows X P tag n 14 _ rfl _ _ ?_
  refine (chase_spec c arg0 harg0 arg4 harg4 v3 v6 rows X _ n 15 _).trans (wp_mono _ _ _ fun r => ?_)
  iintro ⟨%hr, H0, H4⟩
  subst hr
  isplitr
  · ipureintro; rfl
  isplitl [H0]; · iexact H0
  iexact H4

end

end Cert.KernelIdeal.Bwd

end
-- ==== Proof.BwdBody.lean ====
/-
  The backward kernel's body: from the stored scores, the transitions, the last tags and the lengths to the path.
-/
module

public import proofs.«01_k».proof.Proof.BwdSpec

@[expose] public section

set_option maxRecDepth 65536

noncomputable section

namespace Cert.KernelIdeal.Bwd

open Cert.KernelIdeal Cert.KernelIdeal.Gen Cert.KernelIdeal.Run Cert.KernelIdeal.Fwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UU nD τ) ℕ

section
variable (c : Dev nD) (arg0 : Memref sig .tc .vmem S2048x16x64 .f32) (harg0 : arg0.IsWhole) (arg1 : Memref sig .tc .vmem S64x64 .f32) (harg1 : arg1.IsWhole) (arg2 : Memref sig .tc .vmem S16x1 .i32) (harg2 : arg2.IsWhole) (arg3 : Memref sig .tc .vmem S16x1 .i32) (harg3 : arg3.IsWhole) (arg4 : Memref sig .tc .vmem S2048x16x1 .i32) (harg4 : arg4.IsWhole)

/-- The body: three loads and the loop of trips. -/
def bwdP : Prog (TpuEff nD τ sig (Elt F) Λ₀ .tc) PUnit := do
  let v0 : Vec F S16x1 .i32 ← Prog.lift (.load arg3 (Rect.unit (s := S16x1) ![0, 0] S16x1.size inb_S16x1_S16x1_0_0).toLoadRect (View.loadsAt_vmem h_S16x1))
  let v4 : Vec F S64x64 .f32 ← Prog.lift (.load arg1 (Rect.unit (s := S64x64) ![0, 0] S64x64.size inb_S64x64_S64x64_0_0).toLoadRect (View.loadsAt_vmem h_S64x64))
  let v199 : Vec F S16x1 .i32 ← Prog.lift (.load arg2 (Rect.unit (s := S16x1) ![0, 0] S16x1.size inb_S16x1_S16x1_0_0).toLoadRect (View.loadsAt_vmem h_S16x1))
  let _ ← Scf.Loop.for k1_t1_loop k1_t1_ok (k1_pay9 v199) (fun n tag => chases (F := F) arg0 arg4 (k1_pay494 v0) (k1_pay495 (F := F)) (rowW v4) n tag)
  pure ⟨⟩

theorem bwd_eq : cc1__bwd_body_skel (F := F) arg0 harg0 arg1 harg1 arg2 harg2 arg3 harg3 arg4 harg4 = bwdP (F := F) arg0 arg1 arg2 arg3 arg4 := by
  unfold cc1__bwd_body_skel bwdP
  simp only [k1_part38_eq_skeleton, k1_part38_skel, k1_part39_eq_skeleton, k1_part39_skel, k1_part40_eq_skeleton, k1_part40_skel,
    Prog.lift, Prog.bind_op, Prog.bind_ret, Prog.pure_eq_ret, Prog.bind_assoc]
  refine op_congr rfl fun v0 => op_congr rfl fun v4 => op_congr rfl fun v199 => ?_
  refine congrArg (fun b => (Scf.Loop.for k1_t1_loop k1_t1_ok (k1_pay9 v199) b >>= fun _ => Prog.ret PUnit.unit)) (funext fun n => funext fun tag => ?_)
  rw [← bodyG_eq arg0 harg0 arg1 harg1 arg2 harg2 arg3 harg3 arg4 harg4 (k1_pay494 v0) (k1_pay495 (F := F)) (rowW v4) n tag]
  rfl

/-- What the body leaves in the path. -/
def pathE (X0 : S2048x16x64.Idx → Elt F .f32) (X1 : S64x64.Idx → Elt F .f32) (X2 X3 : S16x1.Idx → Elt F .i32) (X4 : S2048x16x1.Idx → Elt F .i32) : S2048x16x1.Idx → Elt F .i32 :=
  ptN (k1_pay494 X3) (k1_pay495 (F := F)) (rowW X1) X0 (k1_pay9 X2) X4 2048

theorem bwd_spec (X0 : S2048x16x64.Idx → Elt F .f32) (X1 : S64x64.Idx → Elt F .f32) (X2 X3 : S16x1.Idx → Elt F .i32) (X4 : S2048x16x1.Idx → Elt F .i32) :
    (iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4) : sProp 𝕄)
      ⊢ wp frame (wpE (defs₀ (F := F)) 𝒱₀ (c : Thread nD τ) none) Set.univ (cc1__bwd_body (F := F) arg0 harg0 arg1 harg1 arg2 harg2 arg3 harg3 arg4 harg4) fun _ =>
        iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare (pathE X0 X1 X2 X3 X4)) := by
  rw [cc1__bwd_body_eq_skeleton, bwd_eq]
  unfold bwdP
  iintro ⟨H0, H1, H2, H3, H4⟩
  ihave H1 := owns_open c arg1 harg1 X1 $$ H1
  ihave H2 := owns_open c arg2 harg2 X2 $$ H2
  ihave H3 := owns_open c arg3 harg3 X3 $$ H3
  icases H1 with ⟨%f1, %h1, H1⟩
  icases H2 with ⟨%f2, %h2, H2⟩
  icases H3 with ⟨%f3, %h3, H3⟩
  have e1 : arg1.view.readAt (Elt F) (Rect.unit (s := S64x64) ![0, 0] S64x64.size inb_S64x64_S64x64_0_0).toLoadRect f1 = X1 := by
    rw [← h1, View.readAt_eq_ld]
    exact View.ld_unit_zero (S := S64x64) hz _ _
  have e2 : arg2.view.readAt (Elt F) (Rect.unit (s := S16x1) ![0, 0] S16x1.size inb_S16x1_S16x1_0_0).toLoadRect f2 = X2 := by
    rw [← h2, View.readAt_eq_ld]
    exact View.ld_unit_zero (S := S16x1) hz _ _
  have e3 : arg3.view.readAt (Elt F) (Rect.unit (s := S16x1) ![0, 0] S16x1.size inb_S16x1_S16x1_0_0).toLoadRect f3 = X3 := by
    rw [← h3, View.readAt_eq_ld]
    exact View.ld_unit_zero (S := S16x1) hz _ _
  simp only [Prog.lift, Prog.bind_op, Prog.bind_ret]
  sl_step
  sl_step
  sl_step
  simp only [e1, e2, e3]
  ihave Hw := Scf.wp_for_bind frame (wpE (defs₀ (F := F)) 𝒱₀ (c : Thread nD τ) none) Set.univ k1_t1_loop.lb k1_t1_loop.ub k1_t1_loop.st k1_t1_ok (k1_pay9 X2)
    (fun n tag => chases (F := F) arg0 arg4 (k1_pay494 X3) (k1_pay495 (F := F)) (rowW X1) n tag)
    (fun k acc => (iprop(⌜acc = tgN (k1_pay494 X3) (k1_pay495 (F := F)) (rowW X1) X0 (k1_pay9 X2) (16 * k)⌝ ∗ owns (c : Thread nD τ) arg0 fullShare X0
      ∗ owns (c : Thread nD τ) arg4 fullShare (ptN (k1_pay494 X3) (k1_pay495 (F := F)) (rowW X1) X0 (k1_pay9 X2) X4 (16 * k))) : sProp 𝕄)) ?_ $$ [H0 H4]
  · intro k acc
    iintro ⟨%hr, H0, H4⟩
    subst hr
    iapply chases_spec c arg0 harg0 arg4 harg4 (k1_pay494 X3) (k1_pay495 (F := F)) (rowW X1) X0 X4 (k1_pay9 X2) k
    isplitl [H0]; · iexact H0
    iexact H4
  · isplitr
    · ipureintro; rfl
    isplitl [H0]; · iexact H0
    iexact H4
  iapply Hw
  iintro %acc ⟨%hr, H0, H4⟩
  sl_step
  isplitl [H0]; · iexact H0
  isplitl [H1]
  · iapply owns_close c arg1 harg1 X1 f1 h1; iexact H1
  isplitl [H2]
  · iapply owns_close c arg2 harg2 X2 f2 h2; iexact H2
  isplitl [H3]
  · iapply owns_close c arg3 harg3 X3 f3 h3; iexact H3
  iexact H4

end

end Cert.KernelIdeal.Bwd

end
-- ==== Proof.FwdRegion.lean ====
/-
  The forward region: what its scratch holds before each grid point, what it leaves in each block of its results, and the body's
  obligation at every point.
-/
module

public import proofs.«01_k».proof.Proof.FwdBody

@[expose] public section

set_option maxRecDepth 65536

noncomputable section

namespace Cert.KernelIdeal.Fwd

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UU nD τ) ℕ

/-- A valuation of the buffers of each core. -/
abbrev Val₁ : Type := (c : Dev nD) → (b : Ref sig .tc) → Buf (Elt F) ((c : Thread nD τ).loc b)

variable (V : Val₁ (F := F)) (c : Dev nD)

/-- The blocks the four operands show at a point. -/
abbrev bl0 (t : Fin cfg0.N) : S16.Idx → Elt F .i32 := ((cfg0.win 0).blk t).view.read (Elt F) (V c main_call0_v9)
abbrev bl1 (t : Fin cfg0.N) : S16x1.Idx → Elt F .i32 := ((cfg0.win 1).blk t).view.read (Elt F) (V c main_call0_v18)
abbrev bl2 (t : Fin cfg0.N) : S8x16x64.Idx → Elt F .f32 := ((cfg0.win 2).blk t).view.read (Elt F) (V c main_call0_v17)
abbrev bl3 (t : Fin cfg0.N) : S64x64.Idx → Elt F .f32 := ((cfg0.win 3).blk t).view.read (Elt F) (V c main_arg2)

/-- One point's step of a block of rows' scores. -/
def nx8 (t : Fin cfg0.N) (fv : FVec F S8x64 .f32) : FVec F S8x64 .f32 :=
  fvE (grid0.coords t) 0 (bl0 V c t (ixL 0 (by decide))) (bl3 V c t) (lensG0 (bl1 V c t)) (bl2 V c t) fv
def nx9 (t : Fin cfg0.N) (fv : FVec F S8x64 .f32) : FVec F S8x64 .f32 :=
  fvE (grid0.coords t) 8 (bl0 V c t (ixL 8 (by decide))) (bl3 V c t) (lensG1 (bl1 V c t)) (bl2 V c t) fv

/-- The scores of the two blocks of rows when point `n` starts its steps. -/
def s8 : ℕ → FVec F S8x64 .f32
  | 0 => k0_pay1
  | n + 1 => if h : n < cfg0.N then nx8 V c ⟨n, h⟩ (s8 n) else s8 n
def s9 : ℕ → FVec F S8x64 .f32
  | 0 => k0_pay1
  | n + 1 => if h : n < cfg0.N then nx9 V c ⟨n, h⟩ (s9 n) else s9 n

theorem s8_succ (t : Fin cfg0.N) : s8 V c (t.val + 1) = nx8 V c t (s8 V c t.val) := by rw [s8, dif_pos t.isLt]
theorem s9_succ (t : Fin cfg0.N) : s9 V c (t.val + 1) = nx9 V c t (s9 V c t.val) := by rw [s9, dif_pos t.isLt]

/-- The staging buffers of the second region, idle here. -/
abbrev rest0 : sProp 𝕄 := iprop((∃ f : Buf (Elt F) ((c : Thread nD τ).loc cc1_stg0_0), ((c : Thread nD τ).loc cc1_stg0_0) ↦{fullShare} f)
  ∗ (∃ f : Buf (Elt F) ((c : Thread nD τ).loc cc1_stg1_0), ((c : Thread nD τ).loc cc1_stg1_0) ↦{fullShare} f)
  ∗ (∃ f : Buf (Elt F) ((c : Thread nD τ).loc cc1_stg2_0), ((c : Thread nD τ).loc cc1_stg2_0) ↦{fullShare} f)
  ∗ (∃ f : Buf (Elt F) ((c : Thread nD τ).loc cc1_stg3_0), ((c : Thread nD τ).loc cc1_stg3_0) ↦{fullShare} f)
  ∗ (∃ f : Buf (Elt F) ((c : Thread nD τ).loc cc1_stg4_0), ((c : Thread nD τ).loc cc1_stg4_0) ↦{fullShare} f))

/-- The scratch before point `n`: anything at the first point, the recursion's scores after it. -/
def Φs (n : ℕ) : sProp 𝕄 := iprop(∃ Y8 Y9, ⌜n ≠ 0 → Y8 = s8 V c n ∧ Y9 = s9 V c n⌝
  ∗ owns (c : Thread nD τ) (Memref.whole cc0_scratch0) fullShare Y8 ∗ owns (c : Thread nD τ) (Memref.whole cc0_scratch1) fullShare Y9 ∗ rest0 c)

/-- The proof data of the forward region entered at `V`. -/
def dat0 : Dat τ (Elt F) Unit ℕ (UU nD τ) ℕ cfg0 c where
  A w := V c (Pipeline.arrRef spec0 w)
  after w t := match w with
    | ⟨0, _⟩ => bl0 V c t
    | ⟨1, _⟩ => bl1 V c t
    | ⟨2, _⟩ => bl2 V c t
    | ⟨3, _⟩ => bl3 V c t
    | ⟨4, _⟩ => fun _ => Classical.arbitrary _
    | ⟨5, _⟩ => fun _ => Classical.arbitrary _
    | ⟨6, _⟩ => fun _ => Classical.arbitrary _
  Φ t := Φs V c t.val
  q _ := fullShare
  owed _ := 0

/-- The results' windows are held to a relation: the rows of a block of rows that is skipped are left as they were found. -/
def fgt0 : Fin cfg0.W → Bool := fun w => match w with
  | ⟨4, _⟩ => true | ⟨5, _⟩ => true | ⟨6, _⟩ => true | _ => false

/-- What a point leaves in the history block, in the scores and in the tags. -/
def R4 (t : Fin cfg0.N) (X : S8x16x64.Idx → Elt F .f32) : Prop :=
  ∃ X5, X = hisS (grid0.coords t) 8 (bl0 V c t (ixL 8 (by decide))) (bl3 V c t) (lensG1 (bl1 V c t)) (bl2 V c t) (s9 V c t.val)
    (hisS (grid0.coords t) 0 (bl0 V c t (ixL 0 (by decide))) (bl3 V c t) (lensG0 (bl1 V c t)) (bl2 V c t) (s8 V c t.val) X5)
def R5 (t : Fin cfg0.N) (X : S16x1.Idx → Elt F .f32) : Prop :=
  ∃ X6, X = scS (grid0.coords t) (bl3 V c t) (s8 V c (t.val + 1)) (s9 V c (t.val + 1)) X6
def R6 (t : Fin cfg0.N) (X : S16x1.Idx → Elt F .i32) : Prop :=
  ∃ X7, X = tgS (grid0.coords t) (bl3 V c t) (s8 V c (t.val + 1)) (s9 V c (t.val + 1)) X7

def Rl0 : (w : Fin cfg0.W) → Fin cfg0.N → ((cfg0.win w).block.Idx → Elt F (cfg0.win w).elt) → Prop := fun w t => match w with
  | ⟨4, _⟩ => fun X => R4 V c t X
  | ⟨5, _⟩ => fun X => R5 V c t X
  | ⟨6, _⟩ => fun X => R6 V c t X
  | _ => fun _ => True

theorem before0 (t : Fin cfg0.N) (d) : (dat0 V c).before 0 t d = bl0 V c t :=
  (dat0 V c).before_in_eq_fetched 0 rfl (fun _ => rfl) (fun _ _ _ => rfl) (fun _ => rfl) t d
theorem before1 (t : Fin cfg0.N) (d) : (dat0 V c).before 1 t d = bl1 V c t :=
  (dat0 V c).before_in_eq_fetched 1 rfl (fun _ => rfl) (fun _ _ _ => rfl) (fun _ => rfl) t d
theorem before2 (t : Fin cfg0.N) (d) : (dat0 V c).before 2 t d = bl2 V c t :=
  (dat0 V c).before_in_eq_fetched 2 rfl (fun _ => rfl) (fun _ _ _ => rfl) (fun _ => rfl) t d
theorem before3 (t : Fin cfg0.N) (d) : (dat0 V c).before 3 t d = bl3 V c t :=
  (dat0 V c).before_in_eq_fetched 3 rfl (fun _ => rfl) (fun _ _ _ => rfl) (fun _ => rfl) t d

/-- The grid has one axis: a point's coordinate is its number. -/
theorem coords0 (t : Fin cfg0.N) : (grid0.coords t 0).val = t.val := by
  have h : t.val < 256 := lt_of_lt_of_eq t.isLt N_0
  rw [Pipeline.Grid.coords_val (S := 1) (B := 256) t 0 (by decide) rfl]; omega

theorem isFirst_iff (t : Fin cfg0.N) : isFirst (grid0.coords t) = 1#1 ↔ t.val = 0 := by
  have h : t.val < 256 := lt_of_lt_of_eq t.isLt N_0
  unfold isFirst
  rw [coords0]
  generalize t.val = n at h
  have e : (BitVec.ofNat 32 n = 0#32) ↔ n = 0 := by
    constructor
    · intro e; have := congrArg BitVec.toNat e; simp only [BitVec.toNat_ofNat] at this; omega
    · rintro rfl; rfl
  by_cases hn : n = 0
  · subst hn; decide
  · have : ¬ BitVec.ofNat 32 n = 0#32 := fun h => hn (e.mp h)
    have h2 : (BitVec.ofNat 32 n == 0#32) = false := beq_eq_false_iff_ne.mpr this
    simp only [Scalar.cmpi, Scalar.extui, IntOp.cmpi, h2, hn, iff_false]; decide

theorem stS_first (t : Fin cfg0.N) (Y : FVec F S8x64 .f32) (S : ℕ → FVec F S8x64 .f32) (h0 : S 0 = k0_pay1) (h : t.val ≠ 0 → Y = S t.val) :
    stS (grid0.coords t) Y = S t.val := by
  unfold stS
  by_cases ht : t.val = 0
  · rw [if_pos ((isFirst_iff t).mpr ht), ht, h0]
  · rw [if_neg fun e => ht ((isFirst_iff t).mp e)]; exact h ht

theorem obl0 : BodyObligationRel (dat0 V c) (defs₀ (F := F)) 𝒱₀ () Set.univ fgt0 (Rl0 V c) := fun t => by
  rw [bigSep_W0, bigSep_W0]
  show iprop(Φs V c t.val ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d))
      ∗ (∃ Y, ⌜((dat0 V c).toRRel fgt0 (Rl0 V c)).Finds 4 t Y⌝ ∗ owns (c : Thread nD τ) (st0_4 t) fullShare Y)
      ∗ (∃ Y, ⌜((dat0 V c).toRRel fgt0 (Rl0 V c)).Finds 5 t Y⌝ ∗ owns (c : Thread nD τ) (st0_5 t) fullShare Y)
      ∗ (∃ Y, ⌜((dat0 V c).toRRel fgt0 (Rl0 V c)).Finds 6 t Y⌝ ∗ owns (c : Thread nD τ) (st0_6 t) fullShare Y))
    ⊢ wp frame (wpE (defs₀ (F := F)) 𝒱₀ (c : Thread nD τ) none) Set.univ (bodyAt0 t) fun _ => iprop(Φs V c (t.val + 1) ∗ (dat0 V c).owesAt () t.castSucc
      ∗ owns (c : Thread nD τ) (st0_0 t) fullShare (bl0 V c t) ∗ owns (c : Thread nD τ) (st0_1 t) fullShare (bl1 V c t)
      ∗ owns (c : Thread nD τ) (st0_2 t) fullShare (bl2 V c t) ∗ owns (c : Thread nD τ) (st0_3 t) fullShare (bl3 V c t)
      ∗ (∃ X, ⌜R4 V c t X⌝ ∗ owns (c : Thread nD τ) (st0_4 t) fullShare X)
      ∗ (∃ X, ⌜R5 V c t X⌝ ∗ owns (c : Thread nD τ) (st0_5 t) fullShare X)
      ∗ (∃ X, ⌜R6 V c t X⌝ ∗ owns (c : Thread nD τ) (st0_6 t) fullShare X))
  iintro ⟨HΦ, HO, ⟨%d0, H0⟩, ⟨%d1, H1⟩, ⟨%d2, H2⟩, ⟨%d3, H3⟩, ⟨%X5, -, H4⟩, ⟨%X6, -, H5⟩, ⟨%X7, -, H6⟩⟩
  rw [before0, before1, before2, before3]
  unfold Φs
  icases HΦ with ⟨%Y8, %Y9, %hY, H8, H9, Hr⟩
  have e8 := stS_first t Y8 (s8 V c) rfl fun h => (hY h).1
  have e9 := stS_first t Y9 (s9 V c) rfl fun h => (hY h).2
  ihave Hw := fwd_spec c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _)
    (bl0 V c t) (bl1 V c t) (bl2 V c t) (bl3 V c t) X5 X6 X7 Y8 Y9 $$ [H0 H1 H2 H3 H4 H5 H6 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    iexact H9
  rw [e8, e9]
  iapply (wp_wand _ _ _) $$ Hw
  iintro %_ ⟨H0, H1, H2, H3, H4, H5, H6, H8, H9⟩
  isplitl [H8 H9 Hr]
  · iexists _, _
    isplitr
    rotate_left
    · isplitl [H8]; · iexact H8
      isplitl [H9]; · iexact H9
      iexact Hr
    · ipureintro
      intro _
      exact ⟨(s8_succ V c t).symm, (s9_succ V c t).symm⟩
  isplitl [HO]; · iexact HO
  isplitl [H0]; · iexact H0
  isplitl [H1]; · iexact H1
  isplitl [H2]; · iexact H2
  isplitl [H3]; · iexact H3
  isplitl [H4]
  · iexists _; isplitr
    rotate_left
    · iexact H4
    · ipureintro; exact ⟨X5, rfl⟩
  isplitl [H5]
  · iexists _; isplitr
    rotate_left
    · iexact H5
    · ipureintro; refine ⟨X6, ?_⟩; rw [s8_succ, s9_succ]; rfl
  · iexists _; isplitr
    rotate_left
    · iexact H6
    · ipureintro; refine ⟨X7, ?_⟩; rw [s8_succ, s9_succ]; rfl

end Cert.KernelIdeal.Fwd

end
-- ==== Proof.FwdSeg.lean ====
/-
  The forward region as a segment of the program, entered at any contents of the buffers and left with the three results at contents that
  its points' relations allow.
-/
module

public import proofs.«01_k».proof.Proof.FwdRegion
public import proofs.«01_k».proof.Proof.Gen.KernelIdeal.Regions
public import Idealize.ShloMosaic.Lib.Pipeline.RegionsLoop

@[expose] public section

set_option maxRecDepth 65536

noncomputable section

namespace Cert.KernelIdeal.Fwd

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UU nD τ) ℕ

open scoped Idealize.ShloMosaic.TcCoe

variable (W : Dev nD → Valuation τ sig (Elt F))

/-- The buffers' contents by reference. -/
abbrev ofW : Val₁ (F := F) := fun c b => W c b

/-- The contents with the forward region's three results replaced. -/
abbrev upd0 (c : Dev nD) (f : Buf (Elt F) ((c : Thread nD τ).loc main_call0_v19_0)) (s : Buf (Elt F) ((c : Thread nD τ).loc main_call0_v19_1))
    (g : Buf (Elt F) ((c : Thread nD τ).loc main_call0_v19_2)) : Valuation τ sig (Elt F) :=
  Function.update (Function.update (Function.update (W c) main_call0_v19_0 f) main_call0_v19_1 s) main_call0_v19_2 g

/-- Data for a pipeline that this entry does not run. -/
def junkDat {cfg : Pipeline.Cfg sig Λ₀} (c : Dev nD) : Dat τ (Elt F) Unit ℕ (UU nD τ) ℕ cfg c where
  A _ := fun _ => Classical.arbitrary _
  after _ _ := fun _ => Classical.arbitrary _
  Φ _ := BI.emp
  q _ := fullShare
  owed _ := 0

def pdats0 : (p : Fin 2) → (c : Dev nD) → Dat τ (Elt F) Unit ℕ (UU nD τ) ℕ (Pipeline.pin (pcfgs (F := F)) adm p) c
  | ⟨0, _⟩ => fun c => dat0 (ofW W) c
  | ⟨1, _⟩ => fun c => junkDat c

def rdats0 : (p : Fin 2) → (c : Dev nD) → RDat τ (Elt F) Unit ℕ (UU nD τ) ℕ (Pipeline.pin (pcfgs (F := F)) adm p) c
  | ⟨0, _⟩ => fun c => (dat0 (ofW W) c).toRRel fgt0 (Rl0 (ofW W) c)
  | ⟨1, _⟩ => fun c => (junkDat c).toR

/-- The contents the region may leave its results at. -/
structure OutRel (V : Val₁ (F := F)) (c : Dev nD) (f : Buf (Elt F) ((c : Thread nD τ).loc main_call0_v19_0)) (s : Buf (Elt F) ((c : Thread nD τ).loc main_call0_v19_1))
    (g : Buf (Elt F) ((c : Thread nD τ).loc main_call0_v19_2)) : Prop where
  hf : ((dat0 V c).toRRel fgt0 (Rl0 V c)).ArrAt 4 cfg0.N f
  hs : ((dat0 V c).toRRel fgt0 (Rl0 V c)).ArrAt 5 cfg0.N s
  hg : ((dat0 V c).toRRel fgt0 (Rl0 V c)).ArrAt 6 cfg0.N g

/-- No core owes another anything. -/
abbrev L₀ : GSem nD τ sig → Finset Unit := fun _ => ∅
abbrev lv₀ : GSem nD τ sig → Unit → ℕ := fun _ _ => 0

/-- The core's debt: nothing. -/
abbrev noDebt (c : Dev nD) : sProp 𝕄 := iprop(∃ W, owes (c : Thread nD τ) (0 : CellTallies nD τ sig Unit) W)

set_option backward.isDefEq.respectTransparency.types false in
/-- The arrays put back among the buffers. -/
theorem join0 (c : Dev nD) (A : (w : Fin cfg0.W) → Buf (Elt F) ((cfg0.win w).arr.view.loc (c.tc : Thread nD τ)))
    (hA : ∀ w, ((dat0 (ofW W) c).toRRel fgt0 (Rl0 (ofW W) c)).ArrAt w cfg0.N (A w)) :
    iprop((dat0 (ofW W) c).arrays A ∗ Pipeline.unscopedRest (Ix := Unit) (Name := ℕ) (U := UU nD τ) (Lvl := ℕ) spec0 c (ofW W c))
      ⊢ (StableHlo.held (c : Thread nD τ) (Pipeline.ucRefs τ sig) (upd0 W c (A 4) (A 5) (A 6)) : sProp 𝕄) := by
  rw [← Pipeline.unscopedBufs_held]
  have hne : ∀ b : Ref sig .tc, b ∉ ([main_call0_v19_0, main_call0_v19_1, main_call0_v19_2] : List (Ref sig .tc)) → upd0 W c (A 4) (A 5) (A 6) b = W c b := fun b h => by
    simp only [upd0, Function.update_of_ne (StableHlo.devRef_ne_of_ne (List.ne_of_not_mem_cons h) : (Proc.devRef .tc b : DevRef τ sig) ≠ Proc.devRef .tc main_call0_v19_0), Function.update_of_ne (StableHlo.devRef_ne_of_ne (List.ne_of_not_mem_cons (List.not_mem_of_not_mem_cons h)) : (Proc.devRef .tc b : DevRef τ sig) ≠ Proc.devRef .tc main_call0_v19_1), Function.update_of_ne (StableHlo.devRef_ne_of_ne (List.ne_of_not_mem_cons (List.not_mem_of_not_mem_cons (List.not_mem_of_not_mem_cons h))) : (Proc.devRef .tc b : DevRef τ sig) ≠ Proc.devRef .tc main_call0_v19_2)]
  have hin (w : Fin cfg0.W) (h : (cfg0.win w).isOut = false) : A w = W c (Pipeline.arrRef spec0 w) := by
    have := hA w; rw [((dat0 (ofW W) c).toRRel fgt0 (Rl0 (ofW W) c)).ArrAt_in w h] at this; exact this
  exact Pipeline.unscopedBufs_of_arrays (p := 0) (pcfgs (F := F)) adm (Ix := Unit) (Name := ℕ) (U := UU nD τ) (Lvl := ℕ) launch0.win launch0.arr_whole c
    (pdats0 W) ((pdats0 W 0 c).share_full fun _ => rfl) (ofW W c) (ofW (fun _ => upd0 W c (A 4) (A 5) (A 6)) c) A
    (fun w => by
      fin_cases w
      · exact (hin 0 rfl).trans (hne main_call0_v9 (by decide)).symm
      · exact (hin 1 rfl).trans (hne main_call0_v18 (by decide)).symm
      · exact (hin 2 rfl).trans (hne main_call0_v17 (by decide)).symm
      · exact (hin 3 rfl).trans (hne main_arg2 (by decide)).symm
      · exact (show upd0 W c (A 4) (A 5) (A 6) main_call0_v19_0 = A 4 from by
          unfold upd0
          rw [Function.update_of_ne (StableHlo.devRef_ne_of_ne (by decide)), Function.update_of_ne (StableHlo.devRef_ne_of_ne (by decide)), Function.update_self]).symm
      · exact (show upd0 W c (A 4) (A 5) (A 6) main_call0_v19_1 = A 5 from by
          unfold upd0
          rw [Function.update_of_ne (StableHlo.devRef_ne_of_ne (by decide)), Function.update_self]).symm
      · exact (show upd0 W c (A 4) (A 5) (A 6) main_call0_v19_2 = A 6 from by
          unfold upd0
          rw [Function.update_self]).symm)
    (fun b hb => hne b fun h => hb (by
      simp only [List.mem_cons, List.not_mem_nil, or_false] at h
      rcases h with rfl | rfl | rfl
      · exact Finset.mem_image.mpr ⟨4, Finset.mem_univ _, rfl⟩
      · exact Finset.mem_image.mpr ⟨5, Finset.mem_univ _, rfl⟩
      · exact Finset.mem_image.mpr ⟨6, Finset.mem_univ _, rfl⟩))

set_option backward.isDefEq.respectTransparency.types false in
/-- The forward region. -/
def reg0 (R : Dev nD → sProp 𝕄) : Pipeline.RDat.RegionSeg (pcfgs (F := F)) adm (rdats0 W) () defs₀ 𝒱₀ L₀ lv₀ 0 where
  win := launch0.win.to₀
  block_pos := launch0.block_pos
  stage_whole := launch0.stage_whole
  K := PEmpty
  osem k := k.elim
  ho := Pipeline.OwnSemFacts.none _
  hbody c := (obl0 (ofW W) c).toRRel
  hwaits := Pipeline.RDat.hwaits_of_owed_zero _ _ _ _ L₀ lv₀ 0 fun _ _ => rfl
  pre c := iprop(StableHlo.held (c : Thread nD τ) (Pipeline.ucRefs τ sig) (W c) ∗ R c ∗ noDebt c)
  post c := iprop(∃ f s g, ⌜OutRel (ofW W) c f s g⌝ ∗ StableHlo.held (c : Thread nD τ) (Pipeline.ucRefs τ sig) (upd0 W c f s g) ∗ R c ∗ noDebt c)
  X _ := BI.emp
  Y _ := BI.emp
  Z c := iprop(Pipeline.unscopedRest (Ix := Unit) (Name := ℕ) (U := UU nD τ) (Lvl := ℕ) spec0 c (ofW W c) ∗ R c)
  hentry c := by
    rw [Pipeline.ownSems0_none, ← Pipeline.unscopedBufs_held]
    have hsplit : (unscopedBufs c (ofW W c) : sProp 𝕄) ⊢ iprop((rdats0 W 0 c).arrays (rdats0 W 0 c).A ∗ Pipeline.unscopedRest spec0 c (ofW W c)) := Pipeline.arrays_of_unscopedBufs (p := 0) (pcfgs (F := F)) adm (pdats0 W) launch0.win launch0.arr_whole c
      ((pdats0 W 0 c).share_full fun _ => rfl) (ofW W c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest] <;> iassumption
  hin c := by
    rw [show ((rdats0 W 0 c).Φ 0) = Φs (ofW W) c 0 from rfl]
    rw [show (Pipeline.pin (pcfgs (F := F)) adm 0).spec = spec0 from rfl, scopedRest0_eq]
    unfold Φs rest0
    iintro ⟨-, -, ⟨%f8, H8⟩, ⟨%f9, H9⟩, Hr⟩
    iexists f8, f9
    isplitr; · ipureintro; exact fun h => absurd rfl h
    isplitl [H8]
    · rw [owns_whole_eq]; iexists f8; isplitr
      · ipureintro; rfl
      · iexact H8
    isplitl [H9]
    · rw [owns_whole_eq]; iexists f9; isplitr
      · ipureintro; rfl
      · iexact H9
    iexact Hr
  hout c := by
    rw [Pipeline.ownSems0_none, show ((rdats0 W 0 c).Φ (Fin.last _)) = Φs (ofW W) c cfg0.N from rfl]
    rw [show (Pipeline.pin (pcfgs (F := F)) adm 0).spec = spec0 from rfl, scopedRest0_eq]
    unfold Φs rest0
    simp only [owns_whole_eq]
    iintro ⟨%Y8, %Y9, -, ⟨%f8, -, H8⟩, ⟨%f9, -, H9⟩, Hr⟩
    isplitr; · iempintro
    isplitr; · iempintro
    isplitl [H8]; · iexists f8; iexact H8
    isplitl [H9]; · iexists f9; iexact H9
    iexact Hr
  hexit c := by
    show iprop(((dat0 (ofW W) c).toRRel fgt0 (Rl0 (ofW W) c)).arraysAt cfg0.N ∗ _) ⊢ _
    have hforget : (((dat0 (ofW W) c).toRRel fgt0 (Rl0 (ofW W) c)).arraysAt cfg0.N : sProp 𝕄) ⊢ iprop(∃ A : (w : Fin cfg0.W) → Buf (Elt F) ((cfg0.win w).arr.view.loc (c.tc : Thread nD τ)),
        ⌜∀ w, ((dat0 (ofW W) c).toRRel fgt0 (Rl0 (ofW W) c)).ArrAt w cfg0.N (A w)⌝ ∗ (dat0 (ofW W) c).arrays A) := by
      unfold RDat.arraysAt Dat.arrays
      refine (BI.bigSep_exists_pi Finset.univ _).trans ?_
      iintro ⟨%A, H⟩
      ihave H' := (BI.bigSep_pure_sep Finset.univ (fun w => ((dat0 (ofW W) c).toRRel fgt0 (Rl0 (ofW W) c)).ArrAt w cfg0.N (A w)) _) $$ H
      icases H' with ⟨%hA, H⟩
      iexists A
      isplitr
      · ipureintro; exact fun w => hA w (Finset.mem_univ w)
      iexact H
    iintro ⟨Ha, HO, -, Hrest, HR⟩
    ihave Ha := hforget $$ Ha
    icases Ha with ⟨%A, %hA, Ha⟩
    have hjoin := join0 W c A hA
    imodintro
    iexists (A 4), (A 5), (A 6)
    isplitr; · ipureintro; exact ⟨hA 4, hA 5, hA 6⟩
    isplitl [Ha Hrest]
    · iapply hjoin; isplitl [Ha]; · iexact Ha
      iexact Hrest
    isplitl [HR]; · iexact HR
    unfold Pipeline.RDat.owesAt Pipeline.owesWithin
    icases HO with ⟨%W, -, HO⟩; iexists W; iexact HO

end Cert.KernelIdeal.Fwd

end
-- ==== Proof.BwdSeg.lean ====
/-
  The backward region entered at any contents, and what it leaves.
-/
module

public import proofs.«01_k».proof.Proof.BwdBody
public import proofs.«01_k».proof.Proof.FwdSeg

@[expose] public section

set_option maxRecDepth 65536

noncomputable section

namespace Cert.KernelIdeal.Bwd

open Cert.KernelIdeal Cert.KernelIdeal.Gen Cert.KernelIdeal.Run Cert.KernelIdeal.Fwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F]

local notation "𝕄" => MT nD τ sig Unit (Elt F) ℕ (UU nD τ) ℕ

/-- The path that the backward region leaves. -/
def pathV (X0 : S2048x16x64.Idx → Elt F .f32) (X1 : S64x64.Idx → Elt F .f32) (X2 X3 : S16x1.Idx → Elt F .i32) : S2048x16x1.Idx → Elt F .i32 :=
  pathE X0 X1 X2 X3 fun _ => 0#32

theorem ptN_indep (v3 : IVec S16x64 32) (v6 : FVec F S16x64 .f32) (rows : ℕ → FVec F S16x64 .f32) (X : S2048x16x64.Idx → Elt F .f32) (tag : IVec S16x64 32)
    (P P' : S2048x16x1.Idx → Elt F .i32) (y : S2048x16x1.Idx) :
    ∀ s, 2047 < (y 0).val + s → ptN v3 v6 rows X tag P s y = ptN v3 v6 rows X tag P' s y
  | 0, h => by have := (y 0).isLt; have e : S2048x16x1.size 0 = 2048 := rfl; omega
  | s + 1, h => by
    unfold ptN wrP
    split
    · rfl
    · next hn => exact ptN_indep v3 v6 rows X tag P P' y s (by omega)

/-- Every row is written: what the path held before does not matter. -/
theorem pathE_eq (X0 : S2048x16x64.Idx → Elt F .f32) (X1 : S64x64.Idx → Elt F .f32) (X2 X3 : S16x1.Idx → Elt F .i32) (X4 : S2048x16x1.Idx → Elt F .i32) :
    pathE X0 X1 X2 X3 X4 = pathV X0 X1 X2 X3 := funext fun y => ptN_indep _ _ _ _ _ _ _ y 2048 (by omega)

variable (V : Val₁ (F := F)) (c : Dev nD)

/-- The operand blocks. -/
abbrev ob0 : S2048x16x64.Idx → Elt F .f32 := ((cfg1.win 0).blk t1_0).view.read (Elt F) (V c main_call0_v19_0)
abbrev ob1 : S64x64.Idx → Elt F .f32 := ((cfg1.win 1).blk t1_0).view.read (Elt F) (V c main_arg2)
abbrev ob2 : S16x1.Idx → Elt F .i32 := ((cfg1.win 2).blk t1_0).view.read (Elt F) (V c main_call0_v19_2)
abbrev ob3 : S16x1.Idx → Elt F .i32 := ((cfg1.win 3).blk t1_0).view.read (Elt F) (V c main_call0_v18)

/-- The buffers that the region does not stage. -/
abbrev Φb : sProp 𝕄 := Pipeline.scopedRest (Ix := Unit) (Name := ℕ) (U := UU nD τ) (Lvl := ℕ) (Val := Elt F) spec1 c

/-- The proof data of the backward region entered at `V`. -/
def dat1 : Dat τ (Elt F) Unit ℕ (UU nD τ) ℕ cfg1 c where
  A w := V c (Pipeline.arrRef spec1 w)
  after w _ := match w with
    | ⟨0, _⟩ => ob0 V c
    | ⟨1, _⟩ => ob1 V c
    | ⟨2, _⟩ => ob2 V c
    | ⟨3, _⟩ => ob3 V c
    | ⟨4, _⟩ => pathV (ob0 V c) (ob1 V c) (ob2 V c) (ob3 V c)
  Φ _ := Φb c
  q _ := fullShare
  owed _ := 0

theorem bef0 (d : (cfg1.win 0).block.Idx → Elt F (cfg1.win 0).elt) : (dat1 V c).before 0 t1_0 d = ob0 V c := by
  unfold Dat.before; rw [if_pos (fetch1_0 _)]; rfl
theorem bef1 (d : (cfg1.win 1).block.Idx → Elt F (cfg1.win 1).elt) : (dat1 V c).before 1 t1_0 d = ob1 V c := by
  unfold Dat.before; rw [if_pos (fetch1_1 _)]; rfl
theorem bef2 (d : (cfg1.win 2).block.Idx → Elt F (cfg1.win 2).elt) : (dat1 V c).before 2 t1_0 d = ob2 V c := by
  unfold Dat.before; rw [if_pos (fetch1_2 _)]; rfl
theorem bef3 (d : (cfg1.win 3).block.Idx → Elt F (cfg1.win 3).elt) : (dat1 V c).before 3 t1_0 d = ob3 V c := by
  unfold Dat.before; rw [if_pos (fetch1_3 _)]; rfl

theorem obl1 : BodyObligation (dat1 V c) (defs₀ (F := F)) 𝒱₀ () Set.univ := fun t => by
  obtain rfl := fin_N1 t
  rw [bigSep_W1, bigSep_W1]
  show iprop(Φb c ∗ (dat1 V c).owesAt () t1_0.castSucc
      ∗ (∃ d, owns (c : Thread nD τ) (st1_0 t1_0) fullShare ((dat1 V c).before 0 t1_0 d)) ∗ (∃ d, owns (c : Thread nD τ) (st1_1 t1_0) fullShare ((dat1 V c).before 1 t1_0 d))
      ∗ (∃ d, owns (c : Thread nD τ) (st1_2 t1_0) fullShare ((dat1 V c).before 2 t1_0 d)) ∗ (∃ d, owns (c : Thread nD τ) (st1_3 t1_0) fullShare ((dat1 V c).before 3 t1_0 d))
      ∗ (∃ d, owns (c : Thread nD τ) (st1_4 t1_0) fullShare ((dat1 V c).before 4 t1_0 d)))
    ⊢ wp frame (wpE (defs₀ (F := F)) 𝒱₀ (c : Thread nD τ) none) Set.univ (bodyAt1 t1_0) fun _ => iprop(Φb c ∗ (dat1 V c).owesAt () t1_0.castSucc
      ∗ owns (c : Thread nD τ) (st1_0 t1_0) fullShare (ob0 V c) ∗ owns (c : Thread nD τ) (st1_1 t1_0) fullShare (ob1 V c)
      ∗ owns (c : Thread nD τ) (st1_2 t1_0) fullShare (ob2 V c) ∗ owns (c : Thread nD τ) (st1_3 t1_0) fullShare (ob3 V c)
      ∗ owns (c : Thread nD τ) (st1_4 t1_0) fullShare (pathV (ob0 V c) (ob1 V c) (ob2 V c) (ob3 V c)))
  iintro ⟨HΦ, HO, ⟨%d0, H0⟩, ⟨%d1, H1⟩, ⟨%d2, H2⟩, ⟨%d3, H3⟩, ⟨%d4, H4⟩⟩
  rw [bef0, bef1, bef2, bef3]
  ihave Hw := bwd_spec c (st1_0 t1_0) (hstage1_0 0) (st1_1 t1_0) (hstage1_1 0) (st1_2 t1_0) (hstage1_2 0) (st1_3 t1_0) (hstage1_3 0) (st1_4 t1_0) (hstage1_4 0)
    (ob0 V c) (ob1 V c) (ob2 V c) (ob3 V c) ((dat1 V c).before 4 t1_0 d4) $$ [H0 H1 H2 H3 H4]
  · isplitl [H0]; · iexact H0
    isplitl [H1]; · iexact H1
    isplitl [H2]; · iexact H2
    isplitl [H3]; · iexact H3
    iexact H4
  rw [pathE_eq]
  iapply (wp_wand _ _ _) $$ Hw
  iintro %_ ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

variable (W : Dev nD → Valuation τ sig (Elt F))

def pdats1 : (p : Fin 2) → (c : Dev nD) → Dat τ (Elt F) Unit ℕ (UU nD τ) ℕ (Pipeline.pin (pcfgs (F := F)) adm p) c
  | ⟨0, _⟩ => fun c => junkDat c
  | ⟨1, _⟩ => fun c => dat1 (ofW W) c

/-- The path's array after the region. -/
def pathArr : Buf (Elt F) ((c : Thread nD τ).loc main_call0_v20) := (dat1 V c).arrAt 4 cfg1.N

/-- The contents with the backward region's result replaced. -/
abbrev upd1 : Valuation τ sig (Elt F) := Function.update (W c) main_call0_v20 (pathArr (ofW W) c)

set_option backward.isDefEq.respectTransparency.types false in
/-- The arrays put back among the buffers. -/
theorem join1 :
    iprop((dat1 (ofW W) c).arrays ((dat1 (ofW W) c).arrAt · cfg1.N) ∗ Pipeline.unscopedRest (Ix := Unit) (Name := ℕ) (U := UU nD τ) (Lvl := ℕ) spec1 c (ofW W c))
      ⊢ (StableHlo.held (c : Thread nD τ) (Pipeline.ucRefs τ sig) (upd1 c W) : sProp 𝕄) := by
  rw [← Pipeline.unscopedBufs_held]
  have hne : ∀ b : Ref sig .tc, b ≠ main_call0_v20 → upd1 c W b = W c b := fun b h => by
    simp only [upd1, Function.update_of_ne (StableHlo.devRef_ne_of_ne h : (Proc.devRef .tc b : DevRef τ sig) ≠ Proc.devRef .tc main_call0_v20)]
  exact Pipeline.unscopedBufs_of_arrays (p := 1) (pcfgs (F := F)) adm (Ix := Unit) (Name := ℕ) (U := UU nD τ) (Lvl := ℕ) launch1.win launch1.arr_whole c
    (pdats1 W) ((pdats1 W 1 c).share_full fun _ => rfl) (ofW W c) (ofW (fun _ => upd1 c W) c) ((dat1 (ofW W) c).arrAt · cfg1.N)
    (fun w => by
      fin_cases w
      · exact ((dat1 (ofW W) c).arrAt_in 0 rfl _).trans (hne main_call0_v19_0 (by decide)).symm
      · exact ((dat1 (ofW W) c).arrAt_in 1 rfl _).trans (hne main_arg2 (by decide)).symm
      · exact ((dat1 (ofW W) c).arrAt_in 2 rfl _).trans (hne main_call0_v19_2 (by decide)).symm
      · exact ((dat1 (ofW W) c).arrAt_in 3 rfl _).trans (hne main_call0_v18 (by decide)).symm
      · exact (show upd1 c W main_call0_v20 = (dat1 (ofW W) c).arrAt 4 cfg1.N from by
          unfold upd1
          rw [Function.update_self]; rfl).symm)
    (fun b hb => hne b fun h => hb (h ▸ Finset.mem_image.mpr ⟨4, Finset.mem_univ _, rfl⟩))

set_option backward.isDefEq.respectTransparency.types false in
/-- The backward region. -/
def reg1 (R : Dev nD → sProp 𝕄) : Pipeline.RegionSeg (pcfgs (F := F)) adm (pdats1 W) () defs₀ 𝒱₀ L₀ lv₀ 1 where
  win := launch1.win.to₀
  block_pos := launch1.block_pos
  stage_whole := launch1.stage_whole
  K := PEmpty
  osem k := k.elim
  ho := Pipeline.OwnSemFacts.none _
  hbody c := (obl1 (ofW W) c).loose
  hwaits := Pipeline.hwaits_of_owed_zero _ _ _ _ L₀ lv₀ 1 fun _ _ => rfl
  pre c := iprop(StableHlo.held (c : Thread nD τ) (Pipeline.ucRefs τ sig) (W c) ∗ R c ∗ noDebt c)
  post c := iprop(StableHlo.held (c : Thread nD τ) (Pipeline.ucRefs τ sig) (upd1 c W) ∗ R c ∗ noDebt c)
  X _ := BI.emp
  Y _ := BI.emp
  Z c := iprop(Pipeline.unscopedRest (Ix := Unit) (Name := ℕ) (U := UU nD τ) (Lvl := ℕ) spec1 c (ofW W c) ∗ R c)
  hentry c := by
    rw [Pipeline.ownSems0_none, ← Pipeline.unscopedBufs_held]
    have hsplit := Pipeline.arrays_of_unscopedBufs (p := 1) (pcfgs (F := F)) adm (pdats1 W) launch1.win launch1.arr_whole c
      ((pdats1 W 1 c).share_full fun _ => rfl) (ofW W c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats1 W 1 c).Φ 0 = Φb c from rfl]
    iintro ⟨-, -, Hr⟩; iexact Hr
  hout c := by
    rw [Pipeline.ownSems0_none, show (pdats1 W 1 c).Φ (Fin.last _) = Φb c from rfl]
    iintro Hr
    isplitr; · iempintro
    isplitr; · iempintro
    iexact Hr
  hexit c := by
    have hjoin := join1 c W
    iintro ⟨Ha, HO, -, Hrest, HR⟩
    imodintro
    isplitl [Ha Hrest]
    · iapply hjoin; isplitl [Ha]; · iexact Ha
      iexact Hrest
    isplitl [HR]; · iexact HR
    unfold Pipeline.Dat.owesAt Pipeline.owesWithin
    icases HO with ⟨%W, -, HO⟩; iexists W; iexact HO

end Cert.KernelIdeal.Bwd

end
-- ==== Proof.KLaunch.lean ====
/-
  The whole run of the kernel: the host stretches and the two regions in order, and what memory holds at the end.
-/
module

public import proofs.«01_k».proof.Proof.BwdSeg
public import proofs.«01_k».proof.Proof.Gen.KernelIdeal.Regions
public import Idealize.ShloMosaic.Lib.Pipeline.RegionsOwned

@[expose] public section

set_option maxRecDepth 65536

noncomputable section

namespace Cert.KernelIdeal.Run

open Cert.KernelIdeal Cert.KernelIdeal.Gen Cert.KernelIdeal.Fwd Cert.KernelIdeal.Bwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation HostSeg)

variable {F : FTy → Type} [FloatOps F]

local notation "𝕄" => MT nD τ sig Unit (Elt F) ℕ (UU nD τ) ℕ

variable (m : (ℓ : Loc nD τ sig) → Buf (Elt F) ℓ)

/-- What the forward region may leave on core `c`, entered after the first host stretch. -/
structure Left (c : Dev nD) where
  f : Buf (Elt F) ((c : Thread nD τ).loc main_call0_v19_0)
  s : Buf (Elt F) ((c : Thread nD τ).loc main_call0_v19_1)
  g : Buf (Elt F) ((c : Thread nD τ).loc main_call0_v19_2)
  rel : OutRel (ofW (V1 m)) c f s g

variable {m}

/-- The buffers after the forward region, -/
def Left.V2 {c : Dev nD} (l : Left m c) : Valuation τ sig (Elt F) := upd0 (V1 m) c l.f l.s l.g
/-- after the backward region, -/
def Left.V3 {c : Dev nD} (l : Left m c) : Valuation τ sig (Elt F) := upd1 c fun _ => l.V2
/-- and after the last host stretch. -/
def Left.V4 {c : Dev nD} (l : Left m c) : Valuation τ sig (Elt F) := StableHlo.after hostOps2 l.V3

variable (m)

/-- What the backward region is entered with besides the buffers. -/
def ghost1 (c : Dev nD) : sProp 𝕄 :=
  iprop(Pipeline.cellsGhost (nD := nD) cfgs embR 1 c ∗ Pipeline.toksInit (nD := nD) cfgs embR 1 c)

/-- The first host stretch. -/
def sg0 : HostSeg (Ix := Unit) (Name := ℕ) (U := UU nD τ) (Lvl := ℕ) (pcfgs (F := F)) defs₀ 𝒱₀ L₀ lv₀ :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) fun c => iprop(ghost1 c ∗ noDebt c)

/-- The backward region at whatever the forward one left. -/
def sg2 : HostSeg (Ix := Unit) (Name := ℕ) (U := UU nD τ) (Lvl := ℕ) (pcfgs (F := F)) defs₀ 𝒱₀ L₀ lv₀ where
  prog := Prog.lift (.customCall (Pipeline.entry 1) ())
  pre c := iprop((∃ l : Left m c, StableHlo.held (c : Thread nD τ) (Pipeline.ucRefs τ sig) l.V2) ∗ ghost1 c ∗ noDebt c)
  post c := iprop((∃ l : Left m c, StableHlo.held (c : Thread nD τ) (Pipeline.ucRefs τ sig) l.V3) ∗ noDebt c)
  run c {β} k K := by
    simp only [Prog.lift, Prog.bind_op, Prog.bind_ret]
    have hreg := fun l : Left m c => Pipeline.RegionSeg.wp (pcfgs (F := F)) adm (pdats1 fun _ => l.V2) () cellOf_inj embR defs₀ 𝒱₀ L₀ lv₀
      (reg1 (fun _ => l.V2) fun _ => BI.emp) c none (fun u h => nomatch h) k K
    unfold ghost1
    iintro ⟨Hk, Hbd, ⟨⟨%l, Hh⟩, ⟨Hg, Ht⟩, HO⟩, Hla⟩
    iapply (hreg l)
    isplitl [Hk]
    · iintro ⟨Hbd, Hp⟩
      iapply Hk
      isplitl [Hbd]; · iexact Hbd
      have hp : ((reg1 (F := F) (fun _ => l.V2) fun _ => BI.emp).post c : sProp 𝕄) ⊢ iprop((∃ l : Left m c, StableHlo.held (c : Thread nD τ) (Pipeline.ucRefs τ sig) l.V3) ∗ noDebt c) := by
        unfold reg1
        iintro ⟨Hh, -, HO⟩
        isplitl [Hh]; · iexists l; iexact Hh
        iexact HO
      iapply hp; iexact Hp
    isplitl [Hbd]; · iexact Hbd
    isplitl [Hh HO]
    · unfold reg1
      isplitl [Hh]; · iexact Hh
      isplitr; · iempintro
      iexact HO
    isplitl [Hla]; · iexact Hla
    isplitl [Hg]; · iexact Hg
    iexact Ht

/-- The last host stretch. -/
def sg3 : HostSeg (Ix := Unit) (Name := ℕ) (U := UU nD τ) (Lvl := ℕ) (pcfgs (F := F)) defs₀ 𝒱₀ L₀ lv₀ :=
  HostSeg.ofOpsEx _ _ _ _ _ (Γ := Left m) (Pipeline.ucRefs τ sig) hostOps2
    (fun op h => Pipeline.sub_ucRefs op ((List.forall_iff_forall_mem.mp hostOps2_sub) op h))
    (fun op h => (List.forall_iff_forall_mem.mp hostOps2_fresh) op h) (fun _ l => l.V3) noDebt

/-- The four items of the program. -/
abbrev items (_ : Dev nD) : List (Pipeline.RDat.Seg (pcfgs (F := F)) adm (rdats0 (V1 m)) () defs₀ 𝒱₀ L₀ lv₀) :=
  [.host (sg0 m), .region (reg0 (V1 m) ghost1), .host (sg2 m), .host (sg3 m)]

theorem mid (c : Dev nD) : ((reg0 (V1 m) ghost1).post c : sProp 𝕄) ⊢ (sg2 m).pre c := by
  unfold reg0 sg2
  iintro ⟨%f, %s, %g, %h, Hh, Hg, HO⟩
  isplitl [Hh]
  · iexists (⟨f, s, g, h⟩ : Left m c)
    iexact Hh
  isplitl [Hg] <;> iassumption

/-- The launch's ghost state: one copy for the kit, one for the backward region. -/
theorem fund : (ownU ((Rounds.initOf (Pipeline.cells (nD := nD) (τ := τ) cfgs cellOf_inj) (Pipeline.launchToks (nD := nD) (τ := τ) cfgs cellOf_inj),
      Rounds.initOf (Pipeline.cells (nD := nD) (τ := τ) cfgs cellOf_inj) (Pipeline.launchToks (nD := nD) (τ := τ) cfgs cellOf_inj)) : UU nD τ) : sProp 𝕄)
    ⊢ |={Set.univ}=> iprop(BI.own (embL (Rounds.initOf (Pipeline.cells (nD := nD) (τ := τ) cfgs cellOf_inj) (Pipeline.launchToks (nD := nD) (τ := τ) cfgs cellOf_inj)))
      ∗ bigSep Finset.univ (ghost1 (F := F))) := by
  iintro Hu
  ihave H' := (ownU_pair _ _) $$ Hu
  icases H' with ⟨HP, HB⟩
  imod (Pipeline.fund_ghost cfgs embR cellOf_inj) $$ HB with ⟨Hg, Ht⟩
  imodintro
  isplitl [HP]; · iexact HP
  have hpick : iprop((bigSep Finset.univ fun c : Dev nD => bigSep Finset.univ fun p => Pipeline.cellsGhost cfgs embR p c)
      ∗ (bigSep Finset.univ fun c : Dev nD => bigSep Finset.univ fun p => (Pipeline.toksInit cfgs embR p c : sProp 𝕄))) ⊢ bigSep Finset.univ (ghost1 (F := F)) := by
    rw [← bigSep_sep']
    refine bigSep_mono fun c _ => ?_
    unfold ghost1
    exact sep_mono (bigSep_elim (Finset.mem_univ 1)) (bigSep_elim (Finset.mem_univ 1))
  iapply hpick
  isplitl [Hg] <;> iassumption

set_option backward.isDefEq.respectTransparency.types false in
/-- Every execution ends, with memory as the last host stretch leaves it and every semaphore at zero. -/
theorem run (ρ : Dev nD → PrngReg) :
    θ_run defs (onTc (τ := τ) (main (F := F))) ⟨m, fun _ => 0, ρ⟩ (fun r => (∀ c : Dev nD, ∃ l : Left m c,
      ∀ b ∈ Pipeline.ucRefs τ sig, r.2.mem ((c : Thread nD τ).1, b) = l.V4 b) ∧ r.2.sem = fun _ => 0) := by
  refine Pipeline.RDat.θ_run_regions_kit_dev_sems (pcfgs (F := F)) adm (rdats0 (V1 m)) () cellOf_inj embL defs₀ 𝒱₀ L₀ lv₀ m ρ main
    (items m)
    (fun c Q => by
      rewrite [main_chain c, Pipeline.RDat.Seg.run_eq_chain,
        show (items m c).map Pipeline.RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Pipeline.RDat.Seg.pipes_host, Pipeline.RDat.Seg.pipes_region, Pipeline.RDat.Seg.pipes_nil]; decide) 0 (fun _ _ => rfl)
    ghost1 _ fund
    (T₀ := fun c => iprop(StableHlo.held (c : Thread nD τ) (Pipeline.ucRefs τ sig) (V0 m c) ∗ ghost1 c ∗ noDebt c))
    (Tₙ := fun c => iprop(∃ l : Left m c, StableHlo.held (c : Thread nD τ) (Pipeline.ucRefs τ sig) l.V4))
    (hch := fun c => ⟨.rfl, .rfl, mid m c, .rfl, .rfl⟩)
    (hinit := ?_) (QY := fun c s => ∃ l : Left m c, ∀ b ∈ Pipeline.ucRefs τ sig, s.mem ((c : Thread nD τ).1, b) = l.V4 b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ ghost1 c))
        ⊢ (bigSep Finset.univ (fun c : Dev nD => iprop(StableHlo.held (c : Thread nD τ) (Pipeline.ucRefs τ sig) (V0 m c) ∗ ghost1 c ∗ noDebt c)) : sProp 𝕄) := by
      refine bigSep_mono fun c _ => ?_
      have h1 : (unscopedBufs c (fun b => m ((c.tc : Thread nD τ).loc b)) : sProp 𝕄) ⊢ StableHlo.held (c : Thread nD τ) (Pipeline.ucRefs τ sig) (V0 m c) := by
        rw [← Pipeline.unscopedBufs_held (Ix := Unit) (Name := ℕ) (U := UU nD τ) (Lvl := ℕ) c (V0 m c)]
      show (iprop(unscopedBufs c (fun b => m ((c.tc : Thread nD τ).loc b)) ∗ unscopedSems0 c
          ∗ owes (c : Thread nD τ) (0 : CellTallies nD τ sig Unit) ∅ ∗ Pipeline.launchCred (0 : Dev nD → CellTallies nD τ sig Unit) c ∗ prngReg c (ρ c) ∗ ghost1 c) : sProp 𝕄) ⊢ _
      iintro ⟨Hh, -, HO, -, -, Hg⟩
      isplitl [Hh]; · iapply h1; iexact Hh
      isplitl [Hg]; · iexact Hg
      iexists ∅; iexact HO
    iintro ⟨H, -⟩
    imodintro
    iapply hsplit
    iexact H
  · unfold StableHlo.held
    iintro ⟨⟨%l, Hh⟩, HSI⟩
    ihave Hr := (pointsTo_read_all (Pipeline.ucRefs τ sig) (fun b => ((c : Thread nD τ).1, b)) l.V4 s') $$ [Hh HSI]
    · isplitl [Hh] <;> iassumption
    icases Hr with ⟨%h, HSI⟩
    imodintro
    isplitr
    · ipureintro; exact ⟨l, h⟩
    · iexact HSI

end Cert.KernelIdeal.Run

end
-- ==== Proof.KFrame.lean ====
/-
  The kernel's frame: the arguments end as launched and every semaphore ends at zero.
-/
module

public import proofs.«01_k».proof.Proof.KLaunch

@[expose] public section

set_option maxRecDepth 65536

noncomputable section

namespace Cert.KernelIdeal.Run

open Cert.KernelIdeal Cert.KernelIdeal.Gen Cert.KernelIdeal.Fwd Cert.KernelIdeal.Bwd
open Idealize.ShloMosaic Idealize.ShloMosaic.TcCoe
open Idealize.SL.Sem

variable {F : FTy → Type} [FloatOps F]
variable {m : (ℓ : Loc nD τ sig) → Buf (Elt F) ℓ} {c : Dev nD}

/-- A buffer other than the forward region's results is untouched by that region. -/
theorem Left.V2_of (l : Left m c) (r : Ref sig .tc) (h : r ∉ ([main_call0_v19_0, main_call0_v19_1, main_call0_v19_2] : List (Ref sig .tc))) :
    l.V2 r = V1 m c r := by
  simp only [List.mem_cons, List.not_mem_nil, or_false, not_or] at h
  unfold Left.V2 upd0
  rw [Function.update_of_ne (StableHlo.devRef_ne_of_ne h.2.2), Function.update_of_ne (StableHlo.devRef_ne_of_ne h.2.1), Function.update_of_ne (StableHlo.devRef_ne_of_ne h.1)]

/-- A buffer other than the backward region's result is untouched by that region. -/
theorem Left.V3_of (l : Left m c) (r : Ref sig .tc) (h : r ≠ main_call0_v20) : l.V3 r = l.V2 r := by
  unfold Left.V3 upd1
  rw [Function.update_of_ne (StableHlo.devRef_ne_of_ne h)]

/-- A buffer that nothing writes ends as launched. -/
theorem Left.V4_arg (l : Left m c) (r : Ref sig .tc) (h0 : r ∉ hostOps0_W) (h2 : r ∉ hostOps2_W)
    (h : r ∉ ([main_call0_v19_0, main_call0_v19_1, main_call0_v19_2] : List (Ref sig .tc))) (h' : r ≠ main_call0_v20) :
    l.V4 r = m ((c : Thread nD τ).loc r) :=
  (StableHlo.after_of_writes_sub hostOps2 _ hostOps2_writes h2).trans <| (l.V3_of r h').trans <| (l.V2_of r h).trans (V1_of m c r h0)

theorem mem_uc (r : Ref sig .tc) (h : ¬ r.isScoped) : (Proc.devRef .tc r : DevRef τ sig) ∈ Pipeline.ucRefs τ sig :=
  Finset.mem_filter.mpr ⟨StableHlo.devRef_mem_tcRefs r, h⟩

theorem args_of (l : Left m c) (s : MemSt nD τ sig (Elt F)) (h : ∀ b ∈ Pipeline.ucRefs τ sig, s.mem ((c : Thread nD τ).1, b) = l.V4 b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2) :=
  ⟨(h _ (mem_uc main_arg0 (by decide))).trans (l.V4_arg main_arg0 (by decide) (by decide) (by decide) (by decide)),
    (h _ (mem_uc main_arg1 (by decide))).trans (l.V4_arg main_arg1 (by decide) (by decide) (by decide) (by decide)),
    (h _ (mem_uc main_arg2 (by decide))).trans (l.V4_arg main_arg2 (by decide) (by decide) (by decide) (by decide))⟩

variable (m) in
/-- The frame, at any scalars. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).elim fun l hl => args_of l r.2 hl, h.2⟩) (run m ρ)

end Cert.KernelIdeal.Run

end
-- ==== Proof.RefOps.lean ====
/- The reference's host operations, listed stretch by stretch: before the first loop, one trip of each loop and its
   condition, between the loops, after the second. Each list comes with the buffers it touches and writes. -/
module

public import proofs.«01_k».proof.Proof.Gen.ReferenceIdeal
public import Idealize.ShloMosaic.Lib.StableHlo.RunLoop

@[expose] public section

noncomputable section

namespace Cert.ReferenceIdeal.Ops

open Idealize.ShloMosaic Idealize.ShloMosaic.TcCoe Idealize.ShloMosaic.StableHlo
open Facts Facts₀

variable {F : FTy → Type} [FloatOps F]

/-- The operations before the first loop. -/
abbrev pre0 : List (HloOp τ sig (Elt F)) :=
  [ StableHlo.nullary main_v0 (iotaInDim S64 32 0),
    StableHlo.nullary main_c (constantI S_ 32 0#32),
    StableHlo.unary main_c main_v1 (broadcastInDim S64 ![] bcast_S_S64 : (⟨S_, .i32⟩ : BufTy).Contents (Elt F) → (⟨S64, .i32⟩ : BufTy).Contents (Elt F)),
    StableHlo.binary main_v0 main_v1 main_v2 (cmpi .eq : (⟨S64, .i32⟩ : BufTy).Contents (Elt F) → (⟨S64, .i32⟩ : BufTy).Contents (Elt F) → (⟨S64, .i1⟩ : BufTy).Contents (Elt F)),
    StableHlo.nullary main_cst (constant S_ .f32 0x00000000#32),
    StableHlo.nullary main_cst_0 (constant S_ .f32 0xC61C4000#32),
    StableHlo.TRef.unary (.of main_cst : StableHlo.TRef sig ⟨S_, .f32⟩) (.of main_call0_v0 : StableHlo.TRef sig ⟨S64, .f32⟩) (broadcastInDim S64 ![] bcast_S_S64),
    StableHlo.TRef.unary (.of main_cst_0 : StableHlo.TRef sig ⟨S_, .f32⟩) (.of main_call0_v1 : StableHlo.TRef sig ⟨S64, .f32⟩) (broadcastInDim S64 ![] bcast_S_S64),
    StableHlo.TRef.ternary (.of main_v2 : StableHlo.TRef sig ⟨S64, .i1⟩) (.of main_call0_v0 : StableHlo.TRef sig ⟨S64, .f32⟩) (.of main_call0_v1 : StableHlo.TRef sig ⟨S64, .f32⟩) (.of main_v3 : StableHlo.TRef sig ⟨S64, .f32⟩) select,
    StableHlo.unary main_v3 main_v4 (broadcastInDim S1x64 ![1] bcast_S64_S1x64_1 : (⟨S64, .f32⟩ : BufTy).Contents (Elt F) → (⟨S1x64, .f32⟩ : BufTy).Contents (Elt F)),
    StableHlo.unary main_v4 main_v5 (broadcastInDim S16x64 ![0, 1] bcast_S1x64_S16x64_0_1 : (⟨S1x64, .f32⟩ : BufTy).Contents (Elt F) → (⟨S16x64, .f32⟩ : BufTy).Contents (Elt F)),
    StableHlo.unary main_arg0 main_v6 ((transpose S2048x16x64 [1, 0, 2] · transposes_S16x2048x64_S2048x16x64_1_0_2) : (⟨S16x2048x64, .f32⟩ : BufTy).Contents (Elt F) → (⟨S2048x16x64, .f32⟩ : BufTy).Contents (Elt F)),
    StableHlo.nullary main_v7 (iotaInDim S2048 32 0),
    StableHlo.nullary main_c_1 (constantI S_ 32 0#32),
    StableHlo.unary main_c_1 main_v8 (broadcastInDim S2048x16x64 ![] bcast_S_S2048x16x64 : (⟨S_, .i32⟩ : BufTy).Contents (Elt F) → (⟨S2048x16x64, .i32⟩ : BufTy).Contents (Elt F)),
    StableHlo.nullary main_c_2 (constantI S_ 32 0#32),
    StableHlo.unary main_v6 main_v9_0 id,
    StableHlo.unary main_v7 main_v9_1 id,
    StableHlo.unary main_arg2 main_v9_2 id,
    StableHlo.unary main_arg1 main_v9_3 id,
    StableHlo.unary main_c_2 main_v9_4 id,
    StableHlo.unary main_v5 main_v9_5 id,
    StableHlo.unary main_v8 main_v9_6 id ]
theorem pre0_sub : (pre0 : List (HloOp τ sig (Elt F))).Forall fun op => op.bufs ⊆ tcRefs τ sig :=
  ⟨nullary_bufs_sub .., nullary_bufs_sub .., unary_bufs_sub .., binary_bufs_sub .., nullary_bufs_sub .., nullary_bufs_sub .., unary_bufs_sub .., unary_bufs_sub .., ternary_bufs_sub .., unary_bufs_sub .., unary_bufs_sub .., unary_bufs_sub .., nullary_bufs_sub .., nullary_bufs_sub .., unary_bufs_sub .., nullary_bufs_sub .., unary_bufs_sub .., unary_bufs_sub .., unary_bufs_sub .., unary_bufs_sub .., unary_bufs_sub .., unary_bufs_sub .., unary_bufs_sub ..⟩
abbrev pre0_W : List (Ref sig .tc) := [main_v0, main_c, main_v1, main_v2, main_cst, main_cst_0, main_call0_v0, main_call0_v1, main_v3, main_v4, main_v5, main_v6, main_v7, main_c_1, main_v8, main_c_2, main_v9_0, main_v9_1, main_v9_2, main_v9_3, main_v9_4, main_v9_5, main_v9_6]
theorem pre0_writes : (pre0 : List (HloOp τ sig (Elt F))).Forall fun op => op.writes ⊆ (pre0_W.map (Proc.devRef (τ := τ) .tc)).toFinset :=
  forall_writes_sub_of_map rfl

/-- The first loop’s condition. -/
abbrev cond0 : List (HloOp τ sig (Elt F)) :=
  [ StableHlo.nullary main_while0c_c_12 (constantI S_ 32 2048#32),
    StableHlo.binary main_v9_4 main_while0c_c_12 main_while0c_v21 (cmpi .slt : (⟨S_, .i32⟩ : BufTy).Contents (Elt F) → (⟨S_, .i32⟩ : BufTy).Contents (Elt F) → (⟨S_, .i1⟩ : BufTy).Contents (Elt F)) ]
theorem cond0_sub : (cond0 : List (HloOp τ sig (Elt F))).Forall fun op => op.bufs ⊆ tcRefs τ sig :=
  ⟨nullary_bufs_sub .., binary_bufs_sub ..⟩
abbrev cond0_W : List (Ref sig .tc) := [main_while0c_c_12, main_while0c_v21]
theorem cond0_writes : (cond0 : List (HloOp τ sig (Elt F))).Forall fun op => op.writes ⊆ (cond0_W.map (Proc.devRef (τ := τ) .tc)).toFinset :=
  forall_writes_sub_of_map rfl

/-- One trip of the first loop. -/
abbrev body0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v9_0 : StableHlo.TRef sig ⟨S2048x16x64, .f32⟩) ![(.of main_v9_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x16x64, .f32⟩) (fun x i => Host.dynamicSlice S1x16x64 x (fun k => (i k (Shape.Idx.first h_S_)).toInt) sliceFits_S2048x16x64_S1x16x64),
    StableHlo.TRef.reshape (.of main_while0b_call1_v0 : StableHlo.TRef sig ⟨S1x16x64, .f32⟩) (.of main_while0b_v21 : StableHlo.TRef sig ⟨S16x64, .f32⟩) (rfl : (.f32 : EltTy) = .f32) shapeCasts_S1x16x64_S16x64,
    StableHlo.TRef.unaryIndexed (.of main_v9_1 : StableHlo.TRef sig ⟨S2048, .i32⟩) ![(.of main_v9_4 : StableHlo.TRef sig ⟨S_, .i32⟩)] (.of main_while0b_call2_v0 : StableHlo.TRef sig ⟨S1, .i32⟩) (fun x i => Host.dynamicSlice S1 x (fun k => (i k (Shape.Idx.first h_S_)).toInt) sliceFits_S2048_S1),
    StableHlo.TRef.reshape (.of main_while0b_call2_v0 : StableHlo.TRef sig ⟨S1, .i32⟩) (.of main_while0b_v22 : StableHlo.TRef sig ⟨S_, .i32⟩) (rfl : (.i32 : EltTy) = .i32) shapeCasts_S1_S_,
    StableHlo.unary main_v9_5 main_while0b_v23 (broadcastInDim S16x1x64 ![0, 2] bcast_S16x64_S16x1x64_0_2 : (⟨S16x64, .f32⟩ : BufTy).Contents (Elt F) → (⟨S16x1x64, .f32⟩ : BufTy).Contents (Elt F)),
    StableHlo.unary main_v9_2 main_while0b_v24 (broadcastInDim S1x64x64 ![1, 2] bcast_S64x64_S1x64x64_1_2 : (⟨S64x64, .f32⟩ : BufTy).Contents (Elt F) → (⟨S1x64x64, .f32⟩ : BufTy).Contents (Elt F)),
    StableHlo.unary main_while0b_v23 main_while0b_v25 (id : (⟨S16x1x64, .f32⟩ : BufTy).Contents (Elt F) → (⟨S16x1x64, .f32⟩ : BufTy).Contents (Elt F)),
    StableHlo.unary main_while0b_v25 main_while0b_v26 (broadcastInDim S16x64x64 ![0, 1, 2] bcast_S16x1x64_S16x64x64_0_1_2 : (⟨S16x1x64, .f32⟩ : BufTy).Contents (Elt F) → (⟨S16x64x64, .f32⟩ : BufTy).Contents (Elt F)),
    StableHlo.unary main_while0b_v24 main_while0b_v27 (broadcastInDim S16x64x64 ![0, 1, 2] bcast_S1x64x64_S16x64x64_0_1_2 : (⟨S1x64x64, .f32⟩ : BufTy).Contents (Elt F) → (⟨S16x64x64, .f32⟩ : BufTy).Contents (Elt F)),
    StableHlo.binary main_while0b_v26 main_while0b_v27 main_while0b_v28 (addf : (⟨S16x64x64, .f32⟩ : BufTy).Contents (Elt F) → (⟨S16x64x64, .f32⟩ : BufTy).Contents (Elt F) → (⟨S16x64x64, .f32⟩ : BufTy).Contents (Elt F)),
    StableHlo.TRef.nullary (.of main_while0b_call3_v0 : StableHlo.TRef sig ⟨S16x64x64, .i32⟩) (iotaInDim S16x64x64 32 2),
    StableHlo.TRef.nullary (.of main_while0b_call3_cst : StableHlo.TRef sig ⟨S_, .f32⟩) (constant S_ .f32 0xFF800000#32),
    StableHlo.TRef.nullary (.of main_while0b_call3_c : StableHlo.TRef sig ⟨S_, .i32⟩) (constantI S_ 32 0#32),
    StableHlo.TRef.quaternary (.of main_while0b_v28 : StableHlo.TRef sig ⟨S16x64x64, .f32⟩) (.of main_while0b_call3_v0 : StableHlo.TRef sig ⟨S16x64x64, .i32⟩) (.of main_while0b_call3_cst : StableHlo.TRef sig ⟨S_, .f32⟩) (.of main_while0b_call3_c : StableHlo.TRef sig ⟨S_, .i32⟩) (.of main_while0b_call3_v1_0 : StableHlo.TRef sig ⟨S16x64, .f32⟩) (fun x y u v j => (Host.argReduce reducer_argmax_f32_i32 x y u v reducesTo_S16x64x64_S16x64_d2 h_S_ j).1),
    StableHlo.TRef.quaternary (.of main_while0b_v28 : StableHlo.TRef sig ⟨S16x64x64, .f32⟩) (.of main_while0b_call3_v0 : StableHlo.TRef sig ⟨S16x64x64, .i32⟩) (.of main_while0b_call3_cst : StableHlo.TRef sig ⟨S_, .f32⟩) (.of main_while0b_call3_c : StableHlo.TRef sig ⟨S_, .i32⟩) (.of main_while0b_v29 : StableHlo.TRef sig ⟨S16x64, .i32⟩) (fun x y u v j => (Host.argReduce reducer_argmax_f32_i32 x y u v reducesTo_S16x64x64_S16x64_d2 h_S_ j).2),
    StableHlo.nullary main_while0b_cst_12 (constant S_ .f32 0xFF800000#32),
    StableHlo.binary main_while0b_v28 main_while0b_cst_12 main_while0b_v30 ((fun x v => Host.reduce FloatOps.maximumf x v reducesTo_S16x64x64_S16x64_d2 h_S_) : (⟨S16x64x64, .f32⟩ : BufTy).Contents (Elt F) → (⟨S_, .f32⟩ : BufTy).Contents (Elt F) → (⟨S16x64, .f32⟩ : BufTy).Contents (Elt F)),
    StableHlo.binary main_while0b_v30 main_while0b_v21 main_while0b_v31 (addf : (⟨S16x64, .f32⟩ : BufTy).Contents (Elt F) → (⟨S16x64, .f32⟩ : BufTy).Contents (Elt F) → (⟨S16x64, .f32⟩ : BufTy).Contents (Elt F)),
    StableHlo.unary main_while0b_v22 main_while0b_v32 (broadcastInDim S16 ![] bcast_S_S16 : (⟨S_, .i32⟩ : BufTy).Contents (Elt F) → (⟨S16, .i32⟩ : BufTy).Contents (Elt F)),
    StableHlo.binary main_while0b_v32 main_v9_3 main_while0b_v33 (cmpi .slt : (⟨S16, .i32⟩ : BufTy).Contents (Elt F) → (⟨S16, .i32⟩ : BufTy).Contents (Elt F) → (⟨S16, .i1⟩ : BufTy).Contents (Elt F)),
    StableHlo.unary main_while0b_v33 main_while0b_v34 (broadcastInDim S16x1 ![0] bcast_S16_S16x1_0 : (⟨S16, .i1⟩ : BufTy).Contents (Elt F) → (⟨S16x1, .i1⟩ : BufTy).Contents (Elt F)),
    StableHlo.TRef.unary (.of main_v9_5 : StableHlo.TRef sig ⟨S16x64, .f32⟩) (.of main_while0b_call4_v0 : StableHlo.TRef sig ⟨S16x64, .f32⟩) id,
    StableHlo.TRef.unary (.of main_while0b_v34 : StableHlo.TRef sig ⟨S16x1, .i1⟩) (.of main_while0b_call4_v1 : StableHlo.TRef sig ⟨S16x64, .i1⟩) (broadcastInDim S16x64 ![0, 1] bcast_S16x1_S16x64_0_1),
    StableHlo.TRef.ternary (.of main_while0b_call4_v1 : StableHlo.TRef sig ⟨S16x64, .i1⟩) (.of main_while0b_v31 : StableHlo.TRef sig ⟨S16x64, .f32⟩) (.of main_while0b_call4_v0 : StableHlo.TRef sig ⟨S16x64, .f32⟩) (.of main_while0b_v35 : StableHlo.TRef sig ⟨S16x64, .f32⟩) select,
    StableHlo.TRef.unary (.of main_while0b_v29 : StableHlo.TRef sig ⟨S16x64, .i32⟩) (.of main_while0b_call5_v0 : StableHlo.TRef sig ⟨S1x16x64, .i32⟩) (broadcastInDim S1x16x64 ![1, 2] bcast_S16x64_S1x16x64_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v9_6 : StableHlo.TRef sig ⟨S2048x16x64, .i32⟩) (.of main_while0b_call5_v0 : StableHlo.TRef sig ⟨S1x16x64, .i32⟩) ![(.of main_v9_4 : StableHlo.TRef sig ⟨S_, .i32⟩), (.of main_while0b_call5_c : StableHlo.TRef sig ⟨S_, .i32⟩), (.of main_while0b_call5_c_0 : StableHlo.TRef sig ⟨S_, .i32⟩)] (.of main_while0b_v36 : StableHlo.TRef sig ⟨S2048x16x64, .i32⟩) (fun x u i => Host.dynamicUpdateSlice x u (fun k => (i k (Shape.Idx.first h_S_)).toInt) updateFits_S2048x16x64_S1x16x64),
    StableHlo.nullary main_while0b_c_13 (constantI S_ 32 1#32),
    StableHlo.binary main_v9_4 main_while0b_c_13 main_while0b_v37 (addi : (⟨S_, .i32⟩ : BufTy).Contents (Elt F) → (⟨S_, .i32⟩ : BufTy).Contents (Elt F) → (⟨S_, .i32⟩ : BufTy).Contents (Elt F)),
    StableHlo.unary main_while0b_v37 main_v9_4 id,
    StableHlo.unary main_while0b_v35 main_v9_5 id,
    StableHlo.unary main_while0b_v36 main_v9_6 id ]
theorem body0_sub : (body0 : List (HloOp τ sig (Elt F))).Forall fun op => op.bufs ⊆ tcRefs τ sig :=
  ⟨nullary_bufs_sub .., nullary_bufs_sub .., unaryIndexed_bufs_sub .., reshape_bufs_sub .., unaryIndexed_bufs_sub .., reshape_bufs_sub .., unary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., nullary_bufs_sub .., binary_bufs_sub .., binary_bufs_sub .., unary_bufs_sub .., binary_bufs_sub .., unary_bufs_sub .., unary_bufs_sub .., unary_bufs_sub .., ternary_bufs_sub .., unary_bufs_sub .., nullary_bufs_sub .., nullary_bufs_sub .., binaryIndexed_bufs_sub .., nullary_bufs_sub .., binary_bufs_sub .., unary_bufs_sub .., unary_bufs_sub .., unary_bufs_sub ..⟩
abbrev body0_W : List (Ref sig .tc) := [main_while0b_call1_c, main_while0b_call1_c_0, main_while0b_call1_v0, main_while0b_v21, main_while0b_call2_v0, main_while0b_v22, main_while0b_v23, main_while0b_v24, main_while0b_v25, main_while0b_v26, main_while0b_v27, main_while0b_v28, main_while0b_call3_v0, main_while0b_call3_cst, main_while0b_call3_c, main_while0b_call3_v1_0, main_while0b_v29, main_while0b_cst_12, main_while0b_v30, main_while0b_v31, main_while0b_v32, main_while0b_v33, main_while0b_v34, main_while0b_call4_v0, main_while0b_call4_v1, main_while0b_v35, main_while0b_call5_v0, main_while0b_call5_c, main_while0b_call5_c_0, main_while0b_v36, main_while0b_c_13, main_while0b_v37, main_v9_4, main_v9_5, main_v9_6]
theorem body0_writes : (body0 : List (HloOp τ sig (Elt F))).Forall fun op => op.writes ⊆ (body0_W.map (Proc.devRef (τ := τ) .tc)).toFinset :=
  forall_writes_sub_of_map rfl

/-- The operations between the loops. -/
abbrev mid1 : List (HloOp τ sig (Elt F)) :=
  [ StableHlo.unary main_arg2 main_v10 ((extractStridedSlice S1x64 ![63, 0] · slices_S64x64_S1x64_63_0) : (⟨S64x64, .f32⟩ : BufTy).Contents (Elt F) → (⟨S1x64, .f32⟩ : BufTy).Contents (Elt F)),
    StableHlo.reshape main_v10 main_v11 (rfl : (.f32 : EltTy) = .f32) shapeCasts_S1x64_S64,
    StableHlo.unary main_v11 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S16x64 ![0, 1] bcast_S1x64_S16x64_0_1 : (⟨S1x64, .f32⟩ : BufTy).Contents (Elt F) → (⟨S16x64, .f32⟩ : BufTy).Contents (Elt F)),
    StableHlo.binary main_v9_5 main_v13 main_v14 (addf : (⟨S16x64, .f32⟩ : BufTy).Contents (Elt F) → (⟨S16x64, .f32⟩ : BufTy).Contents (Elt F) → (⟨S16x64, .f32⟩ : BufTy).Contents (Elt F)),
    StableHlo.TRef.nullary (.of main_call6_v0 : StableHlo.TRef sig ⟨S16x64, .i32⟩) (iotaInDim S16x64 32 1),
    StableHlo.TRef.nullary (.of main_call6_cst : StableHlo.TRef sig ⟨S_, .f32⟩) (constant S_ .f32 0xFF800000#32),
    StableHlo.TRef.nullary (.of main_call6_c : StableHlo.TRef sig ⟨S_, .i32⟩) (constantI S_ 32 0#32),
    StableHlo.TRef.quaternary (.of main_v14 : StableHlo.TRef sig ⟨S16x64, .f32⟩) (.of main_call6_v0 : StableHlo.TRef sig ⟨S16x64, .i32⟩) (.of main_call6_cst : StableHlo.TRef sig ⟨S_, .f32⟩) (.of main_call6_c : StableHlo.TRef sig ⟨S_, .i32⟩) (.of main_call6_v1_0 : StableHlo.TRef sig ⟨S16, .f32⟩) (fun x y u v j => (Host.argReduce reducer_argmax_f32_i32 x y u v reducesTo_S16x64_S16_d1 h_S_ j).1),
    StableHlo.TRef.quaternary (.of main_v14 : StableHlo.TRef sig ⟨S16x64, .f32⟩) (.of main_call6_v0 : StableHlo.TRef sig ⟨S16x64, .i32⟩) (.of main_call6_cst : StableHlo.TRef sig ⟨S_, .f32⟩) (.of main_call6_c : StableHlo.TRef sig ⟨S_, .i32⟩) (.of main_v15 : StableHlo.TRef sig ⟨S16, .i32⟩) (fun x y u v j => (Host.argReduce reducer_argmax_f32_i32 x y u v reducesTo_S16x64_S16_d1 h_S_ j).2),
    StableHlo.nullary main_cst_3 (constant S_ .f32 0xFF800000#32),
    StableHlo.binary main_v14 main_cst_3 main_v16 ((fun x v => Host.reduce FloatOps.maximumf x v reducesTo_S16x64_S16_d1 h_S_) : (⟨S16x64, .f32⟩ : BufTy).Contents (Elt F) → (⟨S_, .f32⟩ : BufTy).Contents (Elt F) → (⟨S16, .f32⟩ : BufTy).Contents (Elt F)),
    StableHlo.nullary main_v17 (iotaInDim S2048 32 0),
    StableHlo.nullary main_c_4 (constantI S_ 32 0#32),
    StableHlo.unary main_c_4 main_v18 (broadcastInDim S2048x16 ![] bcast_S_S2048x16 : (⟨S_, .i32⟩ : BufTy).Contents (Elt F) → (⟨S2048x16, .i32⟩ : BufTy).Contents (Elt F)),
    StableHlo.nullary main_c_5 (constantI S_ 32 0#32),
    StableHlo.unary main_v9_6 main_v19_0 id,
    StableHlo.unary main_v17 main_v19_1 id,
    StableHlo.unary main_arg1 main_v19_2 id,
    StableHlo.unary main_c_5 main_v19_3 id,
    StableHlo.unary main_v15 main_v19_4 id,
    StableHlo.unary main_v18 main_v19_5 id ]
theorem mid1_sub : (mid1 : List (HloOp τ sig (Elt F))).Forall fun op => op.bufs ⊆ tcRefs τ sig :=
  ⟨unary_bufs_sub .., reshape_bufs_sub .., unary_bufs_sub .., unary_bufs_sub .., binary_bufs_sub .., nullary_bufs_sub .., nullary_bufs_sub .., nullary_bufs_sub .., quaternary_bufs_sub .., quaternary_bufs_sub .., nullary_bufs_sub .., binary_bufs_sub .., nullary_bufs_sub .., nullary_bufs_sub .., unary_bufs_sub .., nullary_bufs_sub .., unary_bufs_sub .., unary_bufs_sub .., unary_bufs_sub .., unary_bufs_sub .., unary_bufs_sub .., unary_bufs_sub ..⟩
abbrev mid1_W : List (Ref sig .tc) := [main_v10, main_v11, main_v12, main_v13, main_v14, main_call6_v0, main_call6_cst, main_call6_c, main_call6_v1_0, main_v15, main_cst_3, main_v16, main_v17, main_c_4, main_v18, main_c_5, main_v19_0, main_v19_1, main_v19_2, main_v19_3, main_v19_4, main_v19_5]
theorem mid1_writes : (mid1 : List (HloOp τ sig (Elt F))).Forall fun op => op.writes ⊆ (mid1_W.map (Proc.devRef (τ := τ) .tc)).toFinset :=
  forall_writes_sub_of_map rfl

/-- The second loop’s condition. -/
abbrev cond1 : List (HloOp τ sig (Elt F)) :=
  [ StableHlo.nullary main_while1c_c_11 (constantI S_ 32 2048#32),
    StableHlo.binary main_v19_3 main_while1c_c_11 main_while1c_v21 (cmpi .slt : (⟨S_, .i32⟩ : BufTy).Contents (Elt F) → (⟨S_, .i32⟩ : BufTy).Contents (Elt F) → (⟨S_, .i1⟩ : BufTy).Contents (Elt F)) ]
theorem cond1_sub : (cond1 : List (HloOp τ sig (Elt F))).Forall fun op => op.bufs ⊆ tcRefs τ sig :=
  ⟨nullary_bufs_sub .., binary_bufs_sub ..⟩
abbrev cond1_W : List (Ref sig .tc) := [main_while1c_c_11, main_while1c_v21]
theorem cond1_writes : (cond1 : List (HloOp τ sig (Elt F))).Forall fun op => op.writes ⊆ (cond1_W.map (Proc.devRef (τ := τ) .tc)).toFinset :=
  forall_writes_sub_of_map rfl

/-- One trip of the second loop. -/
abbrev body1 : List (HloOp τ sig (Elt F)) :=
  [ StableHlo.nullary main_while1b_c_11 (constantI S_ 32 2048#32),
    StableHlo.binary main_while1b_c_11 main_v19_3 main_while1b_v21 (subi : (⟨S_, .i32⟩ : BufTy).Contents (Elt F) → (⟨S_, .i32⟩ : BufTy).Contents (Elt F) → (⟨S_, .i32⟩ : BufTy).Contents (Elt F)),
    StableHlo.nullary main_while1b_c_12 (constantI S_ 32 1#32),
    StableHlo.binary main_while1b_v21 main_while1b_c_12 main_while1b_v22 (subi : (⟨S_, .i32⟩ : BufTy).Contents (Elt F) → (⟨S_, .i32⟩ : BufTy).Contents (Elt F) → (⟨S_, .i32⟩ : BufTy).Contents (Elt F)),
    StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v19_0 : StableHlo.TRef sig ⟨S2048x16x64, .i32⟩) ![(.of main_while1b_v22 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x16x64, .i32⟩) (fun x i => Host.dynamicSlice S1x16x64 x (fun k => (i k (Shape.Idx.first h_S_)).toInt) sliceFits_S2048x16x64_S1x16x64),
    StableHlo.TRef.reshape (.of main_while1b_call7_v0 : StableHlo.TRef sig ⟨S1x16x64, .i32⟩) (.of main_while1b_v23 : StableHlo.TRef sig ⟨S16x64, .i32⟩) (rfl : (.i32 : EltTy) = .i32) shapeCasts_S1x16x64_S16x64,
    StableHlo.TRef.unaryIndexed (.of main_v19_1 : StableHlo.TRef sig ⟨S2048, .i32⟩) ![(.of main_while1b_v22 : StableHlo.TRef sig ⟨S_, .i32⟩)] (.of main_while1b_call8_v0 : StableHlo.TRef sig ⟨S1, .i32⟩) (fun x i => Host.dynamicSlice S1 x (fun k => (i k (Shape.Idx.first h_S_)).toInt) sliceFits_S2048_S1),
    StableHlo.TRef.reshape (.of main_while1b_call8_v0 : StableHlo.TRef sig ⟨S1, .i32⟩) (.of main_while1b_v24 : StableHlo.TRef sig ⟨S_, .i32⟩) (rfl : (.i32 : EltTy) = .i32) shapeCasts_S1_S_,
    StableHlo.unary main_while1b_v24 main_while1b_v25 (broadcastInDim S16 ![] bcast_S_S16 : (⟨S_, .i32⟩ : BufTy).Contents (Elt F) → (⟨S16, .i32⟩ : BufTy).Contents (Elt F)),
    StableHlo.binary main_while1b_v25 main_v19_2 main_while1b_v26 (cmpi .slt : (⟨S16, .i32⟩ : BufTy).Contents (Elt F) → (⟨S16, .i32⟩ : BufTy).Contents (Elt F) → (⟨S16, .i1⟩ : BufTy).Contents (Elt F)),
    StableHlo.nullary main_while1b_c_13 (constantI S_ 32 4294967295#32),
    StableHlo.TRef.unary (.of main_while1b_c_13 : StableHlo.TRef sig ⟨S_, .i32⟩) (.of main_while1b_call9_v0 : StableHlo.TRef sig ⟨S_, .i32⟩) id,
    StableHlo.TRef.unary (.of main_while1b_call9_v0 : StableHlo.TRef sig ⟨S_, .i32⟩) (.of main_while1b_call9_v1 : StableHlo.TRef sig ⟨S16, .i32⟩) (broadcastInDim S16 ![] bcast_S_S16),
    StableHlo.TRef.ternary (.of main_while1b_v26 : StableHlo.TRef sig ⟨S16, .i1⟩) (.of main_v19_4 : StableHlo.TRef sig ⟨S16, .i32⟩) (.of main_while1b_call9_v1 : StableHlo.TRef sig ⟨S16, .i32⟩) (.of main_while1b_v27 : StableHlo.TRef sig ⟨S16, .i32⟩) select,
    StableHlo.unary main_v19_4 main_while1b_v28 (broadcastInDim S16x1 ![0] bcast_S16_S16x1_0 : (⟨S16, .i32⟩ : BufTy).Contents (Elt F) → (⟨S16x1, .i32⟩ : BufTy).Contents (Elt F)),
    StableHlo.TRef.nullary (.of main_while1b_call10_c : StableHlo.TRef sig ⟨S_, .i32⟩) (constantI S_ 32 0#32),
    StableHlo.TRef.unary (.of main_while1b_call10_c : StableHlo.TRef sig ⟨S_, .i32⟩) (.of main_while1b_call10_v0 : StableHlo.TRef sig ⟨S16x1, .i32⟩) (broadcastInDim S16x1 ![] bcast_S_S16x1),
    StableHlo.TRef.binary (.of main_while1b_v28 : StableHlo.TRef sig ⟨S16x1, .i32⟩) (.of main_while1b_call10_v0 : StableHlo.TRef sig ⟨S16x1, .i32⟩) (.of main_while1b_call10_v1 : StableHlo.TRef sig ⟨S16x1, .i1⟩) (cmpi .slt),
    StableHlo.TRef.nullary (.of main_while1b_call10_c_0 : StableHlo.TRef sig ⟨S_, .i32⟩) (constantI S_ 32 64#32),
    StableHlo.TRef.unary (.of main_while1b_call10_c_0 : StableHlo.TRef sig ⟨S_, .i32⟩) (.of main_while1b_call10_v2 : StableHlo.TRef sig ⟨S16x1, .i32⟩) (broadcastInDim S16x1 ![] bcast_S_S16x1),
    StableHlo.TRef.binary (.of main_while1b_v28 : StableHlo.TRef sig ⟨S16x1, .i32⟩) (.of main_while1b_call10_v2 : StableHlo.TRef sig ⟨S16x1, .i32⟩) (.of main_while1b_call10_v3 : StableHlo.TRef sig ⟨S16x1, .i32⟩) addi,
    StableHlo.TRef.ternary (.of main_while1b_call10_v1 : StableHlo.TRef sig ⟨S16x1, .i1⟩) (.of main_while1b_call10_v3 : StableHlo.TRef sig ⟨S16x1, .i32⟩) (.of main_while1b_v28 : StableHlo.TRef sig ⟨S16x1, .i32⟩) (.of main_while1b_call10_v4 : StableHlo.TRef sig ⟨S16x1, .i32⟩) select,
    StableHlo.TRef.reshape (.of main_while1b_call10_v4 : StableHlo.TRef sig ⟨S16x1, .i32⟩) (.of main_while1b_call10_v5 : StableHlo.TRef sig ⟨S16x1x1, .i32⟩) (rfl : (.i32 : EltTy) = .i32) shapeCasts_S16x1_S16x1x1,
    StableHlo.TRef.binary (.of main_while1b_v23 : StableHlo.TRef sig ⟨S16x64, .i32⟩) (.of main_while1b_call10_v5 : StableHlo.TRef sig ⟨S16x1x1, .i32⟩) (.of main_while1b_v29 : StableHlo.TRef sig ⟨S16x1, .i32⟩) (fun x i => Host.gather gather_S16x64_S16x1x1_S16x1_n_1_0_0_1_2_11 x i),
    StableHlo.reshape main_while1b_v29 main_while1b_v30 (rfl : (.i32 : EltTy) = .i32) shapeCasts_S16x1_S16,
    StableHlo.unary main_while1b_v24 main_while1b_v31 (broadcastInDim S16 ![] bcast_S_S16 : (⟨S_, .i32⟩ : BufTy).Contents (Elt F) → (⟨S16, .i32⟩ : BufTy).Contents (Elt F)),
    StableHlo.binary main_while1b_v31 main_v19_2 main_while1b_v32 (cmpi .slt : (⟨S16, .i32⟩ : BufTy).Contents (Elt F) → (⟨S16, .i32⟩ : BufTy).Contents (Elt F) → (⟨S16, .i1⟩ : BufTy).Contents (Elt F)),
    StableHlo.TRef.ternary (.of main_while1b_v32 : StableHlo.TRef sig ⟨S16, .i1⟩) (.of main_while1b_v30 : StableHlo.TRef sig ⟨S16, .i32⟩) (.of main_v19_4 : StableHlo.TRef sig ⟨S16, .i32⟩) (.of main_while1b_v33 : StableHlo.TRef sig ⟨S16, .i32⟩) select,
    StableHlo.TRef.unary (.of main_while1b_v27 : StableHlo.TRef sig ⟨S16, .i32⟩) (.of main_while1b_call12_v0 : StableHlo.TRef sig ⟨S1x16, .i32⟩) (broadcastInDim S1x16 ![1] bcast_S16_S1x16_1),
    StableHlo.TRef.nullary (.of main_while1b_call12_c : StableHlo.TRef sig ⟨S_, .i32⟩) (constantI S_ 32 0#32),
    StableHlo.TRef.binaryIndexed (.of main_v19_5 : StableHlo.TRef sig ⟨S2048x16, .i32⟩) (.of main_while1b_call12_v0 : StableHlo.TRef sig ⟨S1x16, .i32⟩) ![(.of main_while1b_v22 : StableHlo.TRef sig ⟨S_, .i32⟩), (.of main_while1b_call12_c : StableHlo.TRef sig ⟨S_, .i32⟩)] (.of main_while1b_v34 : StableHlo.TRef sig ⟨S2048x16, .i32⟩) (fun x u i => Host.dynamicUpdateSlice x u (fun k => (i k (Shape.Idx.first h_S_)).toInt) updateFits_S2048x16_S1x16),
    StableHlo.nullary main_while1b_c_14 (constantI S_ 32 1#32),
    StableHlo.binary main_v19_3 main_while1b_c_14 main_while1b_v35 (addi : (⟨S_, .i32⟩ : BufTy).Contents (Elt F) → (⟨S_, .i32⟩ : BufTy).Contents (Elt F) → (⟨S_, .i32⟩ : BufTy).Contents (Elt F)),
    StableHlo.unary main_while1b_v35 main_v19_3 id,
    StableHlo.unary main_while1b_v33 main_v19_4 id,
    StableHlo.unary main_while1b_v34 main_v19_5 id ]
theorem body1_sub : (body1 : List (HloOp τ sig (Elt F))).Forall fun op => op.bufs ⊆ tcRefs τ sig :=
  ⟨nullary_bufs_sub .., binary_bufs_sub .., nullary_bufs_sub .., binary_bufs_sub .., nullary_bufs_sub .., nullary_bufs_sub .., unaryIndexed_bufs_sub .., reshape_bufs_sub .., unaryIndexed_bufs_sub .., reshape_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., binary_bufs_sub .., reshape_bufs_sub .., unary_bufs_sub .., binary_bufs_sub .., ternary_bufs_sub .., unary_bufs_sub .., nullary_bufs_sub .., binaryIndexed_bufs_sub .., nullary_bufs_sub .., binary_bufs_sub .., unary_bufs_sub .., unary_bufs_sub .., unary_bufs_sub ..⟩
abbrev body1_W : List (Ref sig .tc) := [main_while1b_c_11, main_while1b_v21, main_while1b_c_12, main_while1b_v22, main_while1b_call7_c, main_while1b_call7_c_0, main_while1b_call7_v0, main_while1b_v23, main_while1b_call8_v0, main_while1b_v24, main_while1b_v25, main_while1b_v26, main_while1b_c_13, main_while1b_call9_v0, main_while1b_call9_v1, main_while1b_v27, main_while1b_v28, main_while1b_call10_c, main_while1b_call10_v0, main_while1b_call10_v1, main_while1b_call10_c_0, main_while1b_call10_v2, main_while1b_call10_v3, main_while1b_call10_v4, main_while1b_call10_v5, main_while1b_v29, main_while1b_v30, main_while1b_v31, main_while1b_v32, main_while1b_v33, main_while1b_call12_v0, main_while1b_call12_c, main_while1b_v34, main_while1b_c_14, main_while1b_v35, main_v19_3, main_v19_4, main_v19_5]
theorem body1_writes : (body1 : List (HloOp τ sig (Elt F))).Forall fun op => op.writes ⊆ (body1_W.map (Proc.devRef (τ := τ) .tc)).toFinset :=
  forall_writes_sub_of_map rfl

/-- The operations after the second loop. -/
abbrev post2 : List (HloOp τ sig (Elt F)) :=
  [ StableHlo.unary main_v19_5 main_v20 ((transpose S16x2048 [1, 0] · transposes_S2048x16_S16x2048_1_0) : (⟨S2048x16, .i32⟩ : BufTy).Contents (Elt F) → (⟨S16x2048, .i32⟩ : BufTy).Contents (Elt F)) ]
theorem post2_sub : (post2 : List (HloOp τ sig (Elt F))).Forall fun op => op.bufs ⊆ tcRefs τ sig :=
  unary_bufs_sub ..
abbrev post2_W : List (Ref sig .tc) := [main_v20]
theorem post2_writes : (post2 : List (HloOp τ sig (Elt F))).Forall fun op => op.writes ⊆ (post2_W.map (Proc.devRef (τ := τ) .tc)).toFinset :=
  forall_writes_sub_of_map rfl

end Cert.ReferenceIdeal.Ops

end
-- ==== Proof.RefRun.lean ====
/- The run of the reference: the operations before the first loop, 2048 trips of the first loop, the operations between,
   2048 trips of the second, the last transpose. Every buffer ends at the contents those operations give it, no
   argument is written, and every counter is zero. -/
module

public import proofs.«01_k».proof.Proof.RefOps
public import Idealize.ShloMosaic.Lib.Pipeline.RegionsLoop
public import Idealize.ShloMosaic.Lib.Scf.ExitTest
public import Idealize.ShloMosaic.Lib.Scf.Counter

@[expose] public section

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs sub_ucRefs CSeg)
open Cert.ReferenceIdeal.Ops

variable {F : FTy → Type} [FloatOps F]

local notation "𝕄" => MT nD τ sig Unit (Elt F) ℕ (Option PUnit) ℕ

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm :=
  fun j => j.elim0
abbrev L : GSem nD τ sig → Finset Unit := fun _ => ∅
abbrev lv : GSem nD τ sig → Unit → ℕ := fun _ _ => 0
abbrev 𝒱₀ : Variants := Variants.none

theorem cells_inj : Function.Injective (Pipeline.cellOf (nD := nD) (τ := τ) (Pipeline.pin (pcfgs (F := F)) adm)) := fun k => k.1.elim0

/-- What rides beside the buffers. -/
abbrev Rw (c : Dev nD) : sProp 𝕄 := iprop(∃ W, owes (c : Thread nD τ) (0 : CellTallies nD τ sig Unit) W)

/-! ## The contents at each boundary -/

variable (m : (ℓ : Loc nD τ sig) → Buf (Elt F) ℓ)

abbrev nT : ℕ := 2048
/-- At launch; when the first loop is entered; before its `k`-th test; when the second loop is entered; before its `k`-th
    test; at the end. -/
abbrev W0 : Dev nD → Valuation τ sig (Elt F) := fun c b => m ((c : Dev nD), b)
abbrev Wa : Dev nD → Valuation τ sig (Elt F) := fun c => after pre0 (W0 m c)
abbrev A (k : ℕ) (c : Dev nD) : Valuation τ sig (Elt F) := atTrip cond0 [body0] (Wa m) k c
abbrev Wm : Dev nD → Valuation τ sig (Elt F) := fun c => after cond0 (A m nT c)
abbrev Wb : Dev nD → Valuation τ sig (Elt F) := fun c => after mid1 (Wm m c)
abbrev B (k : ℕ) (c : Dev nD) : Valuation τ sig (Elt F) := atTrip cond1 [body1] (Wb m) k c
abbrev Wn : Dev nD → Valuation τ sig (Elt F) := fun c => after cond1 (B m nT c)
abbrev Wend : Dev nD → Valuation τ sig (Elt F) := fun c => after post2 (Wn m c)

theorem A_succ (k : ℕ) (c : Dev nD) : A m (k + 1) c = after body0 (after cond0 (A m k c)) := rfl
theorem B_succ (k : ℕ) (c : Dev nD) : B m (k + 1) c = after body1 (after cond1 (B m k c)) := rfl

/-- A buffer that neither the first loop's condition nor its body writes is the same at every trip. -/
theorem A_of (c : Dev nD) (r : Ref sig .tc) (h : r ∉ cond0_W) (h' : r ∉ body0_W) : ∀ k, A m k c r = Wa m c r
  | 0 => rfl
  | k + 1 => by
    rw [A_succ, after_of_writes_sub body0 _ body0_writes h', after_of_writes_sub cond0 _ cond0_writes h]
    exact A_of c r h h' k
theorem B_of (c : Dev nD) (r : Ref sig .tc) (h : r ∉ cond1_W) (h' : r ∉ body1_W) : ∀ k, B m k c r = Wb m c r
  | 0 => rfl
  | k + 1 => by
    rw [B_succ, after_of_writes_sub body1 _ body1_writes h', after_of_writes_sub cond1 _ cond1_writes h]
    exact B_of c r h h' k

theorem Wend_of (c : Dev nD) (r : Ref sig .tc) (h : r ∉ cond0_W) (h' : r ∉ body0_W) (h1 : r ∉ cond1_W) (h1' : r ∉ body1_W)
    (hp : r ∉ pre0_W) (hm : r ∉ mid1_W) (hq : r ∉ post2_W) : Wend m c r = m ((c : Thread nD τ).loc r) := by
  rw [Wend, after_of_writes_sub post2 _ post2_writes hq, Wn, after_of_writes_sub cond1 _ cond1_writes h1, B_of m c r h1 h1', Wb,
    after_of_writes_sub mid1 _ mid1_writes hm, Wm, after_of_writes_sub cond0 _ cond0_writes h, A_of m c r h h', Wa,
    after_of_writes_sub pre0 _ pre0_writes hp]
theorem Wend_arg0 (c : Dev nD) : Wend m c main_arg0 = m ((c : Thread nD τ).loc main_arg0) :=
  Wend_of m c main_arg0 (by decide) (by decide) (by decide) (by decide) (by decide) (by decide) (by decide)
theorem Wend_arg1 (c : Dev nD) : Wend m c main_arg1 = m ((c : Thread nD τ).loc main_arg1) :=
  Wend_of m c main_arg1 (by decide) (by decide) (by decide) (by decide) (by decide) (by decide) (by decide)
theorem Wend_arg2 (c : Dev nD) : Wend m c main_arg2 = m ((c : Thread nD τ).loc main_arg2) :=
  Wend_of m c main_arg2 (by decide) (by decide) (by decide) (by decide) (by decide) (by decide) (by decide)

/-! ## The trip counters and the conditions -/

theorem ctrA_step (X : Valuation τ sig (Elt F)) :
    after body0 X (Proc.devRef .tc main_v9_4) = addi (X (Proc.devRef .tc main_v9_4)) (constantI S_ 32 1#32) := by
  after_results
  rfl
theorem ctrA_entry (c : Dev nD) : Wa m c (Proc.devRef .tc main_v9_4) = fun _ => (0#32 : BitVec 32) := by
  after_results
  rfl
theorem ctrA (c : Dev nD) : ∀ k, A m k c (Proc.devRef .tc main_v9_4) = fun _ => Scf.iv 0#32 1#32 k
  | 0 => by rw [show A m 0 c = Wa m c from rfl, ctrA_entry, Scf.iv_zero]
  | k + 1 => by
    rw [A_succ, ctrA_step, after_of_writes_sub cond0 _ cond0_writes (by decide), ctrA c k, Scf.iv_succ]
    rfl
theorem ctrB_step (X : Valuation τ sig (Elt F)) :
    after body1 X (Proc.devRef .tc main_v19_3) = addi (X (Proc.devRef .tc main_v19_3)) (constantI S_ 32 1#32) := by
  after_results
  rfl
theorem ctrB_entry (c : Dev nD) : Wb m c (Proc.devRef .tc main_v19_3) = fun _ => (0#32 : BitVec 32) := by
  after_results
  rfl
theorem ctrB (c : Dev nD) : ∀ k, B m k c (Proc.devRef .tc main_v19_3) = fun _ => Scf.iv 0#32 1#32 k
  | 0 => by rw [show B m 0 c = Wb m c from rfl, ctrB_entry, Scf.iv_zero]
  | k + 1 => by
    rw [B_succ, ctrB_step, after_of_writes_sub cond1 _ cond1_writes (by decide), ctrB c k, Scf.iv_succ]
    rfl

-- `iapply` of a rule stated for any thread at the TensorCore thread unifies only when unification may unfold plain definitions in a metavariable's type
set_option backward.isDefEq.respectTransparency.types false in
theorem cond0_spec : LoopCond (Ix := Unit) (Name := ℕ) (U := Option PUnit) (Lvl := ℕ) (pcfgs (F := F)) defs₀ 𝒱₀ loops Rw
    (main_while0_cond (F := F)) cond0 [body0] (Wa m) nT := by
  intro k hk c bd
  have hctr := ctrA m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A m k c) main_v9_4 HostLoop.idx0)
        (HloOp.result _ (A m k c) main_while0c_c_12 HostLoop.idx0) = 1#1) (k < nT)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

set_option backward.isDefEq.respectTransparency.types false in
theorem cond1_spec : LoopCond (Ix := Unit) (Name := ℕ) (U := Option PUnit) (Lvl := ℕ) (pcfgs (F := F)) defs₀ 𝒱₀ loops Rw
    (main_while1_cond (F := F)) cond1 [body1] (Wb m) nT := by
  intro k hk c bd
  have hctr := ctrB m c k
  unfold main_while1_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (B m k c) main_v19_3 HostLoop.idx0)
        (HloOp.result _ (B m k c) main_while1c_c_11 HostLoop.idx0) = 1#1) (k < nT)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

/-! ## The program as its stretches and loops -/

theorem main_items (c : Dev nD) : main (F := F) c = (Pipeline.chain
    [seq pre0, HostLoop.enter 0, seq mid1, HostLoop.enter 1, seq post2]
      : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl
theorem body0_items : main_while0_body (F := F) = (Pipeline.chain [seq body0]
      : Prog (TpuEff nD τ sig (Elt F) (HostLoop.Sig (Pipeline.Sig Λ₀ (Fin 0) fun p => (pcfgs (F := F) p).Adm) 2) .tc) PUnit) := by
  rewrite [chain_seq_cons]
  chain_rfl
theorem body1_items : main_while1_body (F := F) = (Pipeline.chain [seq body1]
      : Prog (TpuEff nD τ sig (Elt F) (HostLoop.Sig (Pipeline.Sig Λ₀ (Fin 0) fun p => (pcfgs (F := F) p).Adm) 2) .tc) PUnit) := by
  rewrite [chain_seq_cons]
  chain_rfl

theorem plain_pre0 : Plain [(pre0 : List (HloOp τ sig (Elt F)))] := .cons pre0_sub .nil
theorem plain_mid1 : Plain [(mid1 : List (HloOp τ sig (Elt F)))] := .cons mid1_sub .nil
theorem plain_post2 : Plain [(post2 : List (HloOp τ sig (Elt F)))] := .cons post2_sub .nil
theorem plain_body0 : Plain [(body0 : List (HloOp τ sig (Elt F)))] := .cons body0_sub .nil
theorem plain_body1 : Plain [(body1 : List (HloOp τ sig (Elt F)))] := .cons body1_sub .nil

abbrev KitSeg : Type 1 := CSeg (Ix := Unit) (Name := ℕ) (U := Option PUnit) (Lvl := ℕ) (pcfgs (F := F)) adm defs₀ 𝒱₀ L lv loops tk

/-- A stretch of operations as one segment. -/
abbrev stretch (ops : List (HloOp τ sig (Elt F))) (h : Plain [ops]) (V : Dev nD → Valuation τ sig (Elt F)) : KitSeg (F := F) :=
  CSeg.ofOps _ _ _ _ _ _ _ _ (ucRefs τ sig) ops (fun op hop => sub_ucRefs op ((h ops List.mem_cons_self).1 op hop)) (h ops List.mem_cons_self).2 V Rw

abbrev loopA : KitSeg (F := F) :=
  loopSeg _ _ _ _ _ _ _ _ 0 (main_while0_cond (F := F)) (main_while0_body (F := F)) rfl cond0 [body0] plain_body0
    (by rw [body0_items]; rfl) nT (Wa m) Rw (cond0_spec m)
abbrev loopB : KitSeg (F := F) :=
  loopSeg _ _ _ _ _ _ _ _ 1 (main_while1_cond (F := F)) (main_while1_body (F := F)) rfl cond1 [body1] plain_body1
    (by rw [body1_items]; rfl) nT (Wb m) Rw (cond1_spec m)

abbrev segs : List (KitSeg (F := F)) :=
  [stretch pre0 plain_pre0 (W0 m), loopA m, stretch mid1 plain_mid1 (Wm m), loopB m, stretch post2 plain_post2 (Wn m)]

theorem main_run (c : Dev nD) : main (F := F) c = CSeg.runL (segs m) := (main_items c).trans (by chain_rfl)
theorem segs_disjoint : (segs m).Pairwise fun s s' => Disjoint s.T s'.T :=
  CSeg.pairwise_disjoint_of_T_empty _ fun s _ => Finset.eq_empty_of_isEmpty s.T

/-! ## The run -/

/-- Every buffer of the program ends at `Wend`, and every counter is zero. -/
theorem run (g : Dev nD → PrngReg) : θ_run defs (onTc (τ := τ) (main (F := F))) ⟨m, fun _ => 0, g⟩
    (fun r => (∀ (c : Dev nD) (b : Ref sig .tc), (Proc.devRef .tc b : DevRef τ sig).isScoped = false →
        r.2.mem ((c.tc : Thread nD τ).loc b) = Wend m c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    (pcfgs (F := F)) adm cells_inj defs₀ 𝒱₀ L lv loops tk m g main (segs m)
    (fun c Q => by rw [main_run m c]) (segs_disjoint m)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (W0 m c) ∗ Rw c))
    (Tₙ := fun c => iprop(held (c : Thread nD τ) (ucRefs τ sig) (Wend m c)))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = held (c : Thread nD τ) (ucRefs τ sig) (W0 m c) from
        Pipeline.unscopedBufs_held c (W0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Wend m c b)
    (hfin := fun c s' => by
      unfold held
      iintro ⟨Hh, HSI⟩
      ihave Hr := (pointsTo_read_all (ucRefs τ sig) (fun b => ((c : Dev nD), b)) (fun b => Wend m c b) s') $$ [Hh HSI]
      · isplitl [Hh] <;> iassumption
      icases Hr with ⟨%h, HSI⟩
      imodintro
      isplitr; · ipureintro; exact h
      iexact HSI)
    (hQ := fun s h => ⟨fun c b hb => h c _ (devRef_mem_ucRefs b hb), sem_eq_zero_of_no_sems (by decide) s⟩)

/-- The reference runs, leaves its three arguments as they were, and every counter at zero. -/
theorem frame (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c main_arg0 rfl).trans (Wend_arg0 m c), (h.1 c main_arg1 rfl).trans (Wend_arg1 m c),
    (h.1 c main_arg2 rfl).trans (Wend_arg2 m c)⟩, h.2⟩) (run m g)

end Cert.ReferenceIdeal.Run

end
-- ==== Proof.KSort.lean ====
/-
  The order that the host's two sorts put the rows in: sorting the negated lengths gives a permutation under which the
  lengths do not increase, and sorting that permutation gives its inverse.
-/
module

public import proofs.«01_k».proof.KernelIdeal
public import Idealize.ShloMosaic.Lib.SortFacts
public import Idealize.ShloMosaic.Lib.WordCmp

@[expose] public section

noncomputable section

namespace Cert.KernelIdeal.Ord

open Cert.KernelIdeal
open Idealize.ShloMosaic

/-- Where the sort of `x` takes position `k` from. -/
def srt (x : S16.Idx → BitVec 32) : Fin 16 → Fin 16 :=
  sortedFrom fun k k' => decide ((x (Shape.Idx.ofFin k)).toInt < (x (Shape.Idx.ofFin k')).toInt)

/-- The position each element comes from, as the host's sort gives it. -/
def argsort (x : S16.Idx → BitVec 32) : S16.Idx → BitVec 32 := (Host.sort2 S16 0 comparator_i32_i32_d0 x (iotaInDim S16 32 0)).2

theorem ofBool_one (b : Bool) : (BitVec.ofBool b == 1#1) = b := by cases b <;> rfl

/-- The second table of a flat sort of two, read at a position. -/
theorem sort2_flat {n : Nat} {α β : Type} (cmp : α × β → α × β → BitVec 1) (x : (⟨1, ![n]⟩ : Shape).Idx → α) (y : (⟨1, ![n]⟩ : Shape).Idx → β) (j : (⟨1, ![n]⟩ : Shape).Idx) :
    (Host.sort2 ⟨1, ![n]⟩ 0 cmp x y).2 j = y (Shape.Idx.ofFin (sortedFrom (fun k k' => cmp (x (Shape.Idx.ofFin k), y (Shape.Idx.ofFin k)) (x (Shape.Idx.ofFin k'), y (Shape.Idx.ofFin k')) == 1#1) (j 0))) := by
  unfold Host.sort2
  simp

attribute [local irreducible] sortedFrom in
theorem argsort_apply (x : S16.Idx → BitVec 32) (j : S16.Idx) : argsort x j = BitVec.ofNat 32 (srt x (j 0)).val := by
  have hb : (fun k k' : Fin 16 => comparator_i32_i32_d0 (x (Shape.Idx.ofFin k), iotaInDim S16 32 0 (Shape.Idx.ofFin k)) (x (Shape.Idx.ofFin k'), iotaInDim S16 32 0 (Shape.Idx.ofFin k')) == 1#1)
      = fun k k' => decide ((x (Shape.Idx.ofFin k)).toInt < (x (Shape.Idx.ofFin k')).toInt) := by
    funext k k'
    show (IntOp.cmpi .slt (x (Shape.Idx.ofFin k)) (x (Shape.Idx.ofFin k')) == 1#1) = _
    rw [WordCmp.cmpi_slt_eq, ofBool_one]
  have h := sort2_flat (n := 16) comparator_i32_i32_d0 x (iotaInDim S16 32 0) j
  rw [hb] at h
  unfold argsort srt
  exact h

theorem srt_inj (x : S16.Idx → BitVec 32) : Function.Injective (srt x) := sortedFrom_injective _
theorem srt_surj (x : S16.Idx → BitVec 32) : Function.Surjective (srt x) := sortedFrom_surjective _

theorem srt_le (x : S16.Idx → BitVec 32) (i j : Fin 16) (h : i < j) :
    (x (Shape.Idx.ofFin (srt x i))).toInt ≤ (x (Shape.Idx.ofFin (srt x j))).toInt := by
  have := sortedFrom_noInversion (fun k k' : Fin 16 => decide ((x (Shape.Idx.ofFin k)).toInt < (x (Shape.Idx.ofFin k')).toInt))
    (fun k k' : Fin 16 => decide ((x (Shape.Idx.ofFin k)).toInt < (x (Shape.Idx.ofFin k')).toInt))
    (fun a b hab => by simp only [decide_eq_true_eq, decide_eq_false_iff_not] at *; omega) (fun _ _ h => h)
    (fun a b c hab hbc => by simp only [decide_eq_false_iff_not] at *; omega) i j h
  exact le_of_not_gt (of_decide_eq_false this)

/-- Sorting a table of the positions' own order gives the inverse order. -/
theorem srt_argsort (x : S16.Idx → BitVec 32) (k : Fin 16) : srt x (srt (argsort x) k) = k := by
  have hv : ∀ i : Fin 16, (argsort x (Shape.Idx.ofFin i)).toInt = ((srt x i).val : Int) := fun i => by
    rw [argsort_apply, Shape.Idx.ofFin_zero]
    have := (srt x i).isLt
    have hn : (BitVec.ofNat 32 (srt x i).val).toNat = (srt x i).val := by rw [BitVec.toNat_ofNat]; omega
    rw [WordCmp.toInt_eq_toNat_of_lt_half (by rw [hn]; omega), hn]
  have hm : StrictMono fun k : Fin 16 => srt x (srt (argsort x) k) := fun i j h => by
    have h1 := srt_le (argsort x) i j h
    rw [hv, hv] at h1
    refine lt_of_le_of_ne (Fin.le_def.mpr (by exact_mod_cast h1)) fun e => ?_
    exact absurd (srt_inj _ (srt_inj _ e)) (ne_of_lt h)
  exact le_antisymm hm.apply_le hm.le_apply

/-- Under the order of the negated lengths the lengths do not increase, no length being the least word. -/
theorem lens_le (l : S16.Idx → BitVec 32) (hl : ∀ j, l j ≠ 0x80000000#32) (i j : Fin 16) (h : i ≤ j) :
    (l (Shape.Idx.ofFin (srt (negi l) j))).toInt ≤ (l (Shape.Idx.ofFin (srt (negi l) i))).toInt := by
  rcases lt_or_eq_of_le h with h | rfl
  · have h1 := srt_le (negi l) i j h
    have hn : ∀ w : BitVec 32, w ≠ 0x80000000#32 → (-w).toInt = -w.toInt := fun w hw => BitVec.toInt_neg_of_ne_intMin hw
    have e : ∀ y, negi l y = -(l y) := fun _ => rfl
    rw [e, e, hn _ (hl _), hn _ (hl _)] at h1
    omega
  · exact le_refl _

end Cert.KernelIdeal.Ord

end
-- ==== Proof.KHost.lean ====
/- What the host operations before the regions leave, at an index. -/
module

public import proofs.«01_k».proof.Proof.KSort
public import proofs.«01_k».proof.Proof.KFrame
public import Idealize.ShloMosaic.Lib.StableHlo.ReadAt
public import Idealize.ShloMosaic.Lib.Routing.OpsSet
public import Idealize.ShloMosaic.Lib.Pointwise

@[expose] public section

set_option maxRecDepth 16384

noncomputable section

namespace Cert.KernelIdeal.Ord

open Cert.KernelIdeal Cert.KernelIdeal.Gen
open Facts Facts₀
open Idealize.ShloMosaic Idealize.ShloMosaic.TcCoe

variable {F : FTy → Type} [FloatOps F]

/-! ## Rows taken by a table of places -/

/-- A table of places as the gathers read it: a negative place counts from the end. -/
def nIdx (p : S16.Idx → BitVec 32) : S16x1.Idx → BitVec 32 :=
  broadcastInDim S16x1 ![0] Gen.bcast_S16_S16x1_0
    (select (cmpi .slt p (broadcastInDim S16 ![] Gen.bcast_S_S16 (constantI S_ 32 0#32))) (addi p (broadcastInDim S16 ![] Gen.bcast_S_S16 (constantI S_ 32 16#32))) p)

theorem sel_neg (n : Fin 16) : Scalar.select (IntOp.cmpi .slt (BitVec.ofNat 32 n.val) 0#32) (IntOp.addi (BitVec.ofNat 32 n.val) 16#32) (BitVec.ofNat 32 n.val) = BitVec.ofNat 32 n.val := by
  revert n
  decide

theorem nIdx_apply (p : S16.Idx → BitVec 32) (i n : Fin 16) (h : p (ix1 i) = BitVec.ofNat 32 n.val) : nIdx p (ix2 i 0) = BitVec.ofNat 32 n.val := by
  pointwise [nIdx]
  rw [h]
  exact sel_neg n

theorem take1 {α : Type} (x : S16.Idx → α) (idx : IVec S16x1 32) (i b : Fin 16) (hb : idx (ix2 i 0) = BitVec.ofNat 32 b.val) :
    Host.gather gather_S16_S16x1_S16_n_0_n_n_0_1_1 x idx (ix1 i) = x (ix1 b) :=
  Routing.gather_take1 (N := 16) (n := 16) gather_S16_S16x1_S16_n_0_n_n_0_1_1 rfl rfl rfl rfl x idx i b hb (by decide)

theorem take2 {α : Type} (x : S16x2048.Idx → α) (idx : IVec S16x1 32) (i b : Fin 16) (t : Fin 2048) (hb : idx (ix2 i 0) = BitVec.ofNat 32 b.val) :
    Host.gather gather_S16x2048_S16x1_S16x2048_1_0_n_n_0_1_12048 x idx (ix2 i t) = x (ix2 b t) :=
  Routing.gather_row (nb := 16) (B := 2048) (n := 16) gather_S16x2048_S16x1_S16x2048_1_0_n_n_0_1_12048 rfl rfl rfl rfl rfl x idx i t b hb (by decide)

theorem take3 {α : Type} (x : S16x2048x64.Idx → α) (idx : IVec S16x1 32) (i b : Fin 16) (t : Fin 2048) (k : Fin 64) (hb : idx (ix2 i 0) = BitVec.ofNat 32 b.val) :
    Host.gather gather_S16x2048x64_S16x1_S16x2048x64_12_0_n_n_0_1_1204864 x idx (ix3 i t k) = x (ix3 b t k) := by
  unfold Host.gather
  refine congrArg x (funext fun a => Fin.ext ?_)
  have hs : ∀ h, (gather_S16x2048x64_S16x1_S16x2048x64_12_0_n_n_0_1_1204864).siIdx (ix3 (n0 := 16) (n1 := 2048) (n2 := 64) i t k) ⟨0, h⟩ = ix2 (n0 := 16) (n1 := 1) i 0 := fun h => by
    funext b'
    match b' with
    | ⟨0, _⟩ => rfl
    | ⟨1, _⟩ => rfl
  match a with
  | ⟨0, _⟩ =>
    show min (idx ((gather_S16x2048x64_S16x1_S16x2048x64_12_0_n_n_0_1_1204864).siIdx (ix3 i t k) ⟨0, by decide⟩)).toInt.toNat 15 = b.val
    rw [hs, hb]
    clear hs hb
    revert b
    decide
  | ⟨1, _⟩ => exact Nat.zero_add _
  | ⟨2, _⟩ => exact Nat.zero_add _

variable (m : (l : Loc nD τ sig) → Buf (Elt F) l) (c : Dev nD)

/-! ## The prefix -/

/-- The lengths, and the row that each place of the sorted batch holds. -/
abbrev lensA : S16.Idx → BitVec 32 := m ((c : Thread nD τ).loc main_arg1)
def perm : S16.Idx → BitVec 32 := argsort (negi (lensA m c))
def row (i : Fin 16) : Fin 16 := srt (negi (lensA m c)) i
/-- The place in the sorted batch of each row. -/
def plc (i : Fin 16) : Fin 16 := srt (perm m c) i

theorem row_plc (i : Fin 16) : row m c (plc m c i) = i := srt_argsort _ i

theorem perm_apply (i : Fin 16) : perm m c (ix1 i) = BitVec.ofNat 32 (row m c i).val := argsort_apply _ _
theorem inv_apply (i : Fin 16) : argsort (perm m c) (ix1 i) = BitVec.ofNat 32 (plc m c i).val := argsort_apply _ _

theorem inv_eq : V1 m c main_call0_v2 = argsort (perm m c) := by
  unfold V1 V0
  after_reads_simp
  simp only [StableHlo.TRef.ofBuf_toBuf]
  rfl
theorem lens9_eq : V1 m c main_call0_v9 = Host.gather gather_S16_S16x1_S16_n_0_n_n_0_1_1 (lensA m c) (nIdx (perm m c)) := by
  unfold V1 V0
  after_reads_simp
  simp only [StableHlo.TRef.ofBuf_toBuf]
  rfl
theorem lens18_eq : V1 m c main_call0_v18 = shapeCast S16x1 (Host.gather gather_S16_S16x1_S16_n_0_n_n_0_1_1 (lensA m c) (nIdx (perm m c))) Gen.shapeCasts_S16_S16x1 := by
  unfold V1 V0
  after_reads_simp
  simp only [StableHlo.TRef.ofBuf_toBuf]
  rfl
theorem feats_eq : V1 m c main_call0_v17 = transpose S2048x16x64 [1, 0, 2]
    (Host.gather gather_S16x2048x64_S16x1_S16x2048x64_12_0_n_n_0_1_1204864 (m ((c : Thread nD τ).loc main_arg0)) (nIdx (perm m c))) Gen.transposes_S16x2048x64_S2048x16x64_1_0_2 := by
  unfold V1 V0
  after_reads_simp
  simp only [StableHlo.TRef.ofBuf_toBuf]
  rfl

theorem lens9_apply (i : Fin 16) : V1 m c main_call0_v9 (ix1 i) = lensA m c (ix1 (row m c i)) := by
  rw [lens9_eq]
  exact take1 _ _ i _ (nIdx_apply _ i _ (perm_apply m c i))
theorem lens18_apply (i : Fin 16) : V1 m c main_call0_v18 (ix2 (n1 := 1) i 0) = lensA m c (ix1 (row m c i)) := by
  rw [lens18_eq, ← take1 (lensA m c) _ i _ (nIdx_apply _ i _ (perm_apply m c i))]
  pointwise
theorem feats_apply (t : Fin 2048) (i : Fin 16) (k : Fin 64) : V1 m c main_call0_v17 (ix3 t i k) = m ((c : Thread nD τ).loc main_arg0) (ix3 (row m c i) t k) := by
  rw [feats_eq, ← take3 (m ((c : Thread nD τ).loc main_arg0)) _ i _ t k (nIdx_apply _ i _ (perm_apply m c i))]
  pointwise

end Cert.KernelIdeal.Ord

end
-- ==== Proof.KSuffix.lean ====
/- What the host operations after the regions leave, at an index. -/
module

public import proofs.«01_k».proof.Proof.KHost

@[expose] public section

set_option maxRecDepth 16384

noncomputable section

namespace Cert.KernelIdeal.Ord

open Cert.KernelIdeal Cert.KernelIdeal.Gen
open Facts Facts₀
open Idealize.ShloMosaic Idealize.ShloMosaic.TcCoe

variable {F : FTy → Type} [FloatOps F]
variable (V : Valuation τ sig (Elt F))

theorem res0_eq : StableHlo.after hostOps2 V main_v0_0 = Host.gather gather_S16_S16x1_S16_n_0_n_n_0_1_1 (shapeCast S16 (V main_call0_v19_1) Gen.shapeCasts_S16x1_S16) (nIdx (V main_call0_v2)) := by
  after_reads_simp
  simp only [StableHlo.TRef.ofBuf_toBuf]
  rfl
theorem res1_eq : StableHlo.after hostOps2 V main_v0_1 = Host.gather gather_S16x2048_S16x1_S16x2048_1_0_n_n_0_1_12048
    (transpose S16x2048 [1, 0] (shapeCast S2048x16 (V main_call0_v20) Gen.shapeCasts_S2048x16x1_S2048x16) Gen.transposes_S2048x16_S16x2048_1_0) (nIdx (V main_call0_v2)) := by
  after_reads_simp
  simp only [StableHlo.TRef.ofBuf_toBuf]
  rfl

theorem res0_apply (i n : Fin 16) (h : V main_call0_v2 (ix1 i) = BitVec.ofNat 32 n.val) : StableHlo.after hostOps2 V main_v0_0 (ix1 i) = V main_call0_v19_1 (ix2 (n1 := 1) n 0) := by
  rw [res0_eq]
  refine (take1 _ _ i n (nIdx_apply _ i n h)).trans ?_
  pointwise
theorem res1_apply (i n : Fin 16) (t : Fin 2048) (h : V main_call0_v2 (ix1 i) = BitVec.ofNat 32 n.val) :
    StableHlo.after hostOps2 V main_v0_1 (ix2 i t) = V main_call0_v20 (ix3 (n2 := 1) t n 0) := by
  rw [res1_eq]
  refine (take2 _ _ i n t (nIdx_apply _ i n h)).trans ?_
  pointwise

end Cert.KernelIdeal.Ord

end
-- ==== Proof.Vit.lean ====
/- One row's best-path search in plain mathematics: the running scores, the greatest of sixty-four and the first place
   that holds it, the score and the path. No program is mentioned here. -/
module

public import Idealize.ShloMosaic.PureOps.Ideal.Laws
public import Idealize.ShloMosaic.Lib.ValueIdxCore
public import Idealize.ShloMosaic.Lib.WordCmp

@[expose] public section

noncomputable section

namespace Cert.Vit

open Idealize.ShloMosaic

/-- The greatest of sixty-four. -/
def mx (s : Fin 64 → EReal) : EReal := Finset.univ.fold max ⊥ s

theorem le_mx (s : Fin 64 → EReal) (k : Fin 64) : s k ≤ mx s := by
  unfold mx
  rw [Finset.le_fold_max]
  exact .inr ⟨k, Finset.mem_univ k, le_rfl⟩
theorem mx_le (s : Fin 64 → EReal) (c : EReal) (h : ∀ k, s k ≤ c) : mx s ≤ c := by
  unfold mx
  rw [Finset.fold_max_le]
  exact ⟨bot_le, fun k _ => h k⟩

/-- `k` is the first place that holds the greatest value. -/
def First (s : Fin 64 → EReal) (k : Fin 64) : Prop := (∀ j, s j ≤ s k) ∧ ∀ j, j < k → s j < s k

theorem exists_first (s : Fin 64 → EReal) : ∃ k, First s k := by
  obtain ⟨k, -, hk⟩ := Finset.exists_max_image Finset.univ s ⟨0, Finset.mem_univ 0⟩
  have hne : (Finset.univ.filter fun i => s i = s k).Nonempty := ⟨k, by simp⟩
  obtain ⟨m, hm, hm'⟩ := Finset.exists_min_image (Finset.univ.filter fun i => s i = s k) id hne
  have e : s m = s k := (Finset.mem_filter.mp hm).2
  refine ⟨m, fun j => e ▸ hk j (Finset.mem_univ j), fun j h => ?_⟩
  refine lt_of_le_of_ne (e ▸ hk j (Finset.mem_univ j)) fun e' => ?_
  exact absurd (hm' j (Finset.mem_filter.mpr ⟨Finset.mem_univ j, e'.trans e⟩)) (not_le.mpr h)

theorem first_unique {s : Fin 64 → EReal} {k k' : Fin 64} (h : First s k) (h' : First s k') : k = k' := by
  rcases lt_trichotomy k k' with hl | rfl | hl
  · exact absurd (h'.2 k hl) (not_lt.mpr (h.1 k'))
  · rfl
  · exact absurd (h.2 k' hl) (not_lt.mpr (h'.1 k))

/-- The first place that holds the greatest value. -/
def fm (s : Fin 64 → EReal) : Fin 64 := (exists_first s).choose
theorem fm_first (s : Fin 64 → EReal) : First s (fm s) := (exists_first s).choose_spec
theorem fm_eq {s : Fin 64 → EReal} {k : Fin 64} (h : First s k) : fm s = k := first_unique (fm_first s) h
theorem mx_eq (s : Fin 64 → EReal) : mx s = s (fm s) := le_antisymm (mx_le s _ (fm_first s).1) (le_mx s _)

/-- The scores before the first step: the start tag at zero, the others at minus ten thousand. -/
def init (k : Fin 64) : EReal :=
  if k.val = 0 then FloatOps.ofBits (F := Ideal) .f32 0x00000000#32 else FloatOps.ofBits (F := Ideal) .f32 0xC61C4000#32

variable (x : ℕ → Fin 64 → EReal) (l : BitVec 32) (W : Fin 64 → Fin 64 → EReal)

/-- The scores before step `t`. -/
def fv : ℕ → Fin 64 → EReal
  | 0 => init
  | t + 1 => fun k => if (t : ℤ) < l.toInt then mx (fun j => fv t j + W k j) + x t k else fv t k

/-- The path's score and its last tag, from the last scores and the end tag's weights. -/
def score : EReal := mx fun k => fv x l W 2048 k + W 63 k
def best : Fin 64 := fm fun k => fv x l W 2048 k + W 63 k

/-- The tag after `s` steps back. -/
def tg : ℕ → Fin 64
  | 0 => best x l W
  | s + 1 => if ((2047 - s : ℕ) : ℤ) < l.toInt then fm (fun j => fv x l W (2047 - s) j + W (tg s) j) else tg s

/-- The path at `t`: the tag inside the row's length, minus one past it. -/
def path (t : ℕ) : BitVec 32 := if (t : ℤ) < l.toInt then BitVec.ofNat 32 (tg x l W (2047 - t)).val else 4294967295#32

/-! ## Folds over a fiber as folds over the sixty-four places -/

/-- A fold over the indices that sixty-four places name is the fold over the places. -/
theorem fold_places {ι α : Type} [Fintype ι] (p : ι → Prop) [DecidablePred p] (e : Fin 64 → ι) (hi : Function.Injective e)
    (hp : ∀ i, p i ↔ ∃ k, e k = i) (op : α → α → α) [Std.Commutative op] [Std.Associative op] (b : α) (f : ι → α) :
    (Finset.univ.filter p).fold op b f = Finset.univ.fold op b fun k => f (e k) := by
  have : Finset.univ.filter p = Finset.univ.map ⟨e, hi⟩ := by
    ext i
    simp [hp]
  rw [this, Finset.fold_map]
  rfl

/-- What a left fold of an arg-max body leaves, whatever the order: one of the pairs, none of the others above it. -/
theorem foldl_best (f : EReal × BitVec 32 → EReal × BitVec 32 → EReal × BitVec 32)
    (hf : ∀ a b, f a b = a ∨ f a b = b)
    (hl : ∀ a b, a.1 < (f a b).1 ∨ (a.1 = (f a b).1 ∧ (f a b).2.toInt ≤ a.2.toInt))
    (hr : ∀ a b, b.1 < (f a b).1 ∨ (b.1 = (f a b).1 ∧ (f a b).2.toInt ≤ b.2.toInt)) :
    ∀ (L : List (EReal × BitVec 32)) (a : EReal × BitVec 32), (L.foldl f a = a ∨ L.foldl f a ∈ L) ∧
      ∀ p, (p = a ∨ p ∈ L) → p.1 < (L.foldl f a).1 ∨ (p.1 = (L.foldl f a).1 ∧ (L.foldl f a).2.toInt ≤ p.2.toInt)
  | [], a => ⟨.inl rfl, fun p hp => by
      rcases hp with rfl | hp
      · exact .inr ⟨rfl, le_rfl⟩
      · exact absurd hp (by simp)⟩
  | b :: L, a => by
    obtain ⟨h1, h2⟩ := foldl_best f hf hl hr L (f a b)
    rw [List.foldl_cons]
    have tr : ∀ p : EReal × BitVec 32, (p.1 < (f a b).1 ∨ (p.1 = (f a b).1 ∧ (f a b).2.toInt ≤ p.2.toInt)) →
        p.1 < (L.foldl f (f a b)).1 ∨ (p.1 = (L.foldl f (f a b)).1 ∧ (L.foldl f (f a b)).2.toInt ≤ p.2.toInt) := fun p hp => by
      rcases hp with hp | ⟨hp, hp'⟩ <;> rcases h2 _ (.inl rfl) with h | ⟨h, h'⟩
      · exact .inl (hp.trans h)
      · exact .inl (h ▸ hp)
      · exact .inl (hp ▸ h)
      · exact .inr ⟨hp.trans h, h'.trans hp'⟩
    refine ⟨?_, fun p hp => ?_⟩
    · rcases h1 with h1 | h1
      · rcases hf a b with e | e
        · exact .inl (h1.trans e)
        · exact .inr (by rw [h1, e]; exact List.mem_cons_self)
      · exact .inr (List.mem_cons_of_mem _ h1)
    · rcases hp with rfl | hp
      · exact tr _ (hl _ b)
      · rcases List.mem_cons.mp hp with rfl | hp
        · exact tr _ (hr a _)
        · exact h2 p (.inr hp)

theorem toInt_tag (k : Fin 64) : (BitVec.ofNat 32 k.val).toInt = (k.val : ℤ) := by
  have hn : (BitVec.ofNat 32 k.val).toNat = k.val := by rw [BitVec.toNat_ofNat]; omega
  rw [WordCmp.toInt_eq_toNat_of_lt_half (by rw [hn]; omega), hn]

/-- The arg-max fold over the sixty-four (value, place) pairs, from minus infinity at place zero, is the first greatest. -/
theorem foldl_fm (f : EReal × BitVec 32 → EReal × BitVec 32 → EReal × BitVec 32)
    (hf : ∀ a b, f a b = a ∨ f a b = b)
    (hl : ∀ a b, a.1 < (f a b).1 ∨ (a.1 = (f a b).1 ∧ (f a b).2.toInt ≤ a.2.toInt))
    (hr : ∀ a b, b.1 < (f a b).1 ∨ (b.1 = (f a b).1 ∧ (f a b).2.toInt ≤ b.2.toInt))
    (s : Fin 64 → EReal) (L : List (EReal × BitVec 32)) (hL : ∀ p, p ∈ L ↔ ∃ k : Fin 64, p = (s k, BitVec.ofNat 32 k.val)) :
    (L.foldl f (⊥, 0#32)).2 = BitVec.ofNat 32 (fm s).val := by
  obtain ⟨h1, h2⟩ := foldl_best f hf hl hr L (⊥, 0#32)
  have hk := fm_first s
  have hm := h2 (s (fm s), BitVec.ofNat 32 (fm s).val) (.inr ((hL _).mpr ⟨_, rfl⟩))
  rcases h1 with h1 | h1
  · rw [h1] at hm ⊢
    rcases hm with hm | ⟨hm, -⟩
    · exact absurd hm (not_lt.mpr bot_le)
    · have h0 : fm s = 0 := by
        by_contra hne
        exact absurd (hk.2 0 (Fin.pos_of_ne_zero hne)) (not_lt.mpr (by rw [show s (fm s) = ⊥ from hm]; exact bot_le))
      rw [h0]; rfl
  · obtain ⟨k, e⟩ := (hL _).mp h1
    rw [e] at hm ⊢
    rcases hm with hm | ⟨hm, hm'⟩
    · exact absurd (hk.1 k) (not_le.mpr hm)
    · have : k = fm s := by
        simp only [toInt_tag] at hm'
        have hle : k ≤ fm s := Fin.le_def.mpr (by exact_mod_cast hm')
        rcases lt_or_eq_of_le hle with h | h
        · exact absurd (hk.2 k h) (not_lt.mpr (le_of_eq hm))
        · exact h
      rw [this]

/-- The least of the places whose value is the greatest, the others counted as sixty-four. -/
theorem min_fm (s : Fin 64 → EReal) : Finset.univ.fold min ⊤ (fun k : Fin 64 => if s k = mx s then ((k.val : ℝ) : EReal) else ((64 : ℝ) : EReal))
    = (((fm s).val : ℝ) : EReal) := by
  apply le_antisymm
  · rw [Finset.fold_min_le]
    exact .inr ⟨fm s, Finset.mem_univ _, by rw [if_pos (mx_eq s).symm]⟩
  · rw [Finset.le_fold_min]
    refine ⟨le_top, fun k _ => ?_⟩
    split
    · rename_i h
      have : fm s ≤ k := by
        by_contra hk
        exact absurd ((fm_first s).2 k (not_le.mp hk)) (not_lt.mpr (by rw [h, mx_eq]))
      exact_mod_cast this
    · have := (fm s).isLt
      exact_mod_cast this.le

theorem toInt_fold_minsi (S : Finset (Fin 64)) (b : BitVec 32) (f : Fin 64 → BitVec 32) :
    (S.fold IntOp.minsi b f).toInt = S.fold min b.toInt fun k => (f k).toInt := by
  induction S using Finset.cons_induction with
  | empty => rfl
  | cons a S ha ih =>
    rw [Finset.fold_cons, Finset.fold_cons, ← ih]
    unfold IntOp.minsi
    simp only [BitVec.slt, decide_eq_true_eq]
    split <;> omega

/-- The same over the places as words. -/
theorem minsi_fm (s : Fin 64 → EReal) : Finset.univ.fold IntOp.minsi 2147483647#32 (fun k : Fin 64 => if s k = mx s then BitVec.ofNat 32 k.val else 64#32)
    = BitVec.ofNat 32 (fm s).val := by
  apply BitVec.eq_of_toInt_eq
  rw [toInt_fold_minsi, toInt_tag]
  apply le_antisymm
  · rw [Finset.fold_min_le]
    exact .inr ⟨fm s, Finset.mem_univ _, by rw [if_pos (mx_eq s).symm, toInt_tag]⟩
  · have hb := (fm s).isLt
    rw [Finset.le_fold_min]
    refine ⟨by rw [show (2147483647#32 : BitVec 32).toInt = 2147483647 from by decide]; omega, fun k _ => ?_⟩
    split
    · rename_i h
      have : fm s ≤ k := by
        by_contra hk
        exact absurd ((fm_first s).2 k (not_le.mp hk)) (not_lt.mpr (by rw [h, mx_eq]))
      rw [toInt_tag]
      exact_mod_cast this
    · rw [show (64#32 : BitVec 32).toInt = 64 from by decide]; omega

end Cert.Vit

end
-- ==== Proof.FwdVal.lean ====
/- What the forward region's steps, scores and tags are at one row, over the extended reals. -/
module

public import proofs.«01_k».proof.Proof.FwdRegion
public import proofs.«01_k».proof.Proof.Vit
public import Idealize.ShloMosaic.Lib.Pointwise

@[expose] public section

set_option maxRecDepth 16384

noncomputable section

namespace Cert.KernelIdeal.Fwd

open Cert.KernelIdeal Cert.KernelIdeal.Gen
open Facts Facts₀
open Idealize.ShloMosaic Idealize.ShloMosaic.TcCoe
open Cert.Vit

theorem ofBits_ninf : Ideal.ofBits .f32 0xFF800000#32 = ⊥ := by simp [Ideal.ofBits, Ideal.ieee]

theorem sel_slt {α : Type} (t l : BitVec 32) (a b : α) : Scalar.select (IntOp.cmpi .slt t l) a b = if t.toInt < l.toInt then a else b := by
  rw [WordCmp.cmpi_slt_eq]
  by_cases h : t.toInt < l.toInt
  · rw [if_pos h, decide_eq_true h]; rfl
  · rw [if_neg h, decide_eq_false h]; rfl

theorem vmaxG_apply (w : Vec Ideal S64x64 .f32) (fv : FVec Ideal S8x64 .f32) (i : Fin 8) (k : Fin 64) :
    vmaxG w fv (ix2 i k) = mx fun j => fv (ix2 i j) + w (ix2 k j) := by
  pointwise [vmaxG]
  rw [ofBits_ninf, mx]

theorem stepG_apply (w : Vec Ideal S64x64 .f32) (lg : IVec S8x1 32) (t : BitVec 32) (f : Vec Ideal S1x8x64 .f32) (fv : FVec Ideal S8x64 .f32) (i : Fin 8) (k : Fin 64) :
    stepG w lg t f fv (ix2 i k) = if t.toInt < (lg (ix2 i 0)).toInt then mx (fun j => fv (ix2 i j) + w (ix2 k j)) + f (ix3 0 i k) else fv (ix2 i k) := by
  pointwise [stepG, vmaxG_apply]
  rw [sel_slt]

theorem init_sel (k : Fin 64) : Scalar.select (IntOp.cmpi .eq (BitVec.ofNat 32 k.val) 0#32) (0 : EReal) (Ideal.ofBits .f32 0xC61C4000#32) = init k := by
  unfold init
  have h0 : FloatOps.ofBits (F := Ideal) .f32 0x00000000#32 = (0 : EReal) := Ideal.ofBits_zero_f32
  rw [h0]
  by_cases h : k.val = 0
  · rw [if_pos h, h]; rfl
  · rw [if_neg h]
    have : IntOp.cmpi .eq (BitVec.ofNat 32 k.val) 0#32 = 0#1 := by
      have hne : BitVec.ofNat 32 k.val ≠ 0#32 := fun e => h (by
        have := congrArg BitVec.toNat e
        rw [BitVec.toNat_ofNat, BitVec.toNat_ofNat] at this
        omega)
      rw [WordCmp.cmpi_eq_eq, decide_eq_false hne]; rfl
    rw [this]
    rfl

theorem init_apply (i : Fin 8) (k : Fin 64) : k0_pay1 (F := Ideal) (ix2 i k) = init k := by
  pointwise [k0_pay1]
  exact init_sel k

theorem score_apply (w : Vec Ideal S64x64 .f32) (a b : FVec Ideal S8x64 .f32) (i : Fin 16) :
    k0_pay12 w a b (ix2 i 0) = mx fun k => (if h : i.val < 8 then a (ix2 ⟨i.val, h⟩ k) else b (ix2 ⟨i.val - 8, by omega⟩ k)) + w (ix2 63 k) := by
  pointwise [k0_pay12, k0_pay11]
  rw [ofBits_ninf, mx]

theorem tag_apply (w : Vec Ideal S64x64 .f32) (a b : FVec Ideal S8x64 .f32) (i : Fin 16) :
    k0_pay13 w a b (ix2 i 0) = BitVec.ofNat 32 (fm fun k => (if h : i.val < 8 then a (ix2 ⟨i.val, h⟩ k) else b (ix2 ⟨i.val - 8, by omega⟩ k)) + w (ix2 63 k)).val := by
  pointwise [k0_pay13, score_apply, k0_pay11]
  exact minsi_fm _

end Cert.KernelIdeal.Fwd

end
-- ==== Proof.FwdBlk.lean ====
/- The blocks the forward region's operands show at a point, as their arrays are. -/
module

public import proofs.«01_k».proof.Proof.FwdRegion
public import proofs.«01_k».proof.Proof.BwdSeg
public import Idealize.ShloMosaic.Lib.Pipeline.ValueKit

@[expose] public section

set_option maxRecDepth 16384

noncomputable section

namespace Cert.KernelIdeal.Fwd

open Cert.KernelIdeal Cert.KernelIdeal.Gen
open Facts Facts₀
open Idealize.ShloMosaic Idealize.ShloMosaic.TcCoe

variable {F : FTy → Type} [FloatOps F]
variable (V : Val₁ (F := F)) (c : Dev nD)

theorem idx0 : ∀ t : Fin cfg0.N, win0_0.index t = ![0] := by decide +kernel
theorem idx1 : ∀ t : Fin cfg0.N, win0_1.index t = ![0, 0] := by decide +kernel
theorem idx2 : ∀ t : Fin cfg0.N, win0_2.index t = ![t.val, 0, 0] := by decide +kernel
theorem idx3 : ∀ t : Fin cfg0.N, win0_3.index t = ![0, 0] := by decide +kernel

theorem bl0_eq (t : Fin cfg0.N) : bl0 V c t = V c main_call0_v9 := by
  funext j
  blk_ext [bl0, idx0 t]
theorem bl1_eq (t : Fin cfg0.N) : bl1 V c t = V c main_call0_v18 := by
  funext j
  blk_ext [bl1, idx1 t]
theorem bl3_eq (t : Fin cfg0.N) : bl3 V c t = V c main_arg2 := by
  funext j
  blk_ext [bl3, idx3 t]
theorem bl2_apply (t : Fin cfg0.N) (n : Fin 8) (i : Fin 16) (k : Fin 64) (h : 8 * t.val + n.val < 2048) : bl2 V c t (ix3 n i k) = V c main_call0_v17 (ix3 (n0 := 2048) ⟨8 * t.val + n.val, h⟩ i k) := by
  blk_ext [bl2, idx2 t]

end Cert.KernelIdeal.Fwd

namespace Cert.KernelIdeal.Bwd

open Cert.KernelIdeal Cert.KernelIdeal.Gen
open Facts Facts₀
open Idealize.ShloMosaic Idealize.ShloMosaic.TcCoe
open Cert.KernelIdeal.Fwd

variable {F : FTy → Type} [FloatOps F]
variable (V : Val₁ (F := F)) (c : Dev nD)

theorem ox0 : win1_0.index t1_0 = ![0, 0, 0] := by decide +kernel
theorem ox1 : win1_1.index t1_0 = ![0, 0] := by decide +kernel
theorem ox2 : win1_2.index t1_0 = ![0, 0] := by decide +kernel
theorem ox3 : win1_3.index t1_0 = ![0, 0] := by decide +kernel

theorem ob0_eq : ob0 V c = V c main_call0_v19_0 := by
  funext j
  blk_ext [ob0, ox0]
theorem ob1_eq : ob1 V c = V c main_arg2 := by
  funext j
  blk_ext [ob1, ox1]
theorem ob2_eq : ob2 V c = V c main_call0_v19_2 := by
  funext j
  blk_ext [ob2, ox2]
theorem ob3_eq : ob3 V c = V c main_call0_v18 := by
  funext j
  blk_ext [ob3, ox3]

theorem pathArr_eq : pathArr V c = pathV (ob0 V c) (ob1 V c) (ob2 V c) (ob3 V c) := by
  refine (dat1 V c).arrAt_eq_of_after_last 4 t1_0 (by decide +kernel) _ fun j => ?_
  blk_simp
  rfl

end Cert.KernelIdeal.Bwd

end
-- ==== Proof.FwdRow.lean ====
/- The forward region's recursion at one row: the running scores of the row's best-path search. -/
module

public import proofs.«01_k».proof.Proof.FwdVal
public import proofs.«01_k».proof.Proof.FwdBlk

@[expose] public section

set_option maxRecDepth 16384

noncomputable section

namespace Cert.Vit

open Idealize.ShloMosaic

/-- Past its length a row's scores stay. -/
theorem fv_stay (x : ℕ → Fin 64 → EReal) (l : BitVec 32) (W : Fin 64 → Fin 64 → EReal) (t : ℕ) (h : l.toInt ≤ (t : ℤ)) : ∀ n, fv x l W (t + n) = fv x l W t
  | 0 => rfl
  | n + 1 => by
    rw [← fv_stay x l W t h n]
    funext k
    show (if ((t + n : ℕ) : ℤ) < l.toInt then _ else _) = _
    rw [if_neg (by push_cast; omega)]
    rfl

theorem toInt_ofNat (t : ℕ) (h : t < 2147483648) : (BitVec.ofNat 32 t).toInt = (t : ℤ) := by
  rw [WordCmp.toInt_eq_toNat_of_lt_half (by rw [BitVec.toNat_ofNat]; omega), BitVec.toNat_ofNat, Nat.mod_eq_of_lt (by omega)]

end Cert.Vit

namespace Cert.KernelIdeal.Fwd

open Cert.KernelIdeal Cert.KernelIdeal.Gen
open Facts Facts₀
open Idealize.ShloMosaic Idealize.ShloMosaic.TcCoe
open Cert.Vit

theorem fvS_apply (w : Vec Ideal S64x64 .f32) (lg : IVec S8x1 32) (f : ℕ → Vec Ideal S1x8x64 .f32) (s : FVec Ideal S8x64 .f32) (i : Fin 8)
    (x : ℕ → Fin 64 → EReal) (l : BitVec 32) (W : Fin 64 → Fin 64 → EReal) (t : ℕ) (hs : ∀ k, s (ix2 i k) = fv x l W t k) (hw : ∀ j k, w (ix2 j k) = W j k) (hl : lg (ix2 i 0) = l) :
    ∀ n, t + n ≤ 2048 → (∀ m k, m < n → f m (ix3 0 i k) = x (t + m) k) → ∀ k, fvS w lg (BitVec.ofNat 32 t) f s n (ix2 i k) = fv x l W (t + n) k
  | 0, _, _, k => hs k
  | n + 1, ht, hf, k => by
    have ih := fvS_apply w lg f s i x l W t hs hw hl n (by omega) fun m k hm => hf m k (by omega)
    have e : Scalar.addi (BitVec.ofNat 32 t) (BitVec.ofNat 32 n) = BitVec.ofNat 32 (t + n) := by
      show BitVec.ofNat 32 t + BitVec.ofNat 32 n = _
      rw [BitVec.ofNat_add]
    rw [fvS, stepG_apply, e, toInt_ofNat _ (by omega), hl, hf n k (by omega), ih k]
    simp only [ih, hw]
    rfl

variable (V : Val₁ (F := Ideal)) (c : Dev nD)

/-- A row's features, its length, and the weights. -/
def rx (r : Fin 16) : ℕ → Fin 64 → EReal := fun t k => if h : t < 2048 then V c main_call0_v17 (ix3 (n0 := 2048) ⟨t, h⟩ r k) else 0
def rl (r : Fin 16) : BitVec 32 := V c main_call0_v18 (ix2 (n1 := 1) r 0)
def rW : Fin 64 → Fin 64 → EReal := fun j k => V c main_arg2 (ix2 j k)

/-- The scores before step `t` of row `r`. -/
abbrev rv (r : Fin 16) (t : ℕ) : Fin 64 → EReal := fv (rx V c r) (rl V c r) (rW V c) t

theorem tt_eq (t : Fin cfg0.N) : tt (grid0.coords t) = BitVec.ofNat 32 (8 * t.val) := by
  unfold tt
  rw [coords0, Nat.mul_comm, BitVec.ofNat_mul]
  rfl

theorem onB_iff (t : Fin cfg0.N) (l : BitVec 32) : onB (grid0.coords t) l = 1#1 ↔ ((8 * t.val : ℕ) : ℤ) < l.toInt := by
  have h : t.val < 256 := lt_of_lt_of_eq t.isLt N_0
  rw [← toInt_ofNat (8 * t.val) (by omega), ← tt_eq]
  unfold onB
  generalize tt (grid0.coords t) = a
  show Scalar.cmpi .ne (Scalar.extui (IntOp.cmpi .slt a l) : BitVec 32) 0#32 = 1#1 ↔ _
  rw [WordCmp.cmpi_slt_eq]
  by_cases hh : a.toInt < l.toInt
  · rw [decide_eq_true hh]; exact ⟨fun _ => hh, fun _ => rfl⟩
  · rw [decide_eq_false hh]; exact ⟨fun e => absurd e (by decide), fun e => absurd e hh⟩

theorem lensG0_apply (L : Vec Ideal S16x1 .i32) (i : Fin 8) : lensG0 (F := Ideal) L (ix2 i 0) = L (ix2 (n0 := 16) ⟨i.val, by omega⟩ 0) := by
  pointwise [lensG0]
theorem lensG1_apply (L : Vec Ideal S16x1 .i32) (i : Fin 8) : lensG1 (F := Ideal) L (ix2 i 0) = L (ix2 (n0 := 16) ⟨8 + i.val, by omega⟩ 0) := by
  pointwise [lensG1]

theorem rowF_apply (t : Fin cfg0.N) (o : ℕ) (i : Fin 8) (hi : o + i.val < 16) (m : ℕ) (hm : m < 8) (k : Fin 64) :
    rowF (F := Ideal) (e := .f32) (bl2 V c t) o m (ix3 0 i k) = rx V c ⟨o + i.val, hi⟩ (8 * t.val + m) k := by
  have h : t.val < 256 := lt_of_lt_of_eq t.isLt N_0
  have e := bl2_apply V c t ⟨m, hm⟩ ⟨o + i.val, hi⟩ k (by show 8 * t.val + m < 2048; omega)
  unfold rx
  rw [dif_pos (by omega), ← e]
  unfold rowF
  congr 1
  rw [ix3_eq_valueIdx]
  congr 1
  · exact Fin.ext (Nat.mod_eq_of_lt hm)
  · exact Fin.ext (Nat.mod_eq_of_lt hi)

/-- One point's steps of a block of rows, at one row. -/
theorem fvE_apply (t : Fin cfg0.N) (o : ℕ) (l : BitVec 32) (lg : Vec Ideal S8x1 .i32) (s : FVec Ideal S8x64 .f32) (i : Fin 8) (hi : o + i.val < 16)
    (hs : ∀ k, s (ix2 i k) = rv V c ⟨o + i.val, hi⟩ (8 * t.val) k) (hl : lg (ix2 i 0) = rl V c ⟨o + i.val, hi⟩) (hle : (rl V c ⟨o + i.val, hi⟩).toInt ≤ l.toInt) (k : Fin 64) :
    fvE (grid0.coords t) o l (bl3 V c t) lg (bl2 V c t) s (ix2 i k) = rv V c ⟨o + i.val, hi⟩ (8 * (t.val + 1)) k := by
  have h : t.val < 256 := lt_of_lt_of_eq t.isLt N_0
  unfold fvE
  split
  · rw [tt_eq]
    exact fvS_apply _ _ _ _ i _ _ _ (8 * t.val) hs (fun j k => by rw [bl3_eq]; rfl) hl 8 (by omega) (fun m k hm => rowF_apply V c t o i hi m hm k) k
  · next hn =>
    rw [onB_iff] at hn
    rw [hs]
    exact (congrFun (fv_stay _ _ _ _ (by omega) 8) k).symm

/-- The rows come in order of their lengths, and the lengths' two copies agree. -/
structure Sorted : Prop where
  same : ∀ i : Fin 16, V c main_call0_v9 (ix1 i) = rl V c i
  le : ∀ i j : Fin 16, i ≤ j → (rl V c j).toInt ≤ (rl V c i).toInt

variable {V c}

theorem Sorted.le_ixL (H : Sorted V c) (t : Fin cfg0.N) (o : ℕ) (ho : o < 16) (r : Fin 16) (h : o ≤ r.val) : (rl V c r).toInt ≤ (bl0 V c t (ixL o ho)).toInt := by
  rw [bl0_eq]
  have e : V c main_call0_v9 (ixL o ho) = rl V c ⟨o, ho⟩ := by rw [← H.same]; rfl
  rw [e]
  exact H.le _ _ h

theorem s8_apply (H : Sorted V c) (i : Fin 8) (k : Fin 64) : ∀ n, n ≤ 256 → s8 V c n (ix2 i k) = rv V c ⟨0 + i.val, by omega⟩ (8 * n) k := by
  intro n hn
  induction n generalizing k with
  | zero => exact init_apply i k
  | succ n ih =>
    have hN : n < cfg0.N := lt_of_lt_of_eq (show n < 256 by omega) N_0.symm
    rw [s8_succ V c ⟨n, hN⟩]
    exact fvE_apply V c ⟨n, hN⟩ 0 _ _ _ i (by omega) (fun k => ih k (by omega)) (by rw [lensG0_apply, bl1_eq]; congr 1; exact congrArg (ix2 · 0) (Fin.ext (Nat.zero_add _).symm)) (H.le_ixL _ 0 _ _ (Nat.zero_le _)) k

theorem s9_apply (H : Sorted V c) (i : Fin 8) (k : Fin 64) : ∀ n, n ≤ 256 → s9 V c n (ix2 i k) = rv V c ⟨8 + i.val, by omega⟩ (8 * n) k := by
  intro n hn
  induction n generalizing k with
  | zero => exact init_apply i k
  | succ n ih =>
    have hN : n < cfg0.N := lt_of_lt_of_eq (show n < 256 by omega) N_0.symm
    rw [s9_succ V c ⟨n, hN⟩]
    exact fvE_apply V c ⟨n, hN⟩ 8 _ _ _ i (by omega) (fun k => ih k (by omega)) (by rw [lensG1_apply, bl1_eq]; rfl) (H.le_ixL _ 8 _ _ (Nat.le_add_right _ _)) k

/-- A slab of the history of a block of rows that runs, at one row. -/
theorem slab_apply (t : Fin cfg0.N) (o : ℕ) (lg : Vec Ideal S8x1 .i32) (s : FVec Ideal S8x64 .f32) (i : Fin 8) (hi : o + i.val < 16)
    (hs : ∀ k, s (ix2 i k) = rv V c ⟨o + i.val, hi⟩ (8 * t.val) k) (hl : lg (ix2 i 0) = rl V c ⟨o + i.val, hi⟩) (n : ℕ) (hn : n < 8) (k : Fin 64) :
    slab (fvS (bl3 V c t) lg (tt (grid0.coords t)) (rowF (bl2 V c t) o) s n) (ix3 0 i k) = rv V c ⟨o + i.val, hi⟩ (8 * t.val + n) k := by
  have h : t.val < 256 := lt_of_lt_of_eq t.isLt N_0
  pointwise [slab]
  rw [tt_eq]
  exact fvS_apply _ _ _ _ i _ _ _ (8 * t.val) hs (fun j k => by rw [bl3_eq]; rfl) hl n (by omega) (fun m k hm => rowF_apply V c t o i hi m (by omega) k) k

/-- What a point leaves in the history at a step inside a row's length. -/
theorem R4_apply (H : Sorted V c) (t : Fin cfg0.N) (X : S8x16x64.Idx → Elt Ideal .f32) (hX : R4 V c t X) (n : Fin 8) (r : Fin 16) (k : Fin 64)
    (hr : ((8 * t.val + n.val : ℕ) : ℤ) < (rl V c r).toInt) : X (ix3 n r k) = rv V c r (8 * t.val + n.val) k := by
  have h : t.val < 256 := lt_of_lt_of_eq t.isLt N_0
  obtain ⟨X5, rfl⟩ := hX
  by_cases h8 : r.val < 8
  · have on : onB (grid0.coords t) (bl0 V c t (ixL 0 (by decide))) = 1#1 := (onB_iff t _).mpr (lt_of_lt_of_le (by push_cast at hr ⊢; omega) (H.le_ixL t 0 (by decide) r (Nat.zero_le _)))
    have e : ∀ Y, hisS (grid0.coords t) 8 (bl0 V c t (ixL 8 (by decide))) (bl3 V c t) (lensG1 (bl1 V c t)) (bl2 V c t) (s9 V c t.val) Y (ix3 n r k) = Y (ix3 n r k) := fun Y => by
      unfold hisS
      split
      · exact dif_neg fun hh => absurd hh.1 (not_le.mpr h8)
      · rfl
    rw [e, hisS, if_pos on]
    refine (dif_pos ⟨Nat.zero_le _, by show r.val < 0 + 8; omega⟩).trans ?_
    have := slab_apply (V := V) (c := c) t 0 (lensG0 (bl1 V c t)) (s8 V c t.val) ⟨r.val, h8⟩ (by show 0 + r.val < 16; omega) (fun k => s8_apply H ⟨r.val, h8⟩ k t.val (by omega))
      (by rw [lensG0_apply, bl1_eq]; congr 1; exact congrArg (ix2 · 0) (Fin.ext (Nat.zero_add _).symm)) n.val n.isLt k
    have er : (⟨0 + r.val, by omega⟩ : Fin 16) = r := Fin.ext (Nat.zero_add _)
    rw [er] at this
    exact this
  · have on : onB (grid0.coords t) (bl0 V c t (ixL 8 (by decide))) = 1#1 := (onB_iff t _).mpr (lt_of_lt_of_le (by push_cast at hr ⊢; omega) (H.le_ixL t 8 (by decide) r (by omega)))
    rw [hisS, if_pos on]
    have hr16 := r.isLt
    refine (dif_pos ⟨by show 8 ≤ r.val; omega, by show r.val < 8 + 8; omega⟩).trans ?_
    have := slab_apply (V := V) (c := c) t 8 (lensG1 (bl1 V c t)) (s9 V c t.val) ⟨r.val - 8, by omega⟩ (by show 8 + (r.val - 8) < 16; omega) (fun k => s9_apply H ⟨r.val - 8, by omega⟩ k t.val (by omega))
      (by rw [lensG1_apply, bl1_eq]; rfl) n.val n.isLt k
    have er : (⟨8 + (r.val - 8), by omega⟩ : Fin 16) = r := Fin.ext (by show 8 + (r.val - 8) = r.val; omega)
    rw [er] at this
    exact this

/-- The last scores of the two blocks of rows, as one. -/
theorem last_apply (H : Sorted V c) (i : Fin 16) (k : Fin 64) :
    (if h : i.val < 8 then s8 V c 256 (ix2 ⟨i.val, h⟩ k) else s9 V c 256 (ix2 ⟨i.val - 8, by omega⟩ k)) = rv V c i 2048 k := by
  split
  · next h =>
    rw [s8_apply H ⟨i.val, h⟩ k 256 le_rfl]
    exact congrArg (fun r => rv V c r 2048 k) (Fin.ext (Nat.zero_add _))
  · next h =>
    rw [s9_apply H _ k 256 le_rfl]
    exact congrArg (fun r => rv V c r 2048 k) (Fin.ext (by show 8 + (i.val - 8) = i.val; omega))

/-- What the last point leaves in the scores and in the tags. -/
theorem R5_apply (H : Sorted V c) (t : Fin cfg0.N) (ht : t.val = 255) (X : S16x1.Idx → Elt Ideal .f32) (hX : R5 V c t X) (i : Fin 16) :
    X (ix2 i 0) = score (rx V c i) (rl V c i) (rW V c) := by
  obtain ⟨X6, rfl⟩ := hX
  have hc : k0_cond4 (grid0.coords t) = 1#1 := by unfold k0_cond4; simp only [coords0, ht]; rfl
  rw [scS, if_pos hc, score_apply, ht, bl3_eq]
  unfold score
  congr 1
  funext k
  rw [last_apply H i k]
  rfl
theorem R6_apply (H : Sorted V c) (t : Fin cfg0.N) (ht : t.val = 255) (X : S16x1.Idx → Elt Ideal .i32) (hX : R6 V c t X) (i : Fin 16) :
    X (ix2 i 0) = BitVec.ofNat 32 (best (rx V c i) (rl V c i) (rW V c)).val := by
  obtain ⟨X7, rfl⟩ := hX
  have hc : k0_cond4 (grid0.coords t) = 1#1 := by unfold k0_cond4; simp only [coords0, ht]; rfl
  rw [tgS, if_pos hc, tag_apply, ht, bl3_eq]
  unfold best
  congr 2
  congr 1
  funext k
  rw [last_apply H i k]
  rfl

end Cert.KernelIdeal.Fwd

end
-- ==== Proof.FwdOut.lean ====
/- What the forward region leaves in its three results, row by row. -/
module

public import proofs.«01_k».proof.Proof.FwdRow
public import proofs.«01_k».proof.Proof.FwdSeg
public import Idealize.ShloMosaic.Lib.Pipeline.ArrRel
public import Idealize.ShloMosaic.Lib.Pipeline.ValueKit

@[expose] public section

set_option maxRecDepth 16384

noncomputable section

namespace Cert.KernelIdeal.Fwd

open Cert.KernelIdeal Cert.KernelIdeal.Gen
open Facts Facts₀
open Idealize.ShloMosaic Idealize.ShloMosaic.TcCoe
open Idealize.ShloMosaic.Pipeline (Dat RDat)
open Cert.Vit

/-- The last point. -/
def tLast : Fin cfg0.N := ⟨255, by rw [show cfg0.N = 256 from N_0]; decide⟩

theorem whole5 : (cfg0.win 5).WholeAt tLast := by decide +kernel
theorem whole6 : (cfg0.win 6).WholeAt tLast := by decide +kernel
theorem idx4 : ∀ t : Fin cfg0.N, win0_4.index t = ![t.val, 0, 0] := by decide +kernel
theorem covers4 : (cfg0.win 4).Covers := by decide +kernel

variable {V : Val₁ (F := Ideal)} {c : Dev nD}
variable {f : Buf (Elt Ideal) ((c : Thread nD τ).loc main_call0_v19_0)} {s : Buf (Elt Ideal) ((c : Thread nD τ).loc main_call0_v19_1)} {g : Buf (Elt Ideal) ((c : Thread nD τ).loc main_call0_v19_2)}

theorem OutRel.score_eq (R : OutRel V c f s g) (H : Sorted V c) (i : Fin 16) : s (ix2 (n1 := 1) i 0) = score (rx V c i) (rl V c i) (rW V c) := by
  obtain ⟨X, hX, hG⟩ := R.hs.emb_eq_of_wholeAt whole5
  have hX := Dat.toRRel_leaves (dat := dat0 V c) (fgt := fgt0) (Rl := Rl0 V c) rfl hX
  have e := hG (ix2 (n0 := 16) (n1 := 1) i 0)
  have h5 := R5_apply H tLast rfl X hX i
  exact e.trans h5

theorem OutRel.tag_eq (R : OutRel V c f s g) (H : Sorted V c) (i : Fin 16) : g (ix2 (n1 := 1) i 0) = BitVec.ofNat 32 (best (rx V c i) (rl V c i) (rW V c)).val := by
  obtain ⟨X, hX, hG⟩ := R.hg.emb_eq_of_wholeAt whole6
  have hX := Dat.toRRel_leaves (dat := dat0 V c) (fgt := fgt0) (Rl := Rl0 V c) rfl hX
  have e := hG (ix2 (n0 := 16) (n1 := 1) i 0)
  exact e.trans (R6_apply H tLast rfl X hX i)

theorem OutRel.hist_eq (R : OutRel V c f s g) (H : Sorted V c) (t : Fin 2048) (r : Fin 16) (k : Fin 64) (ht : (t.val : ℤ) < (rl V c r).toInt) :
    f (ix3 t r k) = rv V c r t.val k := by
  obtain ⟨X, hX, hA⟩ := R.hf.exists_exact
  rw [hA (Function.update (fun _ _ _ => Classical.arbitrary _) 4 X) fun _ _ _ => by rw [Function.update_self]]
  generalize hd : ((dat0 V c).toRRel fgt0 (Rl0 V c)).withAfter (Function.update (fun _ _ _ => Classical.arbitrary _) 4 X) = d
  have he : d.after 4 = X := by rw [← hd, RDat.withAfter_after, Function.update_self]
  have key := Dat.arrAt_forall_of_covers (dat := d) (w := 4)
    (P := fun y v => ∀ (t : Fin 2048) (r : Fin 16) (k : Fin 64), (y : S2048x16x64.Idx) = ix3 t r k → (t.val : ℤ) < (rl V c r).toInt → v = rv V c r t.val k)
    covers4 (fun u hu y => by
      intro t r k hy ht
      have hX := R4_apply H u _ (Dat.toRRel_leaves (dat := dat0 V c) (fgt := fgt0) (Rl := Rl0 V c) rfl (hX u u.isLt hu)) (y 0) (y 1) (y 2)
      have h0 := congrArg Fin.val (congrFun hy 0)
      have h1 := congrArg Fin.val (congrFun hy 1)
      have h2 := congrArg Fin.val (congrFun hy 2)
      blk_simp [idx4 u] at h0 h1 h2
      blk_simp
      rw [he]
      have e1 : (y 1 : Fin 16) = r := Fin.ext h1
      have e2 : (y 2 : Fin 64) = k := Fin.ext h2
      have e0 : 8 * u.val + (y 0).val = t.val := by omega
      have ey : X u (ix3 (n0 := 8) (n1 := 16) (n2 := 64) (y 0) (y 1) (y 2)) = X u y := congrArg (X u) (by funext a; match a with | 0 => rfl | 1 => rfl | 2 => rfl)
      have h3 := (hX (by rw [e0, e1]; exact ht))
      rw [ey, e0, e1, e2] at h3
      exact h3) (ix3 t r k)
  exact key t r k rfl ht

end Cert.KernelIdeal.Fwd

end
-- ==== Proof.BwdVal.lean ====
/- What the backward region's steps are at one row, over the extended reals. -/
module

public import proofs.«01_k».proof.Proof.BwdSeg
public import proofs.«01_k».proof.Proof.FwdRow

@[expose] public section

set_option maxRecDepth 16384

noncomputable section

namespace Cert.KernelIdeal.Bwd

open Cert.KernelIdeal Cert.KernelIdeal.Gen
open Facts Facts₀
open Idealize.ShloMosaic Idealize.ShloMosaic.TcCoe
open Cert.Vit
open Cert.KernelIdeal.Fwd (ofBits_ninf sel_slt)

theorem pick_apply (m : IVec S16x64 1) (f : ℕ → FVec Ideal S16x64 .f32) (n : ℕ) (j : S16x64.Idx) : pick m f n j = f (2 * n + (m j).toNat) j := by
  have h : ∀ b : BitVec 1, b = 0#1 ∨ b = 1#1 := by decide
  show Scalar.select (m j) _ _ = _
  rcases h (m j) with e | e <;> rw [e] <;> rfl

theorem bits_tag : ∀ a : Fin 64, ∀ g : BitVec 32 → BitVec 1, (g = fun b => IntOp.cmpi .ne (IntOp.andi (BitVec.ofNat 32 a.val) b) 0#32) →
    2 * (2 * (2 * (2 * (2 * (2 * 0 + (g 32#32).toNat) + (g 16#32).toNat) + (g 8#32).toNat) + (g 4#32).toNat) + (g 2#32).toNat) + (g 1#32).toNat = a.val := by
  intro a g hg
  subst hg
  revert a
  decide

theorem tree_apply (rows : ℕ → FVec Ideal S16x64 .f32) (tag : IVec S16x64 32) (j : S16x64.Idx) (a : Fin 64) (h : tag j = BitVec.ofNat 32 a.val) : tree rows tag j = rows a.val j := by
  have hb : ∀ b, bitM b tag j = IntOp.cmpi .ne (IntOp.andi (BitVec.ofNat 32 a.val) b) 0#32 := fun b => by rw [← h]; rfl
  unfold tree
  simp only [pick_apply, hb]
  refine congrArg (fun n => rows n j) ?_
  exact bits_tag a (fun b => IntOp.cmpi .ne (IntOp.andi (BitVec.ofNat 32 a.val) b) 0#32) rfl

theorem lens_apply (L : S16x1.Idx → Elt Ideal .i32) (i : Fin 16) (k : Fin 64) : k1_pay494 (F := Ideal) L (ix2 i k) = L (ix2 (n1 := 1) i 0) := by
  pointwise [k1_pay494]
theorem btag_apply (L : S16x1.Idx → Elt Ideal .i32) (i : Fin 16) (k : Fin 64) : k1_pay9 (F := Ideal) L (ix2 i k) = L (ix2 (n1 := 1) i 0) := by
  pointwise [k1_pay9]
theorem iota_apply (i : Fin 16) (k : Fin 64) : k1_pay495 (F := Ideal) (ix2 i k) = ((k.val : ℝ) : EReal) := by
  pointwise [k1_pay495]
  show (((BitVec.ofNat 32 k.val).toInt : ℝ) : EReal) = _
  rw [toInt_tag]
  norm_cast
theorem rowW_apply (w : FVec Ideal S64x64 .f32) (a : Fin 64) (i : Fin 16) (k : Fin 64) : rowW w a.val (ix2 i k) = w (ix2 a k) := by
  pointwise [rowW]
  exact congrArg (fun a => w (ix2 a k)) (Fin.ext (Nat.mod_eq_of_lt a.isLt))

theorem ofBits_pinf : Ideal.ofBits .f32 0x7F800000#32 = ⊤ := by simp [Ideal.ofBits, Ideal.ieee]
theorem ofBits_64 : Ideal.ofBits .f32 0x42800000#32 = ((64 : ℝ) : EReal) := by
  have h : (1115684864 >>> 23 % 256 : ℕ) = 133 := by decide
  norm_num [Ideal.ofBits, Ideal.ieee, h, show (BitVec.extractLsb' 31 1 1115684864#32 = 1#1) = False from by decide]
theorem fptosi_tag (a : Fin 64) : FloatOps.fptosi (F := Ideal) (φ := .f32) 32 (((a.val : ℝ) : EReal)) = BitVec.ofNat 32 a.val := by
  show Ideal.fptosi 32 _ = _
  have h := a.isLt
  rw [Ideal.fptosi, Ideal.toIntClamped_coe, if_pos (Nat.cast_nonneg _), Int.floor_natCast, min_eq_right (by norm_num; omega), max_eq_right (by norm_num)]
  rfl

theorem am_apply (s : FVec Ideal S16x64 .f32) (i : Fin 16) (k : Fin 64) : am (k1_pay495 (F := Ideal)) s (ix2 i k) = BitVec.ofNat 32 (fm fun k => s (ix2 i k)).val := by
  pointwise [am, iota_apply]
  rw [ofBits_ninf, ofBits_pinf, ofBits_64]
  rw [show Finset.fold max ⊥ (fun x => s (ix2 i x)) Finset.univ = mx fun x => s (ix2 i x) from rfl, min_fm]
  exact fptosi_tag _

/-! ## The steps back at one row -/

section
variable (x : ℕ → Fin 64 → EReal) (l : BitVec 32) (W : Fin 64 → Fin 64 → EReal)
variable (v3 : IVec S16x64 32) (w : FVec Ideal S64x64 .f32) (X : S2048x16x64.Idx → Elt Ideal .f32) (tag : IVec S16x64 32) (i : Fin 16)

theorem scr_apply (rows : ℕ → FVec Ideal S16x64 .f32) (y : FVec Ideal S1x16x64 .f32) (k : Fin 64) :
    scr rows tag y (ix2 i k) = y (ix3 0 i k) + tree rows tag (ix2 i k) := by
  pointwise [scr]

theorem next_apply (v6 : FVec Ideal S16x64 .f32) (rows : ℕ → FVec Ideal S16x64 .f32) (t : BitVec 32) (y : FVec Ideal S1x16x64 .f32) (k : Fin 64) :
    nextTag v3 v6 rows t tag y (ix2 i k) = if t.toInt < (v3 (ix2 i k)).toInt then am v6 (scr rows tag y) (ix2 i k) else tag (ix2 i k) := by
  rw [← sel_slt]
  rfl

theorem out_apply (t : BitVec 32) : outRow v3 t tag (ix3 0 i 0) = if t.toInt < (v3 (ix2 i 0)).toInt then tag (ix2 i 0) else 4294967295#32 := by
  rw [← sel_slt]
  pointwise [outRow, act]

theorem tB_toInt (s : ℕ) : (tB s).toInt = ((2047 - s : ℕ) : ℤ) := toInt_ofNat _ (by omega)

theorem tgN_apply (hX : ∀ (t : Fin 2048) (k : Fin 64), (t.val : ℤ) < l.toInt → X (ix3 t i k) = fv x l W t.val k) (hw : ∀ j k, w (ix2 j k) = W j k)
    (hv : ∀ k : Fin 64, v3 (ix2 i k) = l) (ht : ∀ k : Fin 64, tag (ix2 i k) = BitVec.ofNat 32 (best x l W).val) :
    ∀ (s : ℕ) (k : Fin 64), tgN v3 (k1_pay495 (F := Ideal)) (rowW w) X tag s (ix2 i k) = BitVec.ofNat 32 (tg x l W s).val
  | 0, k => ht k
  | s + 1, k => by
    have ih := tgN_apply hX hw hv ht s
    rw [tgN, next_apply, tB_toInt, hv, tg]
    by_cases hs : ((2047 - s : ℕ) : ℤ) < l.toInt
    · rw [if_pos hs, if_pos hs, am_apply]
      congr 3
      funext j
      rw [scr_apply, tree_apply _ _ _ _ (ih j), rowW_apply, hw]
      congr 1
      have hlt : 2047 - s < 2048 := by omega
      refine Eq.trans ?_ (hX ⟨2047 - s, hlt⟩ j hs)
      exact congrArg (fun t : Fin 2048 => X (ix3 t i j)) (Fin.ext (Nat.mod_eq_of_lt hlt))
    · rw [if_neg hs, if_neg hs, ih]

theorem ptN_apply (v6 : FVec Ideal S16x64 .f32) (rows : ℕ → FVec Ideal S16x64 .f32) (P : S2048x16x1.Idx → Elt Ideal .i32) (t : Fin 2048) :
    ∀ s, 2048 - s ≤ t.val → s ≤ 2048 → ptN v3 v6 rows X tag P s (ix3 t i 0) = outRow v3 (tB (2047 - t.val)) (tgN v3 v6 rows X tag (2047 - t.val)) (ix3 0 i 0)
  | 0, h, _ => absurd t.isLt (by omega)
  | s + 1, h, hs => by
    rw [ptN]
    unfold wrP
    split
    · next e =>
      have e' : t.val = 2047 - s := e
      rw [show 2047 - t.val = s by omega]
      rfl
    · next e =>
      have e' : ¬ t.val = 2047 - s := e
      exact ptN_apply v6 rows P t s (by omega) (by omega)

end

variable {V : Fwd.Val₁ (F := Ideal)} {c : Dev nD}

/-- The path that the region leaves, at one row. -/
theorem pathArr_apply (x : ℕ → Fin 64 → EReal) (l : BitVec 32) (W : Fin 64 → Fin 64 → EReal) (i : Fin 16)
    (hX : ∀ (t : Fin 2048) (k : Fin 64), (t.val : ℤ) < l.toInt → V c main_call0_v19_0 (ix3 t i k) = fv x l W t.val k)
    (hw : ∀ j k : Fin 64, V c main_arg2 (ix2 j k) = W j k)
    (hv : V c main_call0_v18 (ix2 (n1 := 1) i 0) = l) (ht : V c main_call0_v19_2 (ix2 (n1 := 1) i 0) = BitVec.ofNat 32 (best x l W).val) (t : Fin 2048) :
    pathArr V c (ix3 (n2 := 1) t i 0) = path x l W t.val := by
  rw [pathArr_eq, ob0_eq, ob1_eq, ob2_eq, ob3_eq]
  unfold pathV pathE
  rw [ptN_apply _ _ _ i _ _ _ t 2048 (by omega) le_rfl, out_apply, tB_toInt, lens_apply, hv,
    tgN_apply x l W _ _ _ _ i hX hw (fun k => by rw [lens_apply, hv]) (fun k => by rw [btag_apply, ht])]
  unfold path
  rw [show 2047 - (2047 - t.val) = t.val by omega]

end Cert.KernelIdeal.Bwd

end
-- ==== Proof.Rows.lean ====
/- A batch's row, as the one row's search takes it: the features by time, the length, the weights. -/
module

public import proofs.«01_k».proof.Proof.Vit
public import Idealize.ShloMosaic.Lib.Pointwise

@[expose] public section

noncomputable section

namespace Cert.Vit

open Idealize.ShloMosaic

/-- Row `r`'s features, zero past the last step. -/
def xOf (A : (⟨3, ![16, 2048, 64]⟩ : Shape).Idx → EReal) (r : Fin 16) : ℕ → Fin 64 → EReal := fun t k => if h : t < 2048 then A (ix3 r ⟨t, h⟩ k) else 0
/-- Row `r`'s length. -/
def lOf (L : (⟨1, ![16]⟩ : Shape).Idx → BitVec 32) (r : Fin 16) : BitVec 32 := L (ix1 r)
/-- The weights by the tag moved to and the tag moved from. -/
def wOf (B : (⟨2, ![64, 64]⟩ : Shape).Idx → EReal) : Fin 64 → Fin 64 → EReal := fun j k => B (ix2 j k)

end Cert.Vit

end
-- ==== Proof.KVal.lean ====
/- The two results, row by row: the row's best score and its path. -/
module

public import proofs.«01_k».proof.Proof.KSuffix
public import proofs.«01_k».proof.Proof.FwdOut
public import proofs.«01_k».proof.Proof.BwdVal
public import proofs.«01_k».proof.Proof.Rows

@[expose] public section

set_option maxRecDepth 16384

noncomputable section

namespace Cert.KernelIdeal.Run

open Cert.KernelIdeal Cert.KernelIdeal.Gen Cert.KernelIdeal.Fwd Cert.KernelIdeal.Bwd Cert.KernelIdeal.Ord
open Facts Facts₀
open Idealize.ShloMosaic Idealize.ShloMosaic.TcCoe
open Cert.Vit

variable {m : (ℓ : Loc nD τ sig) → Buf (Elt Ideal) ℓ} {c : Dev nD}

variable (m c) in
abbrev featA : S16x2048x64.Idx → EReal := m ((c : Thread nD τ).loc main_arg0)
variable (m c) in
abbrev wgtA : S64x64.Idx → EReal := m ((c : Thread nD τ).loc main_arg2)

theorem rx_eq (i : Fin 16) : rx (ofW (V1 m)) c i = xOf (featA m c) (row m c i) := by
  funext t k
  unfold rx xOf
  split
  · next h => exact feats_apply m c ⟨t, h⟩ i k
  · rfl
theorem rl_eq (i : Fin 16) : rl (ofW (V1 m)) c i = lOf (lensA m c) (row m c i) := lens18_apply m c i
theorem rW_eq : rW (ofW (V1 m)) c = wOf (wgtA m c) := by
  funext j k
  exact congrFun (V1_of m c main_arg2 (by decide)) (ix2 j k)

theorem sorted (hl : ∀ j, lensA m c j ≠ 0x80000000#32) : Sorted (ofW (V1 m)) c where
  same i := (lens9_apply m c i).trans (lens18_apply m c i).symm
  le i j h := by
    rw [rl_eq, rl_eq]
    have e : ∀ r : Fin 16, lOf (lensA m c) r = lensA m c (Shape.Idx.ofFin r) := fun r => congrArg (lensA m c) (funext fun a => by match a with | 0 => rfl)
    rw [e, e]
    exact lens_le (lensA m c) hl i j h

theorem Left.place (l : Left m c) (b : Fin 16) : l.V3 main_call0_v2 (ix1 b) = BitVec.ofNat 32 (plc m c b).val := by
  rw [l.V3_of main_call0_v2 (by decide), l.V2_of main_call0_v2 (by decide), inv_eq]
  exact inv_apply m c b

theorem Left.v19_0 (l : Left m c) : l.V2 main_call0_v19_0 = l.f := by
  unfold Left.V2 upd0
  rw [Function.update_of_ne (StableHlo.devRef_ne_of_ne (by decide)), Function.update_of_ne (StableHlo.devRef_ne_of_ne (by decide)), Function.update_self]
theorem Left.v19_1 (l : Left m c) : l.V2 main_call0_v19_1 = l.s := by
  unfold Left.V2 upd0
  rw [Function.update_of_ne (StableHlo.devRef_ne_of_ne (by decide)), Function.update_self]
theorem Left.v19_2 (l : Left m c) : l.V2 main_call0_v19_2 = l.g := by
  unfold Left.V2 upd0
  rw [Function.update_self]

theorem Left.score_eq (l : Left m c) (hl : ∀ j, lensA m c j ≠ 0x80000000#32) (b : Fin 16) :
    l.V4 main_v0_0 (ix1 b) = score (xOf (featA m c) b) (lOf (lensA m c) b) (wOf (wgtA m c)) := by
  unfold Left.V4
  rw [res0_apply _ b _ (l.place b), l.V3_of main_call0_v19_1 (by decide), l.v19_1, l.rel.score_eq (sorted hl), rx_eq, rl_eq, rW_eq, row_plc]

theorem Left.path_eq (l : Left m c) (hl : ∀ j, lensA m c j ≠ 0x80000000#32) (b : Fin 16) (t : Fin 2048) :
    l.V4 main_v0_1 (ix2 b t) = path (xOf (featA m c) b) (lOf (lensA m c) b) (wOf (wgtA m c)) t.val := by
  have H := sorted (m := m) (c := c) hl
  unfold Left.V4
  rw [res1_apply _ b _ t (l.place b)]
  have e : l.V3 main_call0_v20 = pathArr (ofW fun _ => l.V2) c := by
    unfold Left.V3 upd1
    rw [Function.update_self]
  rw [e]
  have hx := rx_eq (m := m) (c := c) (plc m c b)
  have hll := rl_eq (m := m) (c := c) (plc m c b)
  rw [row_plc] at hx hll
  refine pathArr_apply _ _ _ (plc m c b) ?_ ?_ ?_ ?_ t
  · intro t k ht
    rw [← hll] at ht
    show l.V2 main_call0_v19_0 (ix3 t (plc m c b) k) = _
    rw [l.v19_0, l.rel.hist_eq H t _ k ht, ← hx, ← hll, ← rW_eq]
  · intro j k
    show l.V2 main_arg2 (ix2 j k) = _
    rw [l.V2_of main_arg2 (by decide), ← rW_eq]
    rfl
  · show l.V2 main_call0_v18 (ix2 (n1 := 1) (plc m c b) 0) = _
    rw [l.V2_of main_call0_v18 (by decide), ← hll]
    rfl
  · show l.V2 main_call0_v19_2 (ix2 (n1 := 1) (plc m c b) 0) = _
    rw [l.v19_2, l.rel.tag_eq H, ← hx, ← hll, ← rW_eq]

end Cert.KernelIdeal.Run

end
-- ==== Proof.RefVal.lean ====
/- What one trip of each of the reference's loops, and the operations around them, leave, as terms over what they find. -/
module

public import proofs.«01_k».proof.Proof.RefRun
public import proofs.«01_k».proof.Proof.Rows
public import Idealize.ShloMosaic.Lib.StableHlo.ReadAt

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo
open Cert.ReferenceIdeal.Ops

variable {F : FTy → Type} [FloatOps F]

/-- The candidates of one step: a running score plus a weight. -/
def cand (fv : FVec F S16x64 .f32) (w : FVec F S64x64 .f32) : FVec F S16x64x64 .f32 :=
  addf (broadcastInDim S16x64x64 ![0, 1, 2] bcast_S16x1x64_S16x64x64_0_1_2 (broadcastInDim S16x1x64 ![0, 2] bcast_S16x64_S16x1x64_0_2 fv))
    (broadcastInDim S16x64x64 ![0, 1, 2] bcast_S1x64x64_S16x64x64_0_1_2 (broadcastInDim S1x64x64 ![1, 2] bcast_S64x64_S1x64x64_1_2 w))
/-- The first best tag of each candidate row. -/
def cbp (s : FVec F S16x64x64 .f32) : IVec S16x64 32 := fun j =>
  (Host.argReduce reducer_argmax_f32_i32 s (iotaInDim S16x64x64 32 2) (constant S_ .f32 0xFF800000#32) (constantI S_ 32 0#32) reducesTo_S16x64x64_S16x64_d2 h_S_ j).2
/-- The step's number. -/
def stepNo (ts : IVec S2048 32) (t : IVec S_ 32) : IVec S_ 32 :=
  shapeCast S_ (Host.dynamicSlice S1 ts (fun k => ((![t] : Fin 1 → IVec S_ 32) k (Shape.Idx.first h_S_)).toInt) sliceFits_S2048_S1) shapeCasts_S1_S_
/-- The step's slab. -/
def slab {α : Type} (x : S2048x16x64.Idx → α) (t : IVec S_ 32) : S16x64.Idx → α :=
  shapeCast S16x64 (Host.dynamicSlice S1x16x64 x (fun k => ((![t, constantI S_ 32 0#32, constantI S_ 32 0#32] : Fin 3 → IVec S_ 32) k (Shape.Idx.first h_S_)).toInt) sliceFits_S2048x16x64_S1x16x64) shapeCasts_S1x16x64_S16x64
/-- Which rows the step is inside of. -/
def inRow (n : IVec S_ 32) (l : IVec S16 32) : IVec S16 1 := cmpi .slt (broadcastInDim S16 ![] bcast_S_S16 n) l

variable (X : Valuation τ sig (Elt F))

theorem fv_step : after body0 X main_v9_5 =
    select (broadcastInDim S16x64 ![0, 1] bcast_S16x1_S16x64_0_1 (broadcastInDim S16x1 ![0] bcast_S16_S16x1_0 (inRow (stepNo (X main_v9_1) (X main_v9_4)) (X main_v9_3))))
      (addf (Host.reduce FloatOps.maximumf (cand (X main_v9_5) (X main_v9_2)) (constant S_ .f32 0xFF800000#32) reducesTo_S16x64x64_S16x64_d2 h_S_) (slab (X main_v9_0) (X main_v9_4)))
      (X main_v9_5) := by
  after_reads_simp [unaryIndexed_result_read, binaryIndexed_result_read, indexContents_tref_cons, indexContents_tref_empty]
  simp only [StableHlo.TRef.ofBuf_toBuf]
  rfl
theorem bp_step : after body0 X main_v9_6 =
    Host.dynamicUpdateSlice (X main_v9_6) (broadcastInDim S1x16x64 ![1, 2] bcast_S16x64_S1x16x64_1_2 (cbp (cand (X main_v9_5) (X main_v9_2))))
      (fun k => ((![X main_v9_4, constantI S_ 32 0#32, constantI S_ 32 0#32] : Fin 3 → IVec S_ 32) k (Shape.Idx.first h_S_)).toInt) updateFits_S2048x16x64_S1x16x64 := by
  after_reads_simp [unaryIndexed_result_read, binaryIndexed_result_read, indexContents_tref_cons, indexContents_tref_empty]
  simp only [StableHlo.TRef.ofBuf_toBuf]
  rfl

/-- The step number read backwards. -/
def backNo (t : IVec S_ 32) : IVec S_ 32 := subi (subi (constantI S_ 32 2048#32) t) (constantI S_ 32 1#32)
/-- The tags looked up in a slab. -/
def lookup (x : IVec S16x64 32) (tag : IVec S16 32) : IVec S16 32 :=
  shapeCast S16 (Host.gather gather_S16x64_S16x1x1_S16x1_n_1_0_0_1_2_11 x
    (shapeCast S16x1x1 (select (cmpi .slt (broadcastInDim S16x1 ![0] bcast_S16_S16x1_0 tag) (broadcastInDim S16x1 ![] bcast_S_S16x1 (constantI S_ 32 0#32)))
      (addi (broadcastInDim S16x1 ![0] bcast_S16_S16x1_0 tag) (broadcastInDim S16x1 ![] bcast_S_S16x1 (constantI S_ 32 64#32)))
      (broadcastInDim S16x1 ![0] bcast_S16_S16x1_0 tag)) shapeCasts_S16x1_S16x1x1)) shapeCasts_S16x1_S16

theorem sel_congr {s : Shape} {α : Type} {p p' : IVec s 1} {a a' b b' : s.Idx → α} (hp : p = p') (ha : a = a') (hb : b = b') :
    select p a b = select p' a' b' := by rw [hp, ha, hb]
theorem upd_congr {s u : Shape} {α : Type} {x x' : s.Idx → α} {w w' : u.Idx → α} {o o' : Fin s.rank → ℤ} (h : s.Slices (fun _ => 0) u)
    (hx : x = x') (hw : w = w') (ho : o = o') : Host.dynamicUpdateSlice x w o h = Host.dynamicUpdateSlice x' w' o' h := by rw [hx, hw, ho]

theorem tag_step : after body1 X main_v19_4 =
    select (inRow (stepNo (X main_v19_1) (backNo (X main_v19_3))) (X main_v19_2)) (lookup (slab (X main_v19_0) (backNo (X main_v19_3))) (X main_v19_4)) (X main_v19_4) := by
  after_reads_simp [unaryIndexed_result_read, binaryIndexed_result_read, indexContents_tref_cons, indexContents_tref_empty]
  simp only [StableHlo.TRef.ofBuf_toBuf]
  refine sel_congr ?_ ?_ rfl
  · rfl
  · unfold lookup
    refine congrArg (fun z => shapeCast S16 z shapeCasts_S16x1_S16) ?_
    refine congr (congrArg (Host.gather _) ?_) ?_
    · rfl
    · refine congrArg (fun z => shapeCast S16x1x1 z shapeCasts_S16x1_S16x1x1) ?_
      rfl
theorem path_step : after body1 X main_v19_5 =
    Host.dynamicUpdateSlice (X main_v19_5) (broadcastInDim S1x16 ![1] bcast_S16_S1x16_1
      (select (inRow (stepNo (X main_v19_1) (backNo (X main_v19_3))) (X main_v19_2)) (X main_v19_4) (broadcastInDim S16 ![] bcast_S_S16 (constantI S_ 32 4294967295#32))))
      (fun k => ((![backNo (X main_v19_3), constantI S_ 32 0#32] : Fin 2 → IVec S_ 32) k (Shape.Idx.first h_S_)).toInt) updateFits_S2048x16_S1x16 := by
  after_reads_simp [unaryIndexed_result_read, binaryIndexed_result_read, indexContents_tref_cons, indexContents_tref_empty]
  simp only [StableHlo.TRef.ofBuf_toBuf]
  have e : ∀ z : (⟨S2048x16, .i32⟩ : BufTy).Contents (Elt F), id ((StableHlo.TRef.of main_while1b_v34 : StableHlo.TRef sig ⟨S2048x16, .i32⟩).toBuf z) = z := fun _ => rfl
  refine (e _).trans ?_
  refine upd_congr (s := S2048x16) (u := S1x16) updateFits_S2048x16_S1x16 ?_ ?_ ?_
  · rfl
  rotate_left
  · refine funext fun k => congrArg (fun z : IVec S_ 32 => (z (Shape.Idx.first h_S_)).toInt) ?_
    match k with
    | ⟨0, _⟩ => rfl
    | ⟨1, _⟩ => rfl
  refine congrArg (broadcastInDim (s := S16) (α := BitVec 32) S1x16 ![1] bcast_S16_S1x16_1) ?_
  refine sel_congr ?_ rfl rfl
  rfl

/-! ## Around the loops -/

theorem pre_feat : after pre0 X main_v9_0 = transpose S2048x16x64 [1, 0, 2] (X main_arg0) transposes_S16x2048x64_S2048x16x64_1_0_2 := by
  after_reads_simp
  try simp only [StableHlo.TRef.ofBuf_toBuf]
  try rfl
theorem pre_nos : after pre0 X main_v9_1 = iotaInDim S2048 32 0 := by
  after_reads_simp
  try simp only [StableHlo.TRef.ofBuf_toBuf]
  try rfl
theorem pre_wgt : after pre0 X main_v9_2 = X main_arg2 := by
  after_reads_simp
  try rfl
theorem pre_len : after pre0 X main_v9_3 = X main_arg1 := by
  after_reads_simp
  try rfl
theorem pre_fv : after pre0 X main_v9_5 = broadcastInDim S16x64 ![0, 1] bcast_S1x64_S16x64_0_1 (broadcastInDim S1x64 ![1] bcast_S64_S1x64_1
    (select (cmpi .eq (iotaInDim S64 32 0) (broadcastInDim S64 ![] bcast_S_S64 (constantI S_ 32 0#32)))
      (broadcastInDim S64 ![] bcast_S_S64 (constant S_ .f32 0x00000000#32)) (broadcastInDim S64 ![] bcast_S_S64 (constant S_ .f32 0xC61C4000#32)))) := by
  after_reads_simp
  simp only [StableHlo.TRef.ofBuf_toBuf]
  rfl

/-- The last scores with the end tag's weights. -/
def term (fv : FVec F S16x64 .f32) (w : FVec F S64x64 .f32) : FVec F S16x64 .f32 :=
  addf fv (broadcastInDim S16x64 ![0, 1] bcast_S1x64_S16x64_0_1 (broadcastInDim S1x64 ![1] bcast_S64_S1x64_1
    (shapeCast S64 (extractStridedSlice S1x64 ![63, 0] w slices_S64x64_S1x64_63_0) shapeCasts_S1x64_S64)))
theorem mid_score : after mid1 X main_v16 = Host.reduce FloatOps.maximumf (term (X main_v9_5) (X main_arg2)) (constant S_ .f32 0xFF800000#32) reducesTo_S16x64_S16_d1 h_S_ := by
  after_reads_simp
  try simp only [StableHlo.TRef.ofBuf_toBuf]
  rfl
theorem mid_tag : after mid1 X main_v19_4 = fun j => (Host.argReduce reducer_argmax_f32_i32 (term (X main_v9_5) (X main_arg2)) (iotaInDim S16x64 32 1)
    (constant S_ .f32 0xFF800000#32) (constantI S_ 32 0#32) reducesTo_S16x64_S16_d1 h_S_ j).2 := by
  after_reads_simp
  simp only [StableHlo.TRef.ofBuf_toBuf]
  rfl
theorem mid_bp : after mid1 X main_v19_0 = X main_v9_6 := by
  after_reads_simp
  try rfl
theorem mid_nos : after mid1 X main_v19_1 = iotaInDim S2048 32 0 := by
  after_reads_simp
  try rfl
theorem mid_len : after mid1 X main_v19_2 = X main_arg1 := by
  after_reads_simp
  try rfl
theorem post_path : after post2 X main_v20 = transpose S16x2048 [1, 0] (X main_v19_5) transposes_S2048x16_S16x2048_1_0 := by
  after_reads_simp

end Cert.ReferenceIdeal.Run

end
-- ==== Proof.RefArg.lean ====
/- What the reference's arg-max reductions and its lookup along the tags read, over the extended reals. -/
module

public import proofs.«01_k».proof.Proof.Gen.ReferenceIdeal
public import proofs.«01_k».proof.Proof.FwdVal

@[expose] public section

set_option maxRecDepth 16384

noncomputable section

namespace Cert.ReferenceIdeal.Val

open Cert.ReferenceIdeal Cert.ReferenceIdeal.Gen
open Idealize.ShloMosaic Idealize.ShloMosaic.TcCoe
open Cert.Vit

/-- The arg-max body: the pair with the greater value, at equal values the one with the lesser place. -/
theorem red_eq (a b : EReal × BitVec 32) : reducer_argmax_f32_i32 (F := Ideal) a b =
    if b.1 < a.1 ∨ (a.1 = b.1 ∧ a.2.toInt < b.2.toInt) then a else b := by
  obtain ⟨a1, a2⟩ := a
  obtain ⟨b1, b2⟩ := b
  unfold reducer_argmax_f32_i32
  simp only [Ideal.cmpf_def, Ideal.cmp, WordCmp.cmpi_slt_eq]
  by_cases h1 : b1 < a1
  · have hne : a1 ≠ b1 := ne_of_gt h1
    simp [h1, hne, Scalar.select, IntOp.ori, IntOp.andi]
  · by_cases h2 : a1 = b1
    · subst h2
      by_cases h3 : a2.toInt < b2.toInt
      · simp [h3, Scalar.select, IntOp.ori, IntOp.andi]
      · simp [h3, Scalar.select, IntOp.ori, IntOp.andi]
    · simp [h1, h2, Scalar.select, IntOp.ori, IntOp.andi]

theorem red_or (a b : EReal × BitVec 32) : reducer_argmax_f32_i32 (F := Ideal) a b = a ∨ reducer_argmax_f32_i32 (F := Ideal) a b = b := by
  rw [red_eq]
  split
  · exact .inl rfl
  · exact .inr rfl
theorem red_l (a b : EReal × BitVec 32) : a.1 < (reducer_argmax_f32_i32 (F := Ideal) a b).1 ∨
    (a.1 = (reducer_argmax_f32_i32 (F := Ideal) a b).1 ∧ (reducer_argmax_f32_i32 (F := Ideal) a b).2.toInt ≤ a.2.toInt) := by
  rw [red_eq]
  split
  · exact .inr ⟨rfl, le_rfl⟩
  · rename_i h
    rw [not_or] at h
    rcases lt_or_eq_of_le (not_lt.mp h.1) with h' | h'
    · exact .inl h'
    · exact .inr ⟨h', not_lt.mp fun hh => h.2 ⟨h', hh⟩⟩
theorem red_r (a b : EReal × BitVec 32) : b.1 < (reducer_argmax_f32_i32 (F := Ideal) a b).1 ∨
    (b.1 = (reducer_argmax_f32_i32 (F := Ideal) a b).1 ∧ (reducer_argmax_f32_i32 (F := Ideal) a b).2.toInt ≤ b.2.toInt) := by
  rw [red_eq]
  split
  · rename_i h
    rcases h with h | ⟨h, h'⟩
    · exact .inl h
    · exact .inr ⟨h.symm, h'.le⟩
  · exact .inr ⟨rfl, le_rfl⟩

/-- The arg-max reduction at an index whose fiber sixty-four places name. -/
theorem arg_fm {s t : Shape} {axes : List (Fin s.rank)} (x : FVec Ideal s .f32) (y : s.Idx → BitVec 32) (h : s.ReducesTo axes t) (j : t.Idx)
    (e : Fin 64 → s.Idx) (he : ∀ i, h.drop i = j ↔ ∃ k, i = e k) (hy : ∀ k, y (e k) = BitVec.ofNat 32 k.val) :
    (Host.argReduce (reducer_argmax_f32_i32 (F := Ideal)) x y (constant S_ .f32 0xFF800000#32) (constantI S_ 32 0#32) h h_S_ j).2
      = BitVec.ofNat 32 (fm fun k => x (e k)).val := by
  rw [Ideal.argReduce_eq_reduce2, Host.reduce2_eq_foldl_fiber]
  have h0 : (constant (F := Ideal) S_ .f32 0xFF800000#32 (Shape.Idx.first h_S_), constantI S_ 32 0#32 (Shape.Idx.first h_S_)) = ((⊥ : EReal), 0#32) :=
    Prod.ext Cert.KernelIdeal.Fwd.ofBits_ninf rfl
  rw [h0]
  refine foldl_fm _ red_or red_l red_r _ _ fun p => ?_
  unfold Host.argReduceFiber
  simp only [List.mem_map, List.mem_filter, List.mem_finRange, true_and, decide_eq_true_eq]
  constructor
  · rintro ⟨n, hn, rfl⟩
    obtain ⟨k, hk⟩ := (he _).mp hn
    exact ⟨k, by rw [hk, hy]⟩
  · rintro ⟨k, rfl⟩
    exact ⟨s.rowMajor (e k), by rw [Equiv.symm_apply_apply]; exact (he _).mpr ⟨k, rfl⟩, by rw [Equiv.symm_apply_apply, hy]⟩

/-- The greatest over a fiber that sixty-four places name. -/
theorem red_mx {s t : Shape} {axes : List (Fin s.rank)} (x : FVec Ideal s .f32) (h : s.ReducesTo axes t) (j : t.Idx)
    (e : Fin 64 → s.Idx) (hi : Function.Injective e) (he : ∀ i, h.drop i = j ↔ ∃ k, i = e k) :
    Host.reduce (FloatOps.maximumf (F := Ideal) (φ := .f32)) x (constant S_ .f32 0xFF800000#32) h h_S_ j = mx fun k => x (e k) := by
  rw [Host.reduce_eq_fold]
  refine (fold_places _ e hi (fun i => (he i).trans ⟨fun ⟨k, hk⟩ => ⟨k, hk.symm⟩, fun ⟨k, hk⟩ => ⟨k, hk.symm⟩⟩) _ _ _).trans ?_
  show Finset.univ.fold max (Ideal.ofBits .f32 0xFF800000#32) _ = _
  rw [Cert.KernelIdeal.Fwd.ofBits_ninf]
  rfl

theorem fib3 (h : S16x64x64.ReducesTo [2] S16x64) (b : Fin 16) (k : Fin 64) (i : S16x64x64.Idx) : h.drop i = ix2 b k ↔ ∃ j : Fin 64, i = ix3 b k j := by
  have h0 : (h.drop i 0 : ℕ) = i 0 := Shape.ReducesTo.drop_apply_val_of_eq h i 0 0 (by decide) (by decide)
  have h1 : (h.drop i 1 : ℕ) = i 1 := Shape.ReducesTo.drop_apply_val_of_eq h i 1 1 (by decide) (by decide)
  constructor
  · intro e
    rw [e] at h0 h1
    refine ⟨i 2, funext fun a => ?_⟩
    fin_cases a
    · exact Fin.ext h0.symm
    · exact Fin.ext h1.symm
    · rfl
  · rintro ⟨j, rfl⟩
    refine funext fun a => ?_
    fin_cases a
    · exact Fin.ext h0
    · exact Fin.ext h1
theorem fib2 (h : S16x64.ReducesTo [1] S16) (b : Fin 16) (i : S16x64.Idx) : h.drop i = ix1 b ↔ ∃ j : Fin 64, i = ix2 b j := by
  have h0 : (h.drop i 0 : ℕ) = i 0 := Shape.ReducesTo.drop_apply_val_of_eq h i 0 0 (by decide) (by decide)
  constructor
  · intro e
    rw [e] at h0
    refine ⟨i 1, funext fun a => ?_⟩
    fin_cases a
    · exact Fin.ext h0.symm
    · rfl
  · rintro ⟨j, rfl⟩
    refine funext fun a => ?_
    fin_cases a
    exact Fin.ext h0

theorem arg3 (x : FVec Ideal S16x64x64 .f32) (b : Fin 16) (k : Fin 64) :
    (Host.argReduce (reducer_argmax_f32_i32 (F := Ideal)) x (iotaInDim S16x64x64 32 2) (constant S_ .f32 0xFF800000#32) (constantI S_ 32 0#32) reducesTo_S16x64x64_S16x64_d2 h_S_ (ix2 b k)).2
      = BitVec.ofNat 32 (fm fun j => x (ix3 b k j)).val :=
  arg_fm x _ _ _ (fun j => ix3 b k j) (fib3 _ b k) fun _ => rfl
theorem arg2 (x : FVec Ideal S16x64 .f32) (b : Fin 16) :
    (Host.argReduce (reducer_argmax_f32_i32 (F := Ideal)) x (iotaInDim S16x64 32 1) (constant S_ .f32 0xFF800000#32) (constantI S_ 32 0#32) reducesTo_S16x64_S16_d1 h_S_ (ix1 b)).2
      = BitVec.ofNat 32 (fm fun j => x (ix2 b j)).val :=
  arg_fm x _ _ _ (fun j => ix2 b j) (fib2 _ b) fun _ => rfl
theorem max3 (x : FVec Ideal S16x64x64 .f32) (b : Fin 16) (k : Fin 64) :
    Host.reduce (FloatOps.maximumf (F := Ideal) (φ := .f32)) x (constant S_ .f32 0xFF800000#32) reducesTo_S16x64x64_S16x64_d2 h_S_ (ix2 b k) = mx fun j => x (ix3 b k j) :=
  red_mx x _ _ (fun j => ix3 b k j) (fun _ _ e => congrFun e 2) (fib3 _ b k)
theorem max2 (x : FVec Ideal S16x64 .f32) (b : Fin 16) :
    Host.reduce (FloatOps.maximumf (F := Ideal) (φ := .f32)) x (constant S_ .f32 0xFF800000#32) reducesTo_S16x64_S16_d1 h_S_ (ix1 b) = mx fun j => x (ix2 b j) :=
  red_mx x _ _ (fun j => ix2 b j) (fun _ _ e => congrFun e 1) (fib2 _ b)

/-- The lookup of one tag in each row. -/
theorem look (x : S16x64.Idx → BitVec 32) (idx : IVec S16x1x1 32) (b : Fin 16) (k : Fin 64) (hk : idx (ix3 b 0 0) = BitVec.ofNat 32 k.val) :
    Host.gather gather_S16x64_S16x1x1_S16x1_n_1_0_0_1_2_11 x idx (ix2 b 0) = x (ix2 b k) := by
  unfold Host.gather
  refine congrArg x (funext fun a => Fin.ext ?_)
  have hs : ∀ h, (gather_S16x64_S16x1x1_S16x1_n_1_0_0_1_2_11).siIdx (ix2 (n0 := 16) (n1 := 1) b 0) ⟨0, h⟩ = ix3 (n0 := 16) (n1 := 1) (n2 := 1) b 0 0 := fun h => by
    funext b'
    match b' with
    | ⟨0, _⟩ => rfl
    | ⟨1, _⟩ => rfl
    | ⟨2, _⟩ => rfl
  match a with
  | ⟨0, _⟩ =>
    show GatherDims.start _ _ _ _ + GatherDims.batchCoord _ _ _ + GatherDims.offCoord _ _ _ = b.val
    rw [GatherDims.start_batching _ _ _ _ (show (0 : Fin 2) ∈ _ by decide), GatherDims.offCoord_eq_zero _ _ _ (show (0 : Fin 2) ∉ _ by decide), Nat.zero_add, Nat.add_zero]
    rfl
  | ⟨1, _⟩ =>
    show min (idx ((gather_S16x64_S16x1x1_S16x1_n_1_0_0_1_2_11).siIdx (ix2 b 0) ⟨0, by decide⟩)).toInt.toNat 63 = k.val
    rw [hs, hk]
    clear hs hk
    revert k
    decide

end Cert.ReferenceIdeal.Val

end
-- ==== Proof.RefStep.lean ====
/- One trip of each of the reference's loops at one row, over the extended reals. -/
module

public import proofs.«01_k».proof.Proof.RefVal
public import proofs.«01_k».proof.Proof.RefArg
public import proofs.«01_k».proof.Proof.FwdRow

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo
open Cert.Vit

variable (n : ℕ) (hn : n < 2048) (t : IVec S_ 32) (ht : t = fun _ => BitVec.ofNat 32 n)

include hn ht

theorem st3 (a : Fin 3) : ((![t, constantI S_ 32 0#32, constantI S_ 32 0#32] : Fin 3 → IVec S_ 32) a (Shape.Idx.first h_S_)).toInt = ((![n, 0, 0] : Fin 3 → ℕ) a : ℤ) := by
  subst ht
  fin_cases a
  · exact toInt_ofNat n (by omega)
  · rfl
  · rfl
theorem st2 (a : Fin 2) : ((![t, constantI S_ 32 0#32] : Fin 2 → IVec S_ 32) a (Shape.Idx.first h_S_)).toInt = ((![n, 0] : Fin 2 → ℕ) a : ℤ) := by
  subst ht
  fin_cases a
  · exact toInt_ofNat n (by omega)
  · rfl
theorem st1 (a : Fin 1) : ((![t] : Fin 1 → IVec S_ 32) a (Shape.Idx.first h_S_)).toInt = ((![n] : Fin 1 → ℕ) a : ℤ) := by
  subst ht
  fin_cases a
  exact toInt_ofNat n (by omega)
omit ht in
theorem fit3 : S2048x16x64.Slices ![n, 0, 0] S1x16x64 := by
  refine ⟨rfl, fun a => ?_⟩
  fin_cases a
  · exact Nat.succ_le_of_lt hn
  · exact le_rfl
  · exact le_rfl
omit ht in
theorem fit2 : S2048x16.Slices ![n, 0] S1x16 := by
  refine ⟨rfl, fun a => ?_⟩
  fin_cases a
  · exact Nat.succ_le_of_lt hn
  · exact le_rfl
omit ht in
theorem fit1 : S2048.Slices ![n] S1 := by
  refine ⟨rfl, fun a => ?_⟩
  fin_cases a
  exact Nat.succ_le_of_lt hn

theorem stepNo_eq : stepNo (iotaInDim S2048 32 0) t = fun _ => BitVec.ofNat 32 n := by
  funext i
  unfold stepNo
  rw [WordCmp.dynamicSlice_eq_extract S1 _ _ _ ![n] (fit1 n hn) (st1 n hn t ht)]
  pointwise
theorem slab_apply {α : Type} (x : S2048x16x64.Idx → α) (b : Fin 16) (k : Fin 64) : slab x t (ix2 b k) = x (ix3 ⟨n, hn⟩ b k) := by
  unfold slab
  rw [WordCmp.dynamicSlice_eq_extract S1x16x64 _ _ _ ![n, 0, 0] (fit3 n hn) (st3 n hn t ht)]
  pointwise
theorem upd3 {α : Type} (x : S2048x16x64.Idx → α) (w : S16x64.Idx → α) (r : Fin 2048) (b : Fin 16) (k : Fin 64) :
    Host.dynamicUpdateSlice x (broadcastInDim S1x16x64 ![1, 2] bcast_S16x64_S1x16x64_1_2 w)
      (fun k => ((![t, constantI S_ 32 0#32, constantI S_ 32 0#32] : Fin 3 → IVec S_ 32) k (Shape.Idx.first h_S_)).toInt) updateFits_S2048x16x64_S1x16x64 (ix3 r b k)
      = if r.val = n then w (ix2 b k) else x (ix3 r b k) := by
  rw [WordCmp.dynamicUpdateSlice_eq_update _ _ _ _ ![n, 0, 0] (fit3 n hn) (st3 n hn t ht)]
  pointwise
  by_cases h : r.val = n
  · rw [if_pos h, dif_pos ⟨by omega, by omega⟩]
  · rw [if_neg h, dif_neg (by omega)]
theorem upd2 {α : Type} (x : S2048x16.Idx → α) (w : S16.Idx → α) (r : Fin 2048) (b : Fin 16) :
    Host.dynamicUpdateSlice x (broadcastInDim S1x16 ![1] bcast_S16_S1x16_1 w)
      (fun k => ((![t, constantI S_ 32 0#32] : Fin 2 → IVec S_ 32) k (Shape.Idx.first h_S_)).toInt) updateFits_S2048x16_S1x16 (ix2 r b)
      = if r.val = n then w (ix1 b) else x (ix2 r b) := by
  rw [WordCmp.dynamicUpdateSlice_eq_update _ _ _ _ ![n, 0] (fit2 n hn) (st2 n hn t ht)]
  pointwise
  by_cases h : r.val = n
  · rw [if_pos h, dif_pos ⟨by omega, by omega⟩]
  · rw [if_neg h, dif_neg (by omega)]

omit hn ht in
theorem inRow_apply (l : IVec S16 32) (b : Fin 16) : inRow t l (ix1 b) = IntOp.cmpi .slt (t ix0) (l (ix1 b)) := by
  pointwise [inRow]
omit hn ht in
theorem cand_apply (fv : FVec Ideal S16x64 .f32) (w : FVec Ideal S64x64 .f32) (b : Fin 16) (k j : Fin 64) : cand fv w (ix3 b k j) = fv (ix2 b j) + w (ix2 k j) := by
  pointwise [cand]
omit hn ht in
theorem cbp_apply (s : FVec Ideal S16x64x64 .f32) (b : Fin 16) (k : Fin 64) : cbp s (ix2 b k) = BitVec.ofNat 32 (fm fun j => s (ix3 b k j)).val := Val.arg3 s b k
omit hn ht in
theorem term_apply (fv : FVec Ideal S16x64 .f32) (w : FVec Ideal S64x64 .f32) (b : Fin 16) (k : Fin 64) : term fv w (ix2 b k) = fv (ix2 b k) + w (ix2 63 k) := by
  pointwise [term]
omit hn ht in
theorem lookup_apply (x : IVec S16x64 32) (tag : IVec S16 32) (b : Fin 16) (k : Fin 64) (hk : tag (ix1 b) = BitVec.ofNat 32 k.val) : lookup x tag (ix1 b) = x (ix2 b k) := by
  unfold lookup
  pointwise
  refine Val.look x _ b k ?_
  pointwise
  rw [hk]
  clear hk
  revert k
  decide

/-! ## The two loops' carried values after one trip -/

theorem fv_at (l : IVec S16 32) (fv : FVec Ideal S16x64 .f32) (w : FVec Ideal S64x64 .f32) (x : FVec Ideal S2048x16x64 .f32) (b : Fin 16) (k : Fin 64) :
    select (broadcastInDim S16x64 ![0, 1] bcast_S16x1_S16x64_0_1 (broadcastInDim S16x1 ![0] bcast_S16_S16x1_0 (inRow (stepNo (iotaInDim S2048 32 0) t) l)))
      (addf (Host.reduce FloatOps.maximumf (cand fv w) (constant S_ .f32 0xFF800000#32) reducesTo_S16x64x64_S16x64_d2 h_S_) (slab x t)) fv (ix2 b k)
      = if (n : ℤ) < (l (ix1 b)).toInt then mx (fun j => fv (ix2 b j) + w (ix2 k j)) + x (ix3 ⟨n, hn⟩ b k) else fv (ix2 b k) := by
  have e : (addf (Host.reduce FloatOps.maximumf (cand fv w) (constant S_ .f32 0xFF800000#32) reducesTo_S16x64x64_S16x64_d2 h_S_) (slab x t)) (ix2 b k)
      = mx (fun j => fv (ix2 b j) + w (ix2 k j)) + x (ix3 ⟨n, hn⟩ b k) := by
    refine congr (congrArg HAdd.hAdd ((Val.max3 _ b k).trans ?_)) (slab_apply n hn t ht x b k)
    exact congrArg mx (funext fun j => cand_apply fv w b k j)
  rw [stepNo_eq n hn t ht]
  have e2 : broadcastInDim S16x64 ![0, 1] bcast_S16x1_S16x64_0_1 (broadcastInDim S16x1 ![0] bcast_S16_S16x1_0 (inRow (fun _ => BitVec.ofNat 32 n) l)) (ix2 b k)
      = IntOp.cmpi .slt (BitVec.ofNat 32 n) (l (ix1 b)) := by
    pointwise [inRow_apply]
  refine (congr (congr (congrArg Scalar.select e2) e) rfl).trans ?_
  rw [Cert.KernelIdeal.Fwd.sel_slt, toInt_ofNat n (by omega)]

theorem bp_at (fv : FVec Ideal S16x64 .f32) (w : FVec Ideal S64x64 .f32) (x : IVec S2048x16x64 32) (r : Fin 2048) (b : Fin 16) (k : Fin 64) :
    Host.dynamicUpdateSlice x (broadcastInDim S1x16x64 ![1, 2] bcast_S16x64_S1x16x64_1_2 (cbp (cand fv w)))
      (fun k => ((![t, constantI S_ 32 0#32, constantI S_ 32 0#32] : Fin 3 → IVec S_ 32) k (Shape.Idx.first h_S_)).toInt) updateFits_S2048x16x64_S1x16x64 (ix3 r b k)
      = if r.val = n then BitVec.ofNat 32 (fm fun j => fv (ix2 b j) + w (ix2 k j)).val else x (ix3 r b k) := by
  rw [upd3 n hn t ht, cbp_apply]
  simp only [cand_apply]

theorem sel_at {α : Type} (l : IVec S16 32) (p q : S16.Idx → α) (b : Fin 16) :
    select (inRow (stepNo (iotaInDim S2048 32 0) t) l) p q (ix1 b) = if (n : ℤ) < (l (ix1 b)).toInt then p (ix1 b) else q (ix1 b) := by
  rw [stepNo_eq n hn t ht]
  refine (congrArg (fun z => Scalar.select z (p (ix1 b)) (q (ix1 b))) (inRow_apply _ l b)).trans ?_
  rw [Cert.KernelIdeal.Fwd.sel_slt, toInt_ofNat n (by omega)]

theorem tag_at (l : IVec S16 32) (x : IVec S2048x16x64 32) (tag : IVec S16 32) (b : Fin 16) (k : Fin 64) (hk : tag (ix1 b) = BitVec.ofNat 32 k.val) :
    select (inRow (stepNo (iotaInDim S2048 32 0) t) l) (lookup (slab x t) tag) tag (ix1 b)
      = if (n : ℤ) < (l (ix1 b)).toInt then x (ix3 ⟨n, hn⟩ b k) else tag (ix1 b) := by
  rw [sel_at n hn t ht, lookup_apply _ _ b k hk, slab_apply n hn t ht]

theorem path_at (l : IVec S16 32) (tag : IVec S16 32) (x : IVec S2048x16 32) (r : Fin 2048) (b : Fin 16) :
    Host.dynamicUpdateSlice x (broadcastInDim S1x16 ![1] bcast_S16_S1x16_1
      (select (inRow (stepNo (iotaInDim S2048 32 0) t) l) tag (broadcastInDim S16 ![] bcast_S_S16 (constantI S_ 32 4294967295#32))))
      (fun k => ((![t, constantI S_ 32 0#32] : Fin 2 → IVec S_ 32) k (Shape.Idx.first h_S_)).toInt) updateFits_S2048x16_S1x16 (ix2 r b)
      = if r.val = n then (if (n : ℤ) < (l (ix1 b)).toInt then tag (ix1 b) else 4294967295#32) else x (ix2 r b) := by
  rw [upd2 n hn t ht, sel_at n hn t ht]
  rfl

end Cert.ReferenceIdeal.Run

end
-- ==== Proof.RefLoop.lean ====
/- The reference's two loops over all their trips, and its two results: each row's score and path. -/
module

public import proofs.«01_k».proof.Proof.RefStep

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo
open Cert.ReferenceIdeal.Ops
open Cert.Vit

variable (m : (l : Loc nD τ sig) → Buf (Elt Ideal) l) (c : Dev nD)

abbrev featA : S16x2048x64.Idx → EReal := m ((c : Thread nD τ).loc main_arg0)
abbrev lensA : S16.Idx → BitVec 32 := m ((c : Thread nD τ).loc main_arg1)
abbrev wgtA : S64x64.Idx → EReal := m ((c : Thread nD τ).loc main_arg2)

/-! ## What the loops find and do not write -/

theorem iv01 (k : ℕ) : Scf.iv 0#32 1#32 k = BitVec.ofNat 32 k := by
  unfold Scf.iv
  rw [BitVec.mul_one, BitVec.zero_add]

theorem cA (k : ℕ) (r : Ref sig .tc) (h : r ∉ cond0_W) : after cond0 (A m k c) r = A m k c r :=
  after_of_writes_sub cond0 _ cond0_writes h
theorem cB (k : ℕ) (r : Ref sig .tc) (h : r ∉ cond1_W) : after cond1 (B m k c) r = B m k c r :=
  after_of_writes_sub cond1 _ cond1_writes h

theorem A_feat (k : ℕ) : A m k c main_v9_0 = transpose S2048x16x64 [1, 0, 2] (featA m c) transposes_S16x2048x64_S2048x16x64_1_0_2 :=
  (A_of m c main_v9_0 (by decide) (by decide) k).trans (pre_feat (W0 m c))
theorem A_nos (k : ℕ) : A m k c main_v9_1 = iotaInDim S2048 32 0 := (A_of m c main_v9_1 (by decide) (by decide) k).trans (pre_nos (W0 m c))
theorem A_wgt (k : ℕ) : A m k c main_v9_2 = wgtA m c := (A_of m c main_v9_2 (by decide) (by decide) k).trans (pre_wgt (W0 m c))
theorem A_len (k : ℕ) : A m k c main_v9_3 = lensA m c := (A_of m c main_v9_3 (by decide) (by decide) k).trans (pre_len (W0 m c))
theorem A_no (k : ℕ) : A m k c main_v9_4 = fun _ => BitVec.ofNat 32 k := (ctrA m c k).trans (funext fun _ => iv01 k)
theorem feat_apply (b : Fin 16) (n : ℕ) (hn : n < 2048) (k : Fin 64) :
    transpose S2048x16x64 [1, 0, 2] (featA m c) transposes_S16x2048x64_S2048x16x64_1_0_2 (ix3 ⟨n, hn⟩ b k) = xOf (featA m c) b n k := by
  pointwise
  unfold xOf
  rw [dif_pos hn]

/-! ## The first loop -/

/-- Row `b`'s running scores. -/
abbrev fvR (b : Fin 16) : ℕ → Fin 64 → EReal := fv (xOf (featA m c) b) (lOf (lensA m c) b) (wOf (wgtA m c))

theorem A_fv : ∀ (k : ℕ) (_ : k ≤ 2048) (b : Fin 16) (j : Fin 64), A m k c main_v9_5 (ix2 b j) = fvR m c b k j
  | 0, _, b, j => by
    refine (congrFun (pre_fv (W0 m c)) (ix2 b j)).trans ?_
    pointwise
    exact Cert.KernelIdeal.Fwd.init_sel j
  | k + 1, hk, b, j => by
    have ih := A_fv k (by omega) b
    rw [A_succ, fv_step, cA m c k main_v9_0 (by decide), cA m c k main_v9_1 (by decide), cA m c k main_v9_2 (by decide),
      cA m c k main_v9_3 (by decide), cA m c k main_v9_4 (by decide), cA m c k main_v9_5 (by decide), A_feat, A_nos, A_wgt, A_len]
    refine (fv_at k (by omega) _ (A_no m c k) _ _ _ _ b j).trans ?_
    rw [feat_apply]
    simp only [ih]
    rfl

theorem A_bp : ∀ (k : ℕ) (_ : k ≤ 2048) (r : Fin 2048) (_ : r.val < k) (b : Fin 16) (j : Fin 64),
    A m k c main_v9_6 (ix3 r b j) = BitVec.ofNat 32 (fm fun p => fvR m c b r.val p + wOf (wgtA m c) j p).val
  | 0, _, r, h, _, _ => absurd h (Nat.not_lt_zero _)
  | k + 1, hk, r, h, b, j => by
    rw [A_succ, bp_step, cA m c k main_v9_2 (by decide), cA m c k main_v9_4 (by decide), cA m c k main_v9_5 (by decide),
      cA m c k main_v9_6 (by decide), A_wgt]
    refine (bp_at k (by omega) _ (A_no m c k) _ _ _ r b j).trans ?_
    by_cases e : r.val = k
    · rw [if_pos e, e]
      simp only [A_fv m c k (by omega) b]
      rfl
    · rw [if_neg e]
      exact A_bp k (by omega) r (by omega) b j

/-! ## Between the loops -/

theorem Wm_of (r : Ref sig .tc) (h : r ∉ cond0_W) : Wm m c r = A m nT c r := cA m c nT r h
theorem Wm_arg1 : Wm m c main_arg1 = lensA m c := by
  rw [Wm_of m c _ (by decide), A_of m c main_arg1 (by decide) (by decide)]
  exact after_of_writes_sub pre0 _ pre0_writes (by decide)
theorem Wm_arg2 : Wm m c main_arg2 = wgtA m c := by
  rw [Wm_of m c _ (by decide), A_of m c main_arg2 (by decide) (by decide)]
  exact after_of_writes_sub pre0 _ pre0_writes (by decide)

theorem term_fv (b : Fin 16) (k : Fin 64)  : term (F := Ideal) (Wm m c main_v9_5) (Wm m c main_arg2) (ix2 b k) = fvR m c b 2048 k + wOf (wgtA m c) 63 k := by
  rw [term_apply, Wm_arg2, Wm_of m c main_v9_5 (by decide), A_fv m c 2048 le_rfl b]
  rfl

theorem score_at (b : Fin 16) : Wb m c main_v16 (ix1 b) = score (xOf (featA m c) b) (lOf (lensA m c) b) (wOf (wgtA m c)) := by
  refine (congrFun (mid_score (Wm m c)) (ix1 b)).trans ((Val.max2 _ b).trans ?_)
  exact congrArg mx (funext fun k => term_fv m c b k)

/-- Row `b`'s tag after `s` steps back. -/
abbrev tgR (b : Fin 16) : ℕ → Fin 64 := tg (xOf (featA m c) b) (lOf (lensA m c) b) (wOf (wgtA m c))

theorem B_bp (k : ℕ) : B m k c main_v19_0 = A m nT c main_v9_6 := by
  rw [B_of m c main_v19_0 (by decide) (by decide)]
  exact (mid_bp (Wm m c)).trans (Wm_of m c main_v9_6 (by decide))
theorem B_nos (k : ℕ) : B m k c main_v19_1 = iotaInDim S2048 32 0 := (B_of m c main_v19_1 (by decide) (by decide) k).trans (mid_nos (Wm m c))
theorem B_len (k : ℕ) : B m k c main_v19_2 = lensA m c := by
  rw [B_of m c main_v19_2 (by decide) (by decide)]
  exact (mid_len (Wm m c)).trans (Wm_arg1 m c)
theorem B_no (k : ℕ) : B m k c main_v19_3 = fun _ => BitVec.ofNat 32 k := (ctrB m c k).trans (funext fun _ => iv01 k)
theorem B_back (k : ℕ) (hk : k < 2048) : backNo (B m k c main_v19_3) = fun _ => BitVec.ofNat 32 (2047 - k) := by
  rw [B_no]
  funext _
  show 2048#32 - BitVec.ofNat 32 k - 1#32 = BitVec.ofNat 32 (2047 - k)
  apply BitVec.eq_of_toNat_eq
  simp only [BitVec.toNat_sub, BitVec.toNat_ofNat]
  omega

/-! ## The second loop -/

theorem B_tag : ∀ (k : ℕ) (_ : k ≤ 2048) (b : Fin 16), B m k c main_v19_4 (ix1 b) = BitVec.ofNat 32 (tgR m c b k).val
  | 0, _, b => by
    refine (congrFun (mid_tag (Wm m c)) (ix1 b)).trans ((Val.arg2 _ b).trans ?_)
    exact congrArg (fun s => BitVec.ofNat 32 (fm s).val) (funext fun k => term_fv m c b k)
  | k + 1, hk, b => by
    have ih := B_tag k (by omega) b
    rw [B_succ, tag_step, cB m c k main_v19_0 (by decide), cB m c k main_v19_1 (by decide), cB m c k main_v19_2 (by decide),
      cB m c k main_v19_3 (by decide), cB m c k main_v19_4 (by decide), B_bp, B_nos, B_len]
    refine (tag_at (2047 - k) (by omega) _ (B_back m c k (by omega)) _ _ _ b _ ih).trans ?_
    rw [A_bp m c nT le_rfl _ (show 2047 - k < nT by show 2047 - k < 2048; omega), ih]
    show _ = BitVec.ofNat 32 (if ((2047 - k : ℕ) : ℤ) < (lOf (lensA m c) b).toInt then _ else _ : Fin 64).val
    by_cases h : ((2047 - k : ℕ) : ℤ) < (lOf (lensA m c) b).toInt
    · rw [if_pos h]
      exact if_pos h
    · rw [if_neg h]
      exact if_neg h

theorem B_path : ∀ (k : ℕ) (_ : k ≤ 2048) (r : Fin 2048) (_ : 2048 ≤ r.val + k) (b : Fin 16),
    B m k c main_v19_5 (ix2 r b) = path (xOf (featA m c) b) (lOf (lensA m c) b) (wOf (wgtA m c)) r.val
  | 0, _, r, h, _ => absurd h (by have := r.isLt; omega)
  | k + 1, hk, r, h, b => by
    rw [B_succ, path_step, cB m c k main_v19_1 (by decide), cB m c k main_v19_2 (by decide),
      cB m c k main_v19_3 (by decide), cB m c k main_v19_4 (by decide), cB m c k main_v19_5 (by decide), B_nos, B_len]
    refine (path_at (2047 - k) (by omega) _ (B_back m c k (by omega)) _ _ _ r b).trans ?_
    rw [B_tag m c k (by omega) b]
    by_cases e : r.val = 2047 - k
    · rw [if_pos e, e]
      unfold path
      rw [show 2047 - (2047 - k) = k by omega]
      rfl
    · rw [if_neg e]
      exact B_path k (by omega) r (by omega) b

/-! ## The results -/

theorem Wend_score (b : Fin 16) : Wend m c main_v16 (ix1 b) = score (xOf (featA m c) b) (lOf (lensA m c) b) (wOf (wgtA m c)) := by
  have e : Wend m c main_v16 = Wb m c main_v16 := by
    rw [Wend, after_of_writes_sub post2 _ post2_writes (show main_v16 ∉ post2_W by decide), Wn,
      after_of_writes_sub cond1 _ cond1_writes (show main_v16 ∉ cond1_W by decide), B_of m c main_v16 (by decide) (by decide)]
  rw [e]
  exact score_at m c b
theorem Wend_path (b : Fin 16) (t : Fin 2048) : Wend m c main_v20 (ix2 b t) = path (xOf (featA m c) b) (lOf (lensA m c) b) (wOf (wgtA m c)) t.val := by
  refine (congrFun (post_path (Wn m c)) (ix2 b t)).trans ?_
  pointwise
  refine (congrFun (cB m c nT main_v19_5 (by decide)) (ix2 t b)).trans ?_
  exact B_path m c nT le_rfl t (by show 2048 ≤ t.val + 2048; omega) b

end Cert.ReferenceIdeal.Run

end
-- ==== Proof.Agree.lean ====
/- The kernel and the reference leave the same two results. -/
module

public import proofs.«01_k».proof.Defs
public import proofs.«01_k».proof.Proof.KFrame
public import proofs.«01_k».proof.Proof.KVal
public import proofs.«01_k».proof.Proof.RefLoop

@[expose] public section

set_option maxRecDepth 16384

noncomputable section

namespace Cert.Agree

open Idealize.ShloMosaic Idealize.ShloMosaic.TcCoe Idealize.SL.Sem
open Cert.Vit

instance preFacts : Cert.Pre_lens_negatable.Facts where
  bcast_S_S16 := by decide

/-- Every row's score, and its path, from the three arguments. -/
def scores (A : (⟨3, ![16, 2048, 64]⟩ : Shape).Idx → EReal) (L : (⟨1, ![16]⟩ : Shape).Idx → BitVec 32) (B : (⟨2, ![64, 64]⟩ : Shape).Idx → EReal) :
    (⟨1, ![16]⟩ : Shape).Idx → EReal := fun j => score (xOf A (j 0)) (lOf L (j 0)) (wOf B)
def paths (A : (⟨3, ![16, 2048, 64]⟩ : Shape).Idx → EReal) (L : (⟨1, ![16]⟩ : Shape).Idx → BitVec 32) (B : (⟨2, ![64, 64]⟩ : Shape).Idx → EReal) :
    (⟨2, ![16, 2048]⟩ : Shape).Idx → BitVec 32 := fun j => path (xOf A (j 0)) (lOf L (j 0)) (wOf B) (j 1).val

theorem eta1 (j : (⟨1, ![16]⟩ : Shape).Idx) : j = ix1 (j 0) := by
  funext a
  fin_cases a
  rfl
theorem eta2 (j : (⟨2, ![16, 2048]⟩ : Shape).Idx) : j = ix2 (j 0) (j 1) := by
  funext a
  fin_cases a <;> rfl

/-- A length above the least word is not the least word. -/
theorem ne_of_sgt (x : BitVec 32) (h : IntOp.cmpi .sgt x 2147483648#32 = 1#1) : x ≠ 0x80000000#32 := by
  rintro rfl
  exact absurd h (by decide)

section Kernel

open Cert.KernelIdeal Cert.KernelIdeal.Run

variable (m : (l : Loc nD τ sig) → Buf (Elt Ideal) l)

theorem kernel (ρ : Dev nD → PrngReg) (hl : ∀ c j, Cert.KernelIdeal.Ord.lensA m c j ≠ 0x80000000#32) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v0_0) = scores (featA m c) (Ord.lensA m c) (wgtA m c)
      ∧ r.2.mem ((c.tc : Thread nD τ).loc main_v0_1) = paths (featA m c) (Ord.lensA m c) (wgtA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => (h.1 c).elim fun l hb =>
    ⟨(hb _ (mem_uc main_v0_0 (by decide))).trans (funext fun j => by rw [eta1 j]; exact l.score_eq (hl c) (j 0)),
      (hb _ (mem_uc main_v0_1 (by decide))).trans (funext fun j => by rw [eta2 j]; exact l.path_eq (hl c) (j 0) (j 1)),
      args_of l r.2 hb⟩) (run m ρ)

end Kernel

section Reference

open Cert.ReferenceIdeal Cert.ReferenceIdeal.Run

variable (m : (l : Loc nD τ sig) → Buf (Elt Ideal) l)

theorem reference (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v16) = scores (featA m c) (lensA m c) (wgtA m c)
      ∧ r.2.mem ((c.tc : Thread nD τ).loc main_v20) = paths (featA m c) (lensA m c) (wgtA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c =>
    ⟨(h.1 c main_v16 rfl).trans (funext fun j => by rw [eta1 j]; exact Wend_score m c (j 0)),
      (h.1 c main_v20 rfl).trans (funext fun j => by rw [eta2 j]; exact Wend_path m c (j 0) (j 1)),
      (h.1 c main_arg0 rfl).trans (Wend_arg0 m c), (h.1 c main_arg1 rfl).trans (Wend_arg1 m c), (h.1 c main_arg2 rfl).trans (Wend_arg2 m c)⟩) (run m ρ)

end Reference

theorem algebraic : Cert.algebraic_KernelIdeal_ReferenceIdeal_pre_lens_negatable := by
  intro m g m' g' hpre hag
  have hl : ∀ c j, Cert.KernelIdeal.Ord.lensA m c j ≠ 0x80000000#32 := fun c j => ne_of_sgt _ (congrFun (hpre c) j)
  refine ⟨fun c => scores (Cert.KernelIdeal.Run.featA m c) (Cert.KernelIdeal.Ord.lensA m c) (Cert.KernelIdeal.Run.wgtA m c),
    fun c => paths (Cert.KernelIdeal.Run.featA m c) (Cert.KernelIdeal.Ord.lensA m c) (Cert.KernelIdeal.Run.wgtA m c), kernel m g hl, ?_⟩
  refine (θ_run _ _ _).mono (fun r h c => ?_) (reference m' g')
  obtain ⟨h0, h1, ha⟩ := h c
  obtain ⟨e0, e1, e2⟩ := hag c
  have e0' : Cert.ReferenceIdeal.Run.featA m' c = Cert.KernelIdeal.Run.featA m c := e0
  have e1' : Cert.ReferenceIdeal.Run.lensA m' c = Cert.KernelIdeal.Ord.lensA m c := e1
  have e2' : Cert.ReferenceIdeal.Run.wgtA m' c = Cert.KernelIdeal.Run.wgtA m c := e2
  exact ⟨h0.trans (by rw [e0', e1', e2']), h1.trans (by rw [e0', e1', e2']), ha⟩

end Cert.Agree

end
-- ==== Proof.lean ====
/-
  The certificate: the frames of the kernel (as written and idealized) and of the reference, and the kernel's agreement
  with the reference in both results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Flt.KFrame
public import proofs.«01_k».proof.Proof.KFrame
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Agree.preFacts,
  fun m g _ => Cert.Kernel.Run.frame (F := Bits) m g,
  fun m g _ => Cert.KernelIdeal.Run.frame (F := Ideal) m g,
  fun m g _ => Cert.KernelIdeal.Run.frame (F := Ideal) m g,
  fun m g _ => Cert.ReferenceIdeal.Run.frame (F := Ideal) m g,
  fun m g _ => Cert.ReferenceIdeal.Run.frame (F := Ideal) m g,
  trivial, Cert.Agree.algebraic⟩

end Cert.Proof

end
